-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v187)) (v1 : (c : Dev Cert.Kernel2Ideal.nD) → Buf (Elt Ideal) ((c.tc : Thread Cert.Kernel2Ideal.nD Cert.Kernel2Ideal.τ).loc Cert.Kernel2Ideal.main_v188)) (v2 : (c : Dev Cert.Kernel2Ideal.nD) → Buf (Elt Ideal) ((c.tc : Thread Cert.Kernel2Ideal.nD Cert.Kernel2Ideal.τ).loc Cert.Kernel2Ideal.main_v245)) (v3 : (c : Dev Cert.Kernel2Ideal.nD) → Buf (Elt Ideal) ((c.tc : Thread Cert.Kernel2Ideal.nD Cert.Kernel2Ideal.τ).loc Cert.Kernel2Ideal.main_v88)) (v4 : (c : Dev Cert.Kernel2Ideal.nD) → Buf (Elt Ideal) ((c.tc : Thread Cert.Kernel2Ideal.nD Cert.Kernel2Ideal.τ).loc Cert.Kernel2Ideal.main_v104)) (v5 : (c : Dev Cert.Kernel2Ideal.nD) → Buf (Elt Ideal) ((c.tc : Thread Cert.Kernel2Ideal.nD Cert.Kernel2Ideal.τ).loc Cert.Kernel2Ideal.main_v112)) (v6 : (c : Dev Cert.Kernel2Ideal.nD) → Buf (Elt Ideal) ((c.tc : Thread Cert.Kernel2Ideal.nD Cert.Kernel2Ideal.τ).loc Cert.Kernel2Ideal.main_v94)) (v7 : (c : Dev Cert.Kernel2Ideal.nD) → Buf (Elt Ideal) ((c.tc : Thread Cert.Kernel2Ideal.nD Cert.Kernel2Ideal.τ).loc Cert.Kernel2Ideal.main_v127)) (v8 : (c : Dev Cert.Kernel2Ideal.nD) → Buf (Elt Ideal) ((c.tc : Thread Cert.Kernel2Ideal.nD Cert.Kernel2Ideal.τ).loc Cert.Kernel2Ideal.main_v118)) (v9 : (c : Dev Cert.Kernel2Ideal.nD) → Buf (Elt Ideal) ((c.tc : Thread Cert.Kernel2Ideal.nD Cert.Kernel2Ideal.τ).loc Cert.Kernel2Ideal.main_v37)) (v10 : (c : Dev Cert.Kernel2Ideal.nD) → Buf (Elt Ideal) ((c.tc : Thread Cert.Kernel2Ideal.nD Cert.Kernel2Ideal.τ).loc Cert.Kernel2Ideal.main_v157)) (v11 : (c : Dev Cert.Kernel2Ideal.nD) → Buf (Elt Ideal) ((c.tc : Thread Cert.Kernel2Ideal.nD Cert.Kernel2Ideal.τ).loc Cert.Kernel2Ideal.main_v218)) (v12 : (c : Dev Cert.Kernel2Ideal.nD) → Buf (Elt Ideal) ((c.tc : Thread Cert.Kernel2Ideal.nD Cert.Kernel2Ideal.τ).loc Cert.Kernel2Ideal.main_v247)) (v13 : (c : Dev Cert.Kernel2Ideal.nD) → Buf (Elt Ideal) ((c.tc : Thread Cert.Kernel2Ideal.nD Cert.Kernel2Ideal.τ).loc Cert.Kernel2Ideal.main_v49)) (v14 : (c : Dev Cert.Kernel2Ideal.nD) → Buf (Elt Ideal) ((c.tc : Thread Cert.Kernel2Ideal.nD Cert.Kernel2Ideal.τ).loc Cert.Kernel2Ideal.main_v51)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v187) = v0 c
          ∧ r.2.mem ((c.tc : Thread Cert.Kernel2Ideal.nD Cert.Kernel2Ideal.τ).loc Cert.Kernel2Ideal.main_v188) = v1 c
          ∧ r.2.mem ((c.tc : Thread Cert.Kernel2Ideal.nD Cert.Kernel2Ideal.τ).loc Cert.Kernel2Ideal.main_v245) = v2 c
          ∧ r.2.mem ((c.tc : Thread Cert.Kernel2Ideal.nD Cert.Kernel2Ideal.τ).loc Cert.Kernel2Ideal.main_v88) = v3 c
          ∧ r.2.mem ((c.tc : Thread Cert.Kernel2Ideal.nD Cert.Kernel2Ideal.τ).loc Cert.Kernel2Ideal.main_v104) = v4 c
          ∧ r.2.mem ((c.tc : Thread Cert.Kernel2Ideal.nD Cert.Kernel2Ideal.τ).loc Cert.Kernel2Ideal.main_v112) = v5 c
          ∧ r.2.mem ((c.tc : Thread Cert.Kernel2Ideal.nD Cert.Kernel2Ideal.τ).loc Cert.Kernel2Ideal.main_v94) = v6 c
          ∧ r.2.mem ((c.tc : Thread Cert.Kernel2Ideal.nD Cert.Kernel2Ideal.τ).loc Cert.Kernel2Ideal.main_v127) = v7 c
          ∧ r.2.mem ((c.tc : Thread Cert.Kernel2Ideal.nD Cert.Kernel2Ideal.τ).loc Cert.Kernel2Ideal.main_v118) = v8 c
          ∧ r.2.mem ((c.tc : Thread Cert.Kernel2Ideal.nD Cert.Kernel2Ideal.τ).loc Cert.Kernel2Ideal.main_v37) = v9 c
          ∧ r.2.mem ((c.tc : Thread Cert.Kernel2Ideal.nD Cert.Kernel2Ideal.τ).loc Cert.Kernel2Ideal.main_v157) = v10 c
          ∧ r.2.mem ((c.tc : Thread Cert.Kernel2Ideal.nD Cert.Kernel2Ideal.τ).loc Cert.Kernel2Ideal.main_v218) = v11 c
          ∧ r.2.mem ((c.tc : Thread Cert.Kernel2Ideal.nD Cert.Kernel2Ideal.τ).loc Cert.Kernel2Ideal.main_v247) = v12 c
          ∧ r.2.mem ((c.tc : Thread Cert.Kernel2Ideal.nD Cert.Kernel2Ideal.τ).loc Cert.Kernel2Ideal.main_v49) = v13 c
          ∧ r.2.mem ((c.tc : Thread Cert.Kernel2Ideal.nD Cert.Kernel2Ideal.τ).loc Cert.Kernel2Ideal.main_v51) = v14 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v149) = v0 c
          ∧ r.2.mem ((c.tc : Thread Cert.Reference2Ideal.nD Cert.Reference2Ideal.τ).loc Cert.Reference2Ideal.main_v150) = v1 c
          ∧ r.2.mem ((c.tc : Thread Cert.Reference2Ideal.nD Cert.Reference2Ideal.τ).loc Cert.Reference2Ideal.main_v207) = v2 c
          ∧ r.2.mem ((c.tc : Thread Cert.Reference2Ideal.nD Cert.Reference2Ideal.τ).loc Cert.Reference2Ideal.main_v50) = v3 c
          ∧ r.2.mem ((c.tc : Thread Cert.Reference2Ideal.nD Cert.Reference2Ideal.τ).loc Cert.Reference2Ideal.main_v66) = v4 c
          ∧ r.2.mem ((c.tc : Thread Cert.Reference2Ideal.nD Cert.Reference2Ideal.τ).loc Cert.Reference2Ideal.main_v74) = v5 c
          ∧ r.2.mem ((c.tc : Thread Cert.Reference2Ideal.nD Cert.Reference2Ideal.τ).loc Cert.Reference2Ideal.main_v56) = v6 c
          ∧ r.2.mem ((c.tc : Thread Cert.Reference2Ideal.nD Cert.Reference2Ideal.τ).loc Cert.Reference2Ideal.main_v89) = v7 c
          ∧ r.2.mem ((c.tc : Thread Cert.Reference2Ideal.nD Cert.Reference2Ideal.τ).loc Cert.Reference2Ideal.main_v80) = v8 c
          ∧ r.2.mem ((c.tc : Thread Cert.Reference2Ideal.nD Cert.Reference2Ideal.τ).loc Cert.Reference2Ideal.main_v8) = v9 c
          ∧ r.2.mem ((c.tc : Thread Cert.Reference2Ideal.nD Cert.Reference2Ideal.τ).loc Cert.Reference2Ideal.main_v119) = v10 c
          ∧ r.2.mem ((c.tc : Thread Cert.Reference2Ideal.nD Cert.Reference2Ideal.τ).loc Cert.Reference2Ideal.main_v180) = v11 c
          ∧ r.2.mem ((c.tc : Thread Cert.Reference2Ideal.nD Cert.Reference2Ideal.τ).loc Cert.Reference2Ideal.main_v209) = v12 c
          ∧ r.2.mem ((c.tc : Thread Cert.Reference2Ideal.nD Cert.Reference2Ideal.τ).loc Cert.Reference2Ideal.main_v17) = v13 c
          ∧ r.2.mem ((c.tc : Thread Cert.Reference2Ideal.nD Cert.Reference2Ideal.τ).loc Cert.Reference2Ideal.main_v18) = v14 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v189)) (v1 : (c : Dev Cert.Kernel3Ideal.nD) → Buf (Elt Ideal) ((c.tc : Thread Cert.Kernel3Ideal.nD Cert.Kernel3Ideal.τ).loc Cert.Kernel3Ideal.main_v190)) (v2 : (c : Dev Cert.Kernel3Ideal.nD) → Buf (Elt Ideal) ((c.tc : Thread Cert.Kernel3Ideal.nD Cert.Kernel3Ideal.τ).loc Cert.Kernel3Ideal.main_v251)) (v3 : (c : Dev Cert.Kernel3Ideal.nD) → Buf (Elt Ideal) ((c.tc : Thread Cert.Kernel3Ideal.nD Cert.Kernel3Ideal.τ).loc Cert.Kernel3Ideal.main_v90)) (v4 : (c : Dev Cert.Kernel3Ideal.nD) → Buf (Elt Ideal) ((c.tc : Thread Cert.Kernel3Ideal.nD Cert.Kernel3Ideal.τ).loc Cert.Kernel3Ideal.main_v266_1)) (v5 : (c : Dev Cert.Kernel3Ideal.nD) → Buf (Elt Ideal) ((c.tc : Thread Cert.Kernel3Ideal.nD Cert.Kernel3Ideal.τ).loc Cert.Kernel3Ideal.main_v267)) (v6 : (c : Dev Cert.Kernel3Ideal.nD) → Buf (Elt Ideal) ((c.tc : Thread Cert.Kernel3Ideal.nD Cert.Kernel3Ideal.τ).loc Cert.Kernel3Ideal.main_v39)) (v7 : (c : Dev Cert.Kernel3Ideal.nD) → Buf (Elt Ideal) ((c.tc : Thread Cert.Kernel3Ideal.nD Cert.Kernel3Ideal.τ).loc Cert.Kernel3Ideal.main_v159)) (v8 : (c : Dev Cert.Kernel3Ideal.nD) → Buf (Elt Ideal) ((c.tc : Thread Cert.Kernel3Ideal.nD Cert.Kernel3Ideal.τ).loc Cert.Kernel3Ideal.main_v220)) (v9 : (c : Dev Cert.Kernel3Ideal.nD) → Buf (Elt Ideal) ((c.tc : Thread Cert.Kernel3Ideal.nD Cert.Kernel3Ideal.τ).loc Cert.Kernel3Ideal.main_v253)) (v10 : (c : Dev Cert.Kernel3Ideal.nD) → Buf (Elt Ideal) ((c.tc : Thread Cert.Kernel3Ideal.nD Cert.Kernel3Ideal.τ).loc Cert.Kernel3Ideal.main_v51)) (v11 : (c : Dev Cert.Kernel3Ideal.nD) → Buf (Elt Ideal) ((c.tc : Thread Cert.Kernel3Ideal.nD Cert.Kernel3Ideal.τ).loc Cert.Kernel3Ideal.main_v53)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v189) = v0 c
          ∧ r.2.mem ((c.tc : Thread Cert.Kernel3Ideal.nD Cert.Kernel3Ideal.τ).loc Cert.Kernel3Ideal.main_v190) = v1 c
          ∧ r.2.mem ((c.tc : Thread Cert.Kernel3Ideal.nD Cert.Kernel3Ideal.τ).loc Cert.Kernel3Ideal.main_v251) = v2 c
          ∧ r.2.mem ((c.tc : Thread Cert.Kernel3Ideal.nD Cert.Kernel3Ideal.τ).loc Cert.Kernel3Ideal.main_v90) = v3 c
          ∧ r.2.mem ((c.tc : Thread Cert.Kernel3Ideal.nD Cert.Kernel3Ideal.τ).loc Cert.Kernel3Ideal.main_v266_1) = v4 c
          ∧ r.2.mem ((c.tc : Thread Cert.Kernel3Ideal.nD Cert.Kernel3Ideal.τ).loc Cert.Kernel3Ideal.main_v267) = v5 c
          ∧ r.2.mem ((c.tc : Thread Cert.Kernel3Ideal.nD Cert.Kernel3Ideal.τ).loc Cert.Kernel3Ideal.main_v39) = v6 c
          ∧ r.2.mem ((c.tc : Thread Cert.Kernel3Ideal.nD Cert.Kernel3Ideal.τ).loc Cert.Kernel3Ideal.main_v159) = v7 c
          ∧ r.2.mem ((c.tc : Thread Cert.Kernel3Ideal.nD Cert.Kernel3Ideal.τ).loc Cert.Kernel3Ideal.main_v220) = v8 c
          ∧ r.2.mem ((c.tc : Thread Cert.Kernel3Ideal.nD Cert.Kernel3Ideal.τ).loc Cert.Kernel3Ideal.main_v253) = v9 c
          ∧ r.2.mem ((c.tc : Thread Cert.Kernel3Ideal.nD Cert.Kernel3Ideal.τ).loc Cert.Kernel3Ideal.main_v51) = v10 c
          ∧ r.2.mem ((c.tc : Thread Cert.Kernel3Ideal.nD Cert.Kernel3Ideal.τ).loc Cert.Kernel3Ideal.main_v53) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v151) = v0 c
          ∧ r.2.mem ((c.tc : Thread Cert.Reference3Ideal.nD Cert.Reference3Ideal.τ).loc Cert.Reference3Ideal.main_v152) = v1 c
          ∧ r.2.mem ((c.tc : Thread Cert.Reference3Ideal.nD Cert.Reference3Ideal.τ).loc Cert.Reference3Ideal.main_v213) = v2 c
          ∧ r.2.mem ((c.tc : Thread Cert.Reference3Ideal.nD Cert.Reference3Ideal.τ).loc Cert.Reference3Ideal.main_v52) = v3 c
          ∧ r.2.mem ((c.tc : Thread Cert.Reference3Ideal.nD Cert.Reference3Ideal.τ).loc Cert.Reference3Ideal.main_v335) = v4 c
          ∧ r.2.mem ((c.tc : Thread Cert.Reference3Ideal.nD Cert.Reference3Ideal.τ).loc Cert.Reference3Ideal.main_v343) = v5 c
          ∧ r.2.mem ((c.tc : Thread Cert.Reference3Ideal.nD Cert.Reference3Ideal.τ).loc Cert.Reference3Ideal.main_v10) = v6 c
          ∧ r.2.mem ((c.tc : Thread Cert.Reference3Ideal.nD Cert.Reference3Ideal.τ).loc Cert.Reference3Ideal.main_v121) = v7 c
          ∧ r.2.mem ((c.tc : Thread Cert.Reference3Ideal.nD Cert.Reference3Ideal.τ).loc Cert.Reference3Ideal.main_v182) = v8 c
          ∧ r.2.mem ((c.tc : Thread Cert.Reference3Ideal.nD Cert.Reference3Ideal.τ).loc Cert.Reference3Ideal.main_v215) = v9 c
          ∧ r.2.mem ((c.tc : Thread Cert.Reference3Ideal.nD Cert.Reference3Ideal.τ).loc Cert.Reference3Ideal.main_v19) = v10 c
          ∧ r.2.mem ((c.tc : Thread Cert.Reference3Ideal.nD Cert.Reference3Ideal.τ).loc Cert.Reference3Ideal.main_v20) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v81)) (v1 : (c : Dev Cert.Kernel4Ideal.nD) → Buf (Elt Ideal) ((c.tc : Thread Cert.Kernel4Ideal.nD Cert.Kernel4Ideal.τ).loc Cert.Kernel4Ideal.main_v88)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v81) = v0 c
          ∧ r.2.mem ((c.tc : Thread Cert.Kernel4Ideal.nD Cert.Kernel4Ideal.τ).loc Cert.Kernel4Ideal.main_v88) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v66) = v0 c
          ∧ r.2.mem ((c.tc : Thread Cert.Reference4Ideal.nD Cert.Reference4Ideal.τ).loc Cert.Reference4Ideal.main_v69) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S1x8192x16x128 : Shape := ⟨4, ![1, 8192, 16, 128]⟩
abbrev S1x8192x16 : Shape := ⟨3, ![1, 8192, 16]⟩
abbrev S128x1x16x64x128 : Shape := ⟨5, ![128, 1, 16, 64, 128]⟩
abbrev S1x16x128x128 : Shape := ⟨4, ![1, 16, 128, 128]⟩
abbrev S1x128x64x16x128 : Shape := ⟨5, ![1, 128, 64, 16, 128]⟩
abbrev S128x1x64x16x128 : Shape := ⟨5, ![128, 1, 64, 16, 128]⟩
abbrev S1x128x64x16 : Shape := ⟨4, ![1, 128, 64, 16]⟩
abbrev S128x1x64x16 : Shape := ⟨4, ![128, 1, 64, 16]⟩
abbrev S128x1x16x64 : Shape := ⟨4, ![128, 1, 16, 64]⟩
abbrev S_ : Shape := ⟨0, ![]⟩
abbrev S64x64 : Shape := ⟨2, ![64, 64]⟩
abbrev S128x1x16x64x1 : Shape := ⟨5, ![128, 1, 16, 64, 1]⟩
abbrev S128x1x16x1x64 : Shape := ⟨5, ![128, 1, 16, 1, 64]⟩
abbrev S128x1x16x64x64 : Shape := ⟨5, ![128, 1, 16, 64, 64]⟩
abbrev S128x1x16x1 : Shape := ⟨4, ![128, 1, 16, 1]⟩
abbrev S128x1x16x1x1 : Shape := ⟨5, ![128, 1, 16, 1, 1]⟩
abbrev S128x1x16x1x128 : Shape := ⟨5, ![128, 1, 16, 1, 128]⟩
abbrev S16x128x128 : Shape := ⟨3, ![16, 128, 128]⟩
abbrev S128x16x64x128 : Shape := ⟨4, ![128, 16, 64, 128]⟩
abbrev S128x16x64x64 : Shape := ⟨4, ![128, 16, 64, 64]⟩
abbrev S128x16x1x128 : Shape := ⟨4, ![128, 16, 1, 128]⟩
abbrev S1x16x64x128 : Shape := ⟨4, ![1, 16, 64, 128]⟩
abbrev S1x16x64x64 : Shape := ⟨4, ![1, 16, 64, 64]⟩
abbrev S1x16x1x128 : Shape := ⟨4, ![1, 16, 1, 128]⟩
abbrev S1x128x128 : Shape := ⟨3, ![1, 128, 128]⟩
abbrev S128x128 : Shape := ⟨2, ![128, 128]⟩
abbrev S1x1x64x128 : Shape := ⟨4, ![1, 1, 64, 128]⟩
abbrev S64x128 : Shape := ⟨2, ![64, 128]⟩
abbrev S1x1x64x64 : Shape := ⟨4, ![1, 1, 64, 64]⟩
abbrev S1x1x1x128 : Shape := ⟨4, ![1, 1, 1, 128]⟩
abbrev S1x128 : Shape := ⟨2, ![1, 128]⟩

abbrev nBuf : Space → Nat
  | .hbm => 65
  | .vmem => 16
  | .smem => 0
  | _ => 0

abbrev bufTy : (tb : Table) → Fin (tcTables nBuf tb) → BufTy
  | .hbm, ⟨0, _⟩ => ⟨S1x8192x16x128, .f32⟩
  | .hbm, ⟨1, _⟩ => ⟨S1x8192x16x128, .f32⟩
  | .hbm, ⟨2, _⟩ => ⟨S1x8192x16, .f32⟩
  | .hbm, ⟨3, _⟩ => ⟨S128x1x16x64x128, .f32⟩
  | .hbm, ⟨4, _⟩ => ⟨S128x1x16x64x128, .f32⟩
  | .hbm, ⟨5, _⟩ => ⟨S1x16x128x128, .f32⟩
  | .hbm, ⟨6, _⟩ => ⟨S1x128x64x16x128, .f32⟩
  | .hbm, ⟨7, _⟩ => ⟨S128x1x64x16x128, .f32⟩
  | .hbm, ⟨8, _⟩ => ⟨S128x1x16x64x128, .f32⟩
  | .hbm, ⟨9, _⟩ => ⟨S1x128x64x16x128, .f32⟩
  | .hbm, ⟨10, _⟩ => ⟨S128x1x64x16x128, .f32⟩
  | .hbm, ⟨11, _⟩ => ⟨S128x1x16x64x128, .f32⟩
  | .hbm, ⟨12, _⟩ => ⟨S1x128x64x16, .f32⟩
  | .hbm, ⟨13, _⟩ => ⟨S128x1x64x16, .f32⟩
  | .hbm, ⟨14, _⟩ => ⟨S128x1x16x64, .f32⟩
  | .hbm, ⟨15, _⟩ => ⟨S_, .f32⟩
  | .hbm, ⟨16, _⟩ => ⟨S_, .f32⟩
  | .hbm, ⟨17, _⟩ => ⟨S128x1x16x64, .f32⟩
  | .hbm, ⟨18, _⟩ => ⟨S_, .i1⟩
  | .hbm, ⟨19, _⟩ => ⟨S64x64, .i1⟩
  | .hbm, ⟨20, _⟩ => ⟨S64x64, .i32⟩
  | .hbm, ⟨21, _⟩ => ⟨S_, .i32⟩
  | .hbm, ⟨22, _⟩ => ⟨S64x64, .i32⟩
  | .hbm, ⟨23, _⟩ => ⟨S64x64, .i32⟩
  | .hbm, ⟨24, _⟩ => ⟨S64x64, .i32⟩
  | .hbm, ⟨25, _⟩ => ⟨S64x64, .i1⟩
  | .hbm, ⟨26, _⟩ => ⟨S_, .i1⟩
  | .hbm, ⟨27, _⟩ => ⟨S64x64, .i1⟩
  | .hbm, ⟨28, _⟩ => ⟨S64x64, .i1⟩
  | .hbm, ⟨29, _⟩ => ⟨S128x1x16x64x1, .f32⟩
  | .hbm, ⟨30, _⟩ => ⟨S128x1x16x1x64, .f32⟩
  | .hbm, ⟨31, _⟩ => ⟨S128x1x16x64x64, .f32⟩
  | .hbm, ⟨32, _⟩ => ⟨S128x1x16x64x64, .f32⟩
  | .hbm, ⟨33, _⟩ => ⟨S128x1x16x64x64, .f32⟩
  | .hbm, ⟨34, _⟩ => ⟨S_, .f32⟩
  | .hbm, ⟨35, _⟩ => ⟨S_, .f32⟩
  | .hbm, ⟨36, _⟩ => ⟨S128x1x16x64x64, .i1⟩
  | .hbm, ⟨37, _⟩ => ⟨S128x1x16x64x64, .f32⟩
  | .hbm, ⟨38, _⟩ => ⟨S128x1x16x64x64, .f32⟩
  | .hbm, ⟨39, _⟩ => ⟨S128x1x16x64x64, .f32⟩
  | .hbm, ⟨40, _⟩ => ⟨S128x1x16x64x64, .f32⟩
  | .hbm, ⟨41, _⟩ => ⟨S128x1x16x64x64, .f32⟩
  | .hbm, ⟨42, _⟩ => ⟨S128x1x16x1, .f32⟩
  | .hbm, ⟨43, _⟩ => ⟨S128x1x16x64, .f32⟩
  | .hbm, ⟨44, _⟩ => ⟨S128x1x16x64x1, .f32⟩
  | .hbm, ⟨45, _⟩ => ⟨S128x1x16x64x128, .f32⟩
  | .hbm, ⟨46, _⟩ => ⟨S128x1x16x64x128, .f32⟩
  | .hbm, ⟨47, _⟩ => ⟨S128x1x16x64, .f32⟩
  | .hbm, ⟨48, _⟩ => ⟨S128x1x16x64, .f32⟩
  | .hbm, ⟨49, _⟩ => ⟨S128x1x16x64, .f32⟩
  | .hbm, ⟨50, _⟩ => ⟨S128x1x16x64x1, .f32⟩
  | .hbm, ⟨51, _⟩ => ⟨S128x1x16x64x128, .f32⟩
  | .hbm, ⟨52, _⟩ => ⟨S128x1x16x64x128, .f32⟩
  | .hbm, ⟨53, _⟩ => ⟨S128x1x16x1, .f32⟩
  | .hbm, ⟨54, _⟩ => ⟨S128x1x16x1x1, .f32⟩
  | .hbm, ⟨55, _⟩ => ⟨S128x1x16x1x128, .f32⟩
  | .hbm, ⟨56, _⟩ => ⟨S16x128x128, .f32⟩
  | .hbm, ⟨57, _⟩ => ⟨S128x16x64x128, .f32⟩
  | .hbm, ⟨58, _⟩ => ⟨S128x16x64x128, .f32⟩
  | .hbm, ⟨59, _⟩ => ⟨S128x16x64x128, .f32⟩
  | .hbm, ⟨60, _⟩ => ⟨S128x16x64x128, .f32⟩
  | .hbm, ⟨61, _⟩ => ⟨S128x16x64x64, .f32⟩
  | .hbm, ⟨62, _⟩ => ⟨S128x16x1x128, .f32⟩
  | .hbm, ⟨63, _⟩ => ⟨S128x16x64x128, .f32⟩
  | .hbm, ⟨64, _⟩ => ⟨S16x128x128, .f32⟩
  | .local _ .vmem, ⟨0, _⟩ => ⟨S16x128x128, .f32⟩
  | .local _ .vmem, ⟨1, _⟩ => ⟨S1x16x64x128, .f32⟩
  | .local _ .vmem, ⟨2, _⟩ => ⟨S1x16x64x128, .f32⟩
  | .local _ .vmem, ⟨3, _⟩ => ⟨S1x16x64x128, .f32⟩
  | .local _ .vmem, ⟨4, _⟩ => ⟨S1x16x64x128, .f32⟩
  | .local _ .vmem, ⟨5, _⟩ => ⟨S1x16x64x128, .f32⟩
  | .local _ .vmem, ⟨6, _⟩ => ⟨S1x16x64x128, .f32⟩
  | .local _ .vmem, ⟨7, _⟩ => ⟨S1x16x64x128, .f32⟩
  | .local _ .vmem, ⟨8, _⟩ => ⟨S1x16x64x128, .f32⟩
  | .local _ .vmem, ⟨9, _⟩ => ⟨S1x16x64x64, .f32⟩
  | .local _ .vmem, ⟨10, _⟩ => ⟨S1x16x64x64, .f32⟩
  | .local _ .vmem, ⟨11, _⟩ => ⟨S1x16x1x128, .f32⟩
  | .local _ .vmem, ⟨12, _⟩ => ⟨S1x16x1x128, .f32⟩
  | .local _ .vmem, ⟨13, _⟩ => ⟨S1x16x64x128, .f32⟩
  | .local _ .vmem, ⟨14, _⟩ => ⟨S1x16x64x128, .f32⟩
  | .local _ .vmem, ⟨15, _⟩ => ⟨S16x128x128, .f32⟩
  | _, _ => ⟨S1x8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_call0_cst : Ref sig .tc := ⟨.hbm, 15, rfl⟩
abbrev main_call0_call0_v0 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_call1_v0 : Ref sig .tc := ⟨.hbm, 20, rfl⟩
abbrev main_call1_c : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_c_0 : Ref sig .tc := ⟨.hbm, 26, rfl⟩
abbrev main_call1_v5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42_0 : Ref sig .tc := ⟨.hbm, 63, rfl⟩
abbrev main_v42_1 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S16x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S1x8192x16x128 : Shape := ⟨4, ![1, 8192, 16, 128]⟩
abbrev S1x8192x16 : Shape := ⟨3, ![1, 8192, 16]⟩
abbrev S128x1x16x64x128 : Shape := ⟨5, ![128, 1, 16, 64, 128]⟩
abbrev S1x16x128x128 : Shape := ⟨4, ![1, 16, 128, 128]⟩
abbrev S1x128x64x16x128 : Shape := ⟨5, ![1, 128, 64, 16, 128]⟩
abbrev S128x1x64x16x128 : Shape := ⟨5, ![128, 1, 64, 16, 128]⟩
abbrev S1x128x64x16 : Shape := ⟨4, ![1, 128, 64, 16]⟩
abbrev S128x1x64x16 : Shape := ⟨4, ![128, 1, 64, 16]⟩
abbrev S128x1x16x64 : Shape := ⟨4, ![128, 1, 16, 64]⟩
abbrev S_ : Shape := ⟨0, ![]⟩
abbrev S64x64 : Shape := ⟨2, ![64, 64]⟩
abbrev S128x1x16x64x1 : Shape := ⟨5, ![128, 1, 16, 64, 1]⟩
abbrev S128x1x16x1x64 : Shape := ⟨5, ![128, 1, 16, 1, 64]⟩
abbrev S128x1x16x64x64 : Shape := ⟨5, ![128, 1, 16, 64, 64]⟩
abbrev S1x1x16x64x128 : Shape := ⟨5, ![1, 1, 16, 64, 128]⟩
abbrev S1x16x64x128 : Shape := ⟨4, ![1, 16, 64, 128]⟩
abbrev S1x1x16x64 : Shape := ⟨4, ![1, 1, 16, 64]⟩
abbrev S1x16x64 : Shape := ⟨3, ![1, 16, 64]⟩
abbrev S1x1x16x64x64 : Shape := ⟨5, ![1, 1, 16, 64, 64]⟩
abbrev S1x16x64x64 : Shape := ⟨4, ![1, 16, 64, 64]⟩
abbrev S1x16x64x1 : Shape := ⟨4, ![1, 16, 64, 1]⟩
abbrev S1x16x1 : Shape := ⟨3, ![1, 16, 1]⟩
abbrev S1x16x1x1 : Shape := ⟨4, ![1, 16, 1, 1]⟩
abbrev S128x16x64x128 : Shape := ⟨4, ![128, 16, 64, 128]⟩
abbrev S16x128x128 : Shape := ⟨3, ![16, 128, 128]⟩

abbrev nBuf : Space → Nat
  | .hbm => 123
  | .vmem => 0
  | .smem => 0
  | _ => 0

abbrev bufTy : (tb : Table) → Fin (tcTables nBuf tb) → BufTy
  | .hbm, ⟨0, _⟩ => ⟨S1x8192x16x128, .f32⟩
  | .hbm, ⟨1, _⟩ => ⟨S1x8192x16x128, .f32⟩
  | .hbm, ⟨2, _⟩ => ⟨S1x8192x16, .f32⟩
  | .hbm, ⟨3, _⟩ => ⟨S128x1x16x64x128, .f32⟩
  | .hbm, ⟨4, _⟩ => ⟨S128x1x16x64x128, .f32⟩
  | .hbm, ⟨5, _⟩ => ⟨S1x16x128x128, .f32⟩
  | .hbm, ⟨6, _⟩ => ⟨S1x128x64x16x128, .f32⟩
  | .hbm, ⟨7, _⟩ => ⟨S128x1x64x16x128, .f32⟩
  | .hbm, ⟨8, _⟩ => ⟨S128x1x16x64x128, .f32⟩
  | .hbm, ⟨9, _⟩ => ⟨S1x128x64x16x128, .f32⟩
  | .hbm, ⟨10, _⟩ => ⟨S128x1x64x16x128, .f32⟩
  | .hbm, ⟨11, _⟩ => ⟨S128x1x16x64x128, .f32⟩
  | .hbm, ⟨12, _⟩ => ⟨S1x128x64x16, .f32⟩
  | .hbm, ⟨13, _⟩ => ⟨S128x1x64x16, .f32⟩
  | .hbm, ⟨14, _⟩ => ⟨S128x1x16x64, .f32⟩
  | .hbm, ⟨15, _⟩ => ⟨S_, .f32⟩
  | .hbm, ⟨16, _⟩ => ⟨S_, .f32⟩
  | .hbm, ⟨17, _⟩ => ⟨S128x1x16x64, .f32⟩
  | .hbm, ⟨18, _⟩ => ⟨S_, .i1⟩
  | .hbm, ⟨19, _⟩ => ⟨S64x64, .i1⟩
  | .hbm, ⟨20, _⟩ => ⟨S64x64, .i32⟩
  | .hbm, ⟨21, _⟩ => ⟨S_, .i32⟩
  | .hbm, ⟨22, _⟩ => ⟨S64x64, .i32⟩
  | .hbm, ⟨23, _⟩ => ⟨S64x64, .i32⟩
  | .hbm, ⟨24, _⟩ => ⟨S64x64, .i32⟩
  | .hbm, ⟨25, _⟩ => ⟨S64x64, .i1⟩
  | .hbm, ⟨26, _⟩ => ⟨S_, .i1⟩
  | .hbm, ⟨27, _⟩ => ⟨S64x64, .i1⟩
  | .hbm, ⟨28, _⟩ => ⟨S64x64, .i1⟩
  | .hbm, ⟨29, _⟩ => ⟨S128x1x16x64x1, .f32⟩
  | .hbm, ⟨30, _⟩ => ⟨S128x1x16x1x64, .f32⟩
  | .hbm, ⟨31, _⟩ => ⟨S128x1x16x64x64, .f32⟩
  | .hbm, ⟨32, _⟩ => ⟨S128x1x16x64x64, .f32⟩
  | .hbm, ⟨33, _⟩ => ⟨S128x1x16x64x64, .f32⟩
  | .hbm, ⟨34, _⟩ => ⟨S_, .f32⟩
  | .hbm, ⟨35, _⟩ => ⟨S_, .f32⟩
  | .hbm, ⟨36, _⟩ => ⟨S128x1x16x64x64, .i1⟩
  | .hbm, ⟨37, _⟩ => ⟨S128x1x16x64x64, .f32⟩
  | .hbm, ⟨38, _⟩ => ⟨S128x1x16x64x64, .f32⟩
  | .hbm, ⟨39, _⟩ => ⟨S128x1x16x64x64, .f32⟩
  | .hbm, ⟨40, _⟩ => ⟨S128x1x16x64x64, .f32⟩
  | .hbm, ⟨41, _⟩ => ⟨S128x1x16x64x64, .f32⟩
  | .hbm, ⟨42, _⟩ => ⟨S_, .f32⟩
  | .hbm, ⟨43, _⟩ => ⟨S128x1x16x64x128, .f32⟩
  | .hbm, ⟨44, _⟩ => ⟨S_, .i32⟩
  | .hbm, ⟨45, _⟩ => ⟨S128x1x16x64x128, .f32⟩
  | .hbm, ⟨46, _⟩ => ⟨S128x1x16x64x128, .f32⟩
  | .hbm, ⟨47, _⟩ => ⟨S128x1x16x64x128, .f32⟩
  | .hbm, ⟨48, _⟩ => ⟨S128x1x16x64x128, .f32⟩
  | .hbm, ⟨49, _⟩ => ⟨S128x1x16x64, .f32⟩
  | .hbm, ⟨50, _⟩ => ⟨S128x1x16x64x64, .f32⟩
  | .hbm, ⟨51, _⟩ => ⟨S_, .i32⟩
  | .hbm, ⟨52, _⟩ => ⟨S1x16x128x128, .f32⟩
  | .hbm, ⟨53, _⟩ => ⟨S128x1x16x64x128, .f32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x1x16x64x128, .f32⟩
  | .hbm, ⟨61, _⟩ => ⟨S1x16x64x128, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x1x16x64x128, .f32⟩
  | .hbm, ⟨67, _⟩ => ⟨S1x16x64x128, .f32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1x1x16x64x128, .f32⟩
  | .hbm, ⟨73, _⟩ => ⟨S1x16x64x128, .f32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S1x1x16x64x128, .f32⟩
  | .hbm, ⟨79, _⟩ => ⟨S1x16x64x128, .f32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S1x1x16x64, .f32⟩
  | .hbm, ⟨84, _⟩ => ⟨S1x16x64, .f32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S1x1x16x64x64, .f32⟩
  | .hbm, ⟨90, _⟩ => ⟨S1x16x64x64, .f32⟩
  | .hbm, ⟨91, _⟩ => ⟨S1x16x64x128, .f32⟩
  | .hbm, ⟨92, _⟩ => ⟨S1x16x64x128, .f32⟩
  | .hbm, ⟨93, _⟩ => ⟨S1x16x64, .f32⟩
  | .hbm, ⟨94, _⟩ => ⟨S1x16x64x1, .f32⟩
  | .hbm, ⟨95, _⟩ => ⟨S1x16x64x128, .f32⟩
  | .hbm, ⟨96, _⟩ => ⟨S1x16x64x128, .f32⟩
  | .hbm, ⟨97, _⟩ => ⟨S1x16x64x128, .f32⟩
  | .hbm, ⟨98, _⟩ => ⟨S1x16x64x128, .f32⟩
  | .hbm, ⟨99, _⟩ => ⟨S1x16x64x128, .f32⟩
  | .hbm, ⟨100, _⟩ => ⟨S1x16x1, .f32⟩
  | .hbm, ⟨101, _⟩ => ⟨S1x16x1, .f32⟩
  | .hbm, ⟨102, _⟩ => ⟨S1x16x1x1, .f32⟩
  | .hbm, ⟨103, _⟩ => ⟨S1x16x128x128, .f32⟩
  | .hbm, ⟨104, _⟩ => ⟨S1x16x128x128, .f32⟩
  | .hbm, ⟨105, _⟩ => ⟨S1x16x64, .f32⟩
  | .hbm, ⟨106, _⟩ => ⟨S1x16x64, .f32⟩
  | .hbm, ⟨107, _⟩ => ⟨S1x16x64, .f32⟩
  | .hbm, ⟨108, _⟩ => ⟨S1x16x64x1, .f32⟩
  | .hbm, ⟨109, _⟩ => ⟨S1x16x64x128, .f32⟩
  | .hbm, ⟨110, _⟩ => ⟨S1x16x64x128, .f32⟩
  | .hbm, ⟨111, _⟩ => ⟨S1x16x128x128, .f32⟩
  | .hbm, ⟨112, _⟩ => ⟨S1x16x128x128, .f32⟩
  | .hbm, ⟨113, _⟩ => ⟨S1x1x16x64x128, .f32⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S_, .i32⟩
  | .hbm, ⟨118, _⟩ => ⟨S128x1x16x64x128, .f32⟩
  | .hbm, ⟨119, _⟩ => ⟨S_, .i32⟩
  | .hbm, ⟨120, _⟩ => ⟨S_, .i32⟩
  | .hbm, ⟨121, _⟩ => ⟨S128x16x64x128, .f32⟩
  | .hbm, ⟨122, _⟩ => ⟨S16x128x128, .f32⟩
  | _, _ => ⟨S1x8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_call0_cst : Ref sig .tc := ⟨.hbm, 15, rfl⟩
abbrev main_call0_call0_v0 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_call1_v0 : Ref sig .tc := ⟨.hbm, 20, rfl⟩
abbrev main_call1_c : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_c_0 : Ref sig .tc := ⟨.hbm, 26, rfl⟩
abbrev main_call1_v5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_0 : Ref sig .tc := ⟨.hbm, 42, rfl⟩
abbrev main_v21 : Ref sig .tc := ⟨.hbm, 43, rfl⟩
abbrev main_c_1 : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev main_v22_3 : Ref sig .tc := ⟨.hbm, 48, rfl⟩
abbrev main_v22_4 : Ref sig .tc := ⟨.hbm, 49, rfl⟩
abbrev main_v22_5 : Ref sig .tc := ⟨.hbm, 50, rfl⟩
abbrev main_v22_6 : Ref sig .tc := ⟨.hbm, 51, rfl⟩
abbrev main_v22_7 : Ref sig .tc := ⟨.hbm, 52, rfl⟩
abbrev main_v22_8 : Ref sig .tc := ⟨.hbm, 53, rfl⟩
abbrev main_while0c_c_10 : Ref sig .tc := ⟨.hbm, 54, rfl⟩
abbrev main_while0c_v25 : Ref sig .tc := ⟨.hbm, 55, rfl⟩
abbrev main_while0b_call3_c : Ref sig .tc := ⟨.hbm, 56, rfl⟩
abbrev main_while0b_call3_c_0 : Ref sig .tc := ⟨.hbm, 57, rfl⟩
abbrev main_while0b_call3_c_1 : Ref sig .tc := ⟨.hbm, 58, rfl⟩
abbrev main_while0b_call3_c_2 : Ref sig .tc := ⟨.hbm, 59, rfl⟩
abbrev main_while0b_call3_v0 : Ref sig .tc := ⟨.hbm, 60, rfl⟩
abbrev main_while0b_v25 : Ref sig .tc := ⟨.hbm, 61, rfl⟩
abbrev main_while0b_call4_c : Ref sig .tc := ⟨.hbm, 62, rfl⟩
abbrev main_while0b_call4_c_0 : Ref sig .tc := ⟨.hbm, 63, rfl⟩
abbrev main_while0b_call4_c_1 : Ref sig .tc := ⟨.hbm, 64, rfl⟩
abbrev main_while0b_call4_c_2 : Ref sig .tc := ⟨.hbm, 65, rfl⟩
abbrev main_while0b_call4_v0 : Ref sig .tc := ⟨.hbm, 66, rfl⟩
abbrev main_while0b_v26 : Ref sig .tc := ⟨.hbm, 67, rfl⟩
abbrev main_while0b_call5_c : Ref sig .tc := ⟨.hbm, 68, rfl⟩
abbrev main_while0b_call5_c_0 : Ref sig .tc := ⟨.hbm, 69, rfl⟩
abbrev main_while0b_call5_c_1 : Ref sig .tc := ⟨.hbm, 70, rfl⟩
abbrev main_while0b_call5_c_2 : Ref sig .tc := ⟨.hbm, 71, rfl⟩
abbrev main_while0b_call5_v0 : Ref sig .tc := ⟨.hbm, 72, rfl⟩
abbrev main_while0b_v27 : Ref sig .tc := ⟨.hbm, 73, rfl⟩
abbrev main_while0b_call6_c : Ref sig .tc := ⟨.hbm, 74, rfl⟩
abbrev main_while0b_call6_c_0 : Ref sig .tc := ⟨.hbm, 75, rfl⟩
abbrev main_while0b_call6_c_1 : Ref sig .tc := ⟨.hbm, 76, rfl⟩
abbrev main_while0b_call6_c_2 : Ref sig .tc := ⟨.hbm, 77, rfl⟩
abbrev main_while0b_call6_v0 : Ref sig .tc := ⟨.hbm, 78, rfl⟩
abbrev main_while0b_v28 : Ref sig .tc := ⟨.hbm, 79, rfl⟩
abbrev main_while0b_call7_c : Ref sig .tc := ⟨.hbm, 80, rfl⟩
abbrev main_while0b_call7_c_0 : Ref sig .tc := ⟨.hbm, 81, rfl⟩
abbrev main_while0b_call7_c_1 : Ref sig .tc := ⟨.hbm, 82, rfl⟩
abbrev main_while0b_call7_v0 : Ref sig .tc := ⟨.hbm, 83, rfl⟩
abbrev main_while0b_v29 : Ref sig .tc := ⟨.hbm, 84, rfl⟩
abbrev main_while0b_call8_c : Ref sig .tc := ⟨.hbm, 85, rfl⟩
abbrev main_while0b_call8_c_0 : Ref sig .tc := ⟨.hbm, 86, rfl⟩
abbrev main_while0b_call8_c_1 : Ref sig .tc := ⟨.hbm, 87, rfl⟩
abbrev main_while0b_call8_c_2 : Ref sig .tc := ⟨.hbm, 88, rfl⟩
abbrev main_while0b_call8_v0 : Ref sig .tc := ⟨.hbm, 89, rfl⟩
abbrev main_while0b_v30 : Ref sig .tc := ⟨.hbm, 90, rfl⟩
abbrev main_while0b_v31 : Ref sig .tc := ⟨.hbm, 91, rfl⟩
abbrev main_while0b_v32 : Ref sig .tc := ⟨.hbm, 92, rfl⟩
abbrev main_while0b_v33 : Ref sig .tc := ⟨.hbm, 93, rfl⟩
abbrev main_while0b_v34 : Ref sig .tc := ⟨.hbm, 94, rfl⟩
abbrev main_while0b_v35 : Ref sig .tc := ⟨.hbm, 95, rfl⟩
abbrev main_while0b_v36 : Ref sig .tc := ⟨.hbm, 96, rfl⟩
abbrev main_while0b_v37 : Ref sig .tc := ⟨.hbm, 97, rfl⟩
abbrev main_while0b_v38 : Ref sig .tc := ⟨.hbm, 98, rfl⟩
abbrev main_while0b_v39 : Ref sig .tc := ⟨.hbm, 99, rfl⟩
abbrev main_while0b_v40 : Ref sig .tc := ⟨.hbm, 100, rfl⟩
abbrev main_while0b_v41 : Ref sig .tc := ⟨.hbm, 101, rfl⟩
abbrev main_while0b_v42 : Ref sig .tc := ⟨.hbm, 102, rfl⟩
abbrev main_while0b_v43 : Ref sig .tc := ⟨.hbm, 103, rfl⟩
abbrev main_while0b_v44 : Ref sig .tc := ⟨.hbm, 104, rfl⟩
abbrev main_while0b_v45 : Ref sig .tc := ⟨.hbm, 105, rfl⟩
abbrev main_while0b_v46 : Ref sig .tc := ⟨.hbm, 106, rfl⟩
abbrev main_while0b_v47 : Ref sig .tc := ⟨.hbm, 107, rfl⟩
abbrev main_while0b_v48 : Ref sig .tc := ⟨.hbm, 108, rfl⟩
abbrev main_while0b_v49 : Ref sig .tc := ⟨.hbm, 109, rfl⟩
abbrev main_while0b_v50 : Ref sig .tc := ⟨.hbm, 110, rfl⟩
abbrev main_while0b_v51 : Ref sig .tc := ⟨.hbm, 111, rfl⟩
abbrev main_while0b_v52 : Ref sig .tc := ⟨.hbm, 112, rfl⟩
abbrev main_while0b_call9_v0 : Ref sig .tc := ⟨.hbm, 113, rfl⟩
abbrev main_while0b_call9_c : Ref sig .tc := ⟨.hbm, 114, rfl⟩
abbrev main_while0b_call9_c_0 : Ref sig .tc := ⟨.hbm, 115, rfl⟩
abbrev main_while0b_call9_c_1 : Ref sig .tc := ⟨.hbm, 116, rfl⟩
abbrev main_while0b_call9_c_2 : Ref sig .tc := ⟨.hbm, 117, rfl⟩
abbrev main_while0b_v53 : Ref sig .tc := ⟨.hbm, 118, rfl⟩
abbrev main_while0b_c_10 : Ref sig .tc := ⟨.hbm, 119, rfl⟩
abbrev main_while0b_v54 : Ref sig .tc := ⟨.hbm, 120, rfl⟩
abbrev main_v23 : Ref sig .tc := ⟨.hbm, 121, rfl⟩
abbrev main_v24 : Ref sig .tc := ⟨.hbm, 122, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S1x8192x4096 : Shape := ⟨3, ![1, 8192, 4096]⟩
abbrev S1x4096x26816 : Shape := ⟨3, ![1, 4096, 26816]⟩
abbrev S1x4x6144 : Shape := ⟨3, ![1, 4, 6144]⟩
abbrev S1x16 : Shape := ⟨2, ![1, 16]⟩
abbrev S8192 : Shape := ⟨1, ![8192]⟩
abbrev S_ : Shape := ⟨0, ![]⟩
abbrev S1x3x6144 : Shape := ⟨3, ![1, 3, 6144]⟩
abbrev S4096x26816 : Shape := ⟨2, ![4096, 26816]⟩
abbrev S4x6144 : Shape := ⟨2, ![4, 6144]⟩
abbrev S16 : Shape := ⟨1, ![16]⟩
abbrev S4096x6144 : Shape := ⟨2, ![4096, 6144]⟩
abbrev S4096x2048 : Shape := ⟨2, ![4096, 2048]⟩
abbrev S4096x16 : Shape := ⟨2, ![4096, 16]⟩
abbrev S4096x4096 : Shape := ⟨2, ![4096, 4096]⟩
abbrev S4096x32 : Shape := ⟨2, ![4096, 32]⟩
abbrev S4096x128 : Shape := ⟨2, ![4096, 128]⟩
abbrev S4096x64 : Shape := ⟨2, ![4096, 64]⟩
abbrev S8192x4096 : Shape := ⟨2, ![8192, 4096]⟩
abbrev S8192x6144 : Shape := ⟨2, ![8192, 6144]⟩
abbrev S1024x4096 : Shape := ⟨2, ![1024, 4096]⟩
abbrev S4096x1024 : Shape := ⟨2, ![4096, 1024]⟩
abbrev S1024x1024 : Shape := ⟨2, ![1024, 1024]⟩
abbrev S1x8192x6144 : Shape := ⟨3, ![1, 8192, 6144]⟩
abbrev S8192x2048 : Shape := ⟨2, ![8192, 2048]⟩
abbrev S1x8192x2048 : Shape := ⟨3, ![1, 8192, 2048]⟩
abbrev S8192x128 : Shape := ⟨2, ![8192, 128]⟩
abbrev S1024x128 : Shape := ⟨2, ![1024, 128]⟩
abbrev S1x8192x128 : Shape := ⟨3, ![1, 8192, 128]⟩
abbrev S1x8192x16 : Shape := ⟨3, ![1, 8192, 16]⟩
abbrev S1x8192x32 : Shape := ⟨3, ![1, 8192, 32]⟩
abbrev S1x8195x6144 : Shape := ⟨3, ![1, 8195, 6144]⟩
abbrev S1x6144 : Shape := ⟨2, ![1, 6144]⟩
abbrev S6144 : Shape := ⟨1, ![6144]⟩
abbrev S1x1x6144 : Shape := ⟨3, ![1, 1, 6144]⟩
abbrev S1x8192x16x128 : Shape := ⟨4, ![1, 8192, 16, 128]⟩
abbrev S1x8192x16x1 : Shape := ⟨4, ![1, 8192, 16, 1]⟩
abbrev S1x1x16 : Shape := ⟨3, ![1, 1, 16]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x16x64 : Shape := ⟨4, ![1, 8192, 16, 64]⟩
abbrev S1x8192x32x128 : Shape := ⟨4, ![1, 8192, 32, 128]⟩
abbrev S1x8192x32x64 : Shape := ⟨4, ![1, 8192, 32, 64]⟩
abbrev S1x8192x1x128 : Shape := ⟨4, ![1, 8192, 1, 128]⟩

abbrev nBuf : Space → Nat
  | .hbm => 294
  | .vmem => 58
  | .smem => 0
  | _ => 0

abbrev hbmTy0_0 (i : Nat) : BufTy := match i % 128 with
  | 0 => ⟨S1x8192x4096, .f32⟩
  | 1 => ⟨S1x4096x26816, .f32⟩
  | 2 => ⟨S1x4x6144, .f32⟩
  | 3 => ⟨S1x16, .f32⟩
  | 4 => ⟨S1x16, .f32⟩
  | 5 => ⟨S8192, .i32⟩
  | 6 => ⟨S_, .f32⟩
  | 7 => ⟨S1x3x6144, .f32⟩
  | 8 => ⟨S4096x26816, .f32⟩
  | 9 => ⟨S4x6144, .f32⟩
  | 10 => ⟨S16, .f32⟩
  | 11 => ⟨S16, .f32⟩
  | 12 => ⟨S4096x6144, .f32⟩
  | 13 => ⟨S4096x6144, .bf16⟩
  | 14 => ⟨S4096x2048, .f32⟩
  | 15 => ⟨S4096x2048, .bf16⟩
  | 16 => ⟨S4096x16, .f32⟩
  | 17 => ⟨S4096x16, .bf16⟩
  | 18 => ⟨S4096x16, .f32⟩
  | 19 => ⟨S4096x16, .bf16⟩
  | 20 => ⟨S4096x2048, .f32⟩
  | 21 => ⟨S4096x2048, .bf16⟩
  | 22 => ⟨S4096x2048, .f32⟩
  | 23 => ⟨S4096x2048, .bf16⟩
  | 24 => ⟨S4096x2048, .f32⟩
  | 25 => ⟨S4096x2048, .bf16⟩
  | 26 => ⟨S4096x4096, .f32⟩
  | 27 => ⟨S4096x4096, .bf16⟩
  | 28 => ⟨S4096x32, .f32⟩
  | 29 => ⟨S4096x32, .bf16⟩
  | 30 => ⟨S4096x128, .f32⟩
  | 31 => ⟨S4096x128, .bf16⟩
  | 32 => ⟨S4096x4096, .f32⟩
  | 33 => ⟨S4096x4096, .bf16⟩
  | 34 => ⟨S4096x4096, .f32⟩
  | 35 => ⟨S4096x4096, .bf16⟩
  | 36 => ⟨S4096x64, .bf16⟩
  | 37 => ⟨S_, .i32⟩
  | 38 => ⟨S_, .bf16⟩
  | 39 => ⟨S4096x128, .bf16⟩
  | 40 => ⟨S8192x4096, .f32⟩
  | 41 => ⟨S8192x4096, .bf16⟩
  | 42 => ⟨S8192x6144, .f32⟩
  | 43 => ⟨S1x8192x6144, .f32⟩
  | 44 => ⟨S8192x2048, .f32⟩
  | 45 => ⟨S1x8192x2048, .f32⟩
  | 46 => ⟨S8192x2048, .f32⟩
  | 47 => ⟨S1x8192x2048, .f32⟩
  | 48 => ⟨S8192x2048, .f32⟩
  | 49 => ⟨S1x8192x2048, .f32⟩
  | 50 => ⟨S8192x2048, .f32⟩
  | 51 => ⟨S1x8192x2048, .f32⟩
  | 52 => ⟨S8192x4096, .f32⟩
  | 53 => ⟨S1x8192x4096, .f32⟩
  | 54 => ⟨S8192x128, .f32⟩
  | 55 => ⟨S1x8192x128, .f32⟩
  | 56 => ⟨S8192x4096, .f32⟩
  | 57 => ⟨S1x8192x4096, .f32⟩
  | 58 => ⟨S8192x4096, .f32⟩
  | 59 => ⟨S1x8192x4096, .f32⟩
  | 60 => ⟨S8192x128, .f32⟩
  | 61 => ⟨S1x8192x128, .f32⟩
  | 62 => ⟨S1x8192x16, .f32⟩
  | 63 => ⟨S1x8192x16, .f32⟩
  | 64 => ⟨S1x8192x32, .f32⟩
  | 65 => ⟨S1x8195x6144, .f32⟩
  | 66 => ⟨S1x8192x6144, .f32⟩
  | 67 => ⟨S1x6144, .f32⟩
  | 68 => ⟨S6144, .f32⟩
  | 69 => ⟨S1x1x6144, .f32⟩
  | 70 => ⟨S1x8192x6144, .f32⟩
  | 71 => ⟨S1x8192x6144, .f32⟩
  | 72 => ⟨S_, .f32⟩
  | 73 => ⟨S1x8192x6144, .f32⟩
  | 74 => ⟨S1x8192x6144, .f32⟩
  | 75 => ⟨S1x8192x6144, .f32⟩
  | 76 => ⟨S1x6144, .f32⟩
  | 77 => ⟨S6144, .f32⟩
  | 78 => ⟨S1x1x6144, .f32⟩
  | 79 => ⟨S1x8192x6144, .f32⟩
  | 80 => ⟨S1x8192x6144, .f32⟩
  | 81 => ⟨S1x8192x6144, .f32⟩
  | 82 => ⟨S1x8192x6144, .f32⟩
  | 83 => ⟨S1x6144, .f32⟩
  | 84 => ⟨S6144, .f32⟩
  | 85 => ⟨S1x1x6144, .f32⟩
  | 86 => ⟨S1x8192x6144, .f32⟩
  | 87 => ⟨S1x8192x6144, .f32⟩
  | 88 => ⟨S1x8192x6144, .f32⟩
  | 89 => ⟨S1x8192x6144, .f32⟩
  | 90 => ⟨S1x6144, .f32⟩
  | 91 => ⟨S6144, .f32⟩
  | 92 => ⟨S1x1x6144, .f32⟩
  | 93 => ⟨S1x8192x6144, .f32⟩
  | 94 => ⟨S1x8192x6144, .f32⟩
  | 95 => ⟨S1x8192x6144, .f32⟩
  | 96 => ⟨S1x8192x6144, .f32⟩
  | 97 => ⟨S1x8192x6144, .f32⟩
  | 98 => ⟨S_, .f32⟩
  | 99 => ⟨S1x8192x6144, .f32⟩
  | 100 => ⟨S1x8192x6144, .f32⟩
  | 101 => ⟨S_, .f32⟩
  | 102 => ⟨S1x8192x6144, .f32⟩
  | 103 => ⟨S1x8192x6144, .f32⟩
  | 104 => ⟨S1x8192x6144, .f32⟩
  | 105 => ⟨S1x3x6144, .f32⟩
  | 106 => ⟨S1x8192x2048, .f32⟩
  | 107 => ⟨S1x8192x2048, .f32⟩
  | 108 => ⟨S1x8192x2048, .f32⟩
  | 109 => ⟨S1x8192x16x128, .f32⟩
  | 110 => ⟨S1x8192x16x128, .f32⟩
  | 111 => ⟨S1x8192x16x128, .f32⟩
  | 112 => ⟨S1x8192x16x128, .f32⟩
  | 113 => ⟨S_, .f32⟩
  | 114 => ⟨S1x8192x16, .f32⟩
  | 115 => ⟨S1x8192x16x1, .f32⟩
  | 116 => ⟨S_, .f32⟩
  | 117 => ⟨S1x8192x16x1, .f32⟩
  | 118 => ⟨S1x8192x16x1, .f32⟩
  | 119 => ⟨S1x8192x16x1, .f32⟩
  | 120 => ⟨S1x8192x16x128, .f32⟩
  | 121 => ⟨S1x8192x16x128, .f32⟩
  | 122 => ⟨S_, .f32⟩
  | 123 => ⟨S1x8192x16x128, .f32⟩
  | 124 => ⟨S1x8192x16x128, .f32⟩
  | 125 => ⟨S1x8192x16x128, .f32⟩
  | 126 => ⟨S_, .f32⟩
  | 127 => ⟨S1x8192x16, .f32⟩
  | _ => ⟨S1x8192x4096, .f32⟩

abbrev hbmTy0_1 (i : Nat) : BufTy := match i % 128 with
  | 0 => ⟨S1x8192x16x1, .f32⟩
  | 1 => ⟨S_, .f32⟩
  | 2 => ⟨S1x8192x16x1, .f32⟩
  | 3 => ⟨S1x8192x16x1, .f32⟩
  | 4 => ⟨S1x8192x16x1, .f32⟩
  | 5 => ⟨S1x8192x16x128, .f32⟩
  | 6 => ⟨S1x8192x16x128, .f32⟩
  | 7 => ⟨S1x8192x16, .f32⟩
  | 8 => ⟨S1x8192x16, .f32⟩
  | 9 => ⟨S_, .f32⟩
  | 10 => ⟨S1x8192x16, .f32⟩
  | 11 => ⟨S1x8192x16, .f32⟩
  | 12 => ⟨S_, .f32⟩
  | 13 => ⟨S1x8192x16, .f32⟩
  | 14 => ⟨S1x8192x16, .f32⟩
  | 15 => ⟨S16, .f32⟩
  | 16 => ⟨S16, .f32⟩
  | 17 => ⟨S1x1x16, .f32⟩
  | 18 => ⟨S1x8192x16, .f32⟩
  | 19 => ⟨S1x8192x16, .f32⟩
  | 20 => ⟨S_, .f32⟩
  | 21 => ⟨S1x8192x16, .f32⟩
  | 22 => ⟨S1x8192x16, .f32⟩
  | 23 => ⟨S1x8192x16, .f32⟩
  | 24 => ⟨S1x8192x16, .f32⟩
  | 25 => ⟨S1x8192x16, .i1⟩
  | 26 => ⟨S1x8192x16, .f32⟩
  | 27 => ⟨S1x8192x16, .f32⟩
  | 28 => ⟨S1x8192x16, .f32⟩
  | 29 => ⟨S1x8192x16, .f32⟩
  | 30 => ⟨S1x8192x16, .f32⟩
  | 31 => ⟨S1x8192x16, .f32⟩
  | 32 => ⟨S1x8192x16, .f32⟩
  | 33 => ⟨S1x8192x16, .f32⟩
  | 34 => ⟨S1x1x16, .f32⟩
  | 35 => ⟨S1x8192x16, .f32⟩
  | 36 => ⟨S1x8192x16, .f32⟩
  | 37 => ⟨S1x8192x16x128, .f32⟩
  | 38 => ⟨S64, .f32⟩
  | 39 => ⟨S64, .f32⟩
  | 40 => ⟨S_, .f32⟩
  | 41 => ⟨S64, .f32⟩
  | 42 => ⟨S64, .f32⟩
  | 43 => ⟨S_, .f32⟩
  | 44 => ⟨S64, .f32⟩
  | 45 => ⟨S64, .f32⟩
  | 46 => ⟨S8192, .f32⟩
  | 47 => ⟨S8192x1, .f32⟩
  | 48 => ⟨S1x64, .f32⟩
  | 49 => ⟨S8192x64, .f32⟩
  | 50 => ⟨S8192x64, .f32⟩
  | 51 => ⟨S8192x64, .f32⟩
  | 52 => ⟨S8192x64, .f32⟩
  | 53 => ⟨S1x8192x1x64, .f32⟩
  | 54 => ⟨S8192x64, .f32⟩
  | 55 => ⟨S1x8192x1x64, .f32⟩
  | 56 => ⟨S1x8192x16x64, .f32⟩
  | 57 => ⟨S1x8192x16x64, .f32⟩
  | 58 => ⟨S1x8192x16x64, .f32⟩
  | 59 => ⟨S1x8192x16x64, .f32⟩
  | 60 => ⟨S1x8192x16x64, .f32⟩
  | 61 => ⟨S1x8192x16x64, .f32⟩
  | 62 => ⟨S1x8192x16x64, .f32⟩
  | 63 => ⟨S1x8192x16x64, .f32⟩
  | 64 => ⟨S1x8192x16x64, .f32⟩
  | 65 => ⟨S1x8192x16x64, .f32⟩
  | 66 => ⟨S1x8192x16x64, .f32⟩
  | 67 => ⟨S1x8192x16x64, .f32⟩
  | 68 => ⟨S1x8192x16x128, .f32⟩
  | 69 => ⟨S1x8192x16x128, .f32⟩
  | 70 => ⟨S64, .f32⟩
  | 71 => ⟨S64, .f32⟩
  | 72 => ⟨S_, .f32⟩
  | 73 => ⟨S64, .f32⟩
  | 74 => ⟨S64, .f32⟩
  | 75 => ⟨S_, .f32⟩
  | 76 => ⟨S64, .f32⟩
  | 77 => ⟨S64, .f32⟩
  | 78 => ⟨S8192, .f32⟩
  | 79 => ⟨S8192x1, .f32⟩
  | 80 => ⟨S1x64, .f32⟩
  | 81 => ⟨S8192x64, .f32⟩
  | 82 => ⟨S8192x64, .f32⟩
  | 83 => ⟨S8192x64, .f32⟩
  | 84 => ⟨S8192x64, .f32⟩
  | 85 => ⟨S1x8192x1x64, .f32⟩
  | 86 => ⟨S8192x64, .f32⟩
  | 87 => ⟨S1x8192x1x64, .f32⟩
  | 88 => ⟨S1x8192x16x64, .f32⟩
  | 89 => ⟨S1x8192x16x64, .f32⟩
  | 90 => ⟨S1x8192x16x64, .f32⟩
  | 91 => ⟨S1x8192x16x64, .f32⟩
  | 92 => ⟨S1x8192x16x64, .f32⟩
  | 93 => ⟨S1x8192x16x64, .f32⟩
  | 94 => ⟨S1x8192x16x64, .f32⟩
  | 95 => ⟨S1x8192x16x64, .f32⟩
  | 96 => ⟨S1x8192x16x64, .f32⟩
  | 97 => ⟨S1x8192x16x64, .f32⟩
  | 98 => ⟨S1x8192x16x64, .f32⟩
  | 99 => ⟨S1x8192x16x64, .f32⟩
  | 100 => ⟨S1x8192x16x128, .f32⟩
  | 101 => ⟨S1x8192x16x128, .f32⟩
  | 102 => ⟨S1x8192x32x128, .f32⟩
  | 103 => ⟨S64, .f32⟩
  | 104 => ⟨S64, .f32⟩
  | 105 => ⟨S_, .f32⟩
  | 106 => ⟨S64, .f32⟩
  | 107 => ⟨S64, .f32⟩
  | 108 => ⟨S_, .f32⟩
  | 109 => ⟨S64, .f32⟩
  | 110 => ⟨S64, .f32⟩
  | 111 => ⟨S8192, .f32⟩
  | 112 => ⟨S8192x1, .f32⟩
  | 113 => ⟨S1x64, .f32⟩
  | 114 => ⟨S8192x64, .f32⟩
  | 115 => ⟨S8192x64, .f32⟩
  | 116 => ⟨S8192x64, .f32⟩
  | 117 => ⟨S8192x64, .f32⟩
  | 118 => ⟨S1x8192x1x64, .f32⟩
  | 119 => ⟨S8192x64, .f32⟩
  | 120 => ⟨S1x8192x1x64, .f32⟩
  | 121 => ⟨S1x8192x32x64, .f32⟩
  | 122 => ⟨S1x8192x32x64, .f32⟩
  | 123 => ⟨S1x8192x32x64, .f32⟩
  | 124 => ⟨S1x8192x32x64, .f32⟩
  | 125 => ⟨S1x8192x32x64, .f32⟩
  | 126 => ⟨S1x8192x32x64, .f32⟩
  | 127 => ⟨S1x8192x32x64, .f32⟩
  | _ => ⟨S1x8192x4096, .f32⟩

abbrev hbmTy0_2 (i : Nat) : BufTy := match i % 128 with
  | 0 => ⟨S1x8192x32x64, .f32⟩
  | 1 => ⟨S1x8192x32x64, .f32⟩
  | 2 => ⟨S1x8192x32x64, .f32⟩
  | 3 => ⟨S1x8192x32x64, .f32⟩
  | 4 => ⟨S1x8192x32x64, .f32⟩
  | 5 => ⟨S1x8192x32x128, .f32⟩
  | 6 => ⟨S1x8192x1x128, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S8192, .f32⟩
  | 16 => ⟨S8192x1, .f32⟩
  | 17 => ⟨S1x64, .f32⟩
  | 18 => ⟨S8192x64, .f32⟩
  | 19 => ⟨S8192x64, .f32⟩
  | 20 => ⟨S8192x64, .f32⟩
  | 21 => ⟨S8192x64, .f32⟩
  | 22 => ⟨S1x8192x1x64, .f32⟩
  | 23 => ⟨S8192x64, .f32⟩
  | 24 => ⟨S1x8192x1x64, .f32⟩
  | 25 => ⟨S1x8192x1x64, .f32⟩
  | 26 => ⟨S1x8192x1x64, .f32⟩
  | 27 => ⟨S1x8192x1x64, .f32⟩
  | 28 => ⟨S1x8192x1x64, .f32⟩
  | 29 => ⟨S1x8192x1x64, .f32⟩
  | 30 => ⟨S1x8192x1x64, .f32⟩
  | 31 => ⟨S1x8192x1x64, .f32⟩
  | 32 => ⟨S1x8192x1x64, .f32⟩
  | 33 => ⟨S1x8192x1x128, .f32⟩
  | 34 => ⟨S1x8192x128, .f32⟩
  | 35 => ⟨S_, .f32⟩
  | 36 => ⟨S1x8192x32, .f32⟩
  | 37 => ⟨S1x8192x32, .f32⟩
  | _ => ⟨S1x8192x4096, .f32⟩

abbrev hbmTy (i : Nat) : BufTy := match i / 128 with
  | 0 => hbmTy0_0 i
  | 1 => hbmTy0_1 i
  | 2 => hbmTy0_2 i
  | _ => ⟨S1x8192x4096, .f32⟩

abbrev bufTy : (tb : Table) → Fin (tcTables nBuf tb) → BufTy
  | .hbm, ⟨i, _⟩ => hbmTy i
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x4096, .bf16⟩
  | .local _ .vmem, ⟨7, _⟩ => ⟨S1024x4096, .bf16⟩
  | .local _ .vmem, ⟨8, _⟩ => ⟨S4096x1024, .bf16⟩
  | .local _ .vmem, ⟨9, _⟩ => ⟨S4096x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x4096, .bf16⟩
  | .local _ .vmem, ⟨13, _⟩ => ⟨S1024x4096, .bf16⟩
  | .local _ .vmem, ⟨14, _⟩ => ⟨S4096x1024, .bf16⟩
  | .local _ .vmem, ⟨15, _⟩ => ⟨S4096x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x4096, .bf16⟩
  | .local _ .vmem, ⟨19, _⟩ => ⟨S1024x4096, .bf16⟩
  | .local _ .vmem, ⟨20, _⟩ => ⟨S4096x1024, .bf16⟩
  | .local _ .vmem, ⟨21, _⟩ => ⟨S4096x1024, .bf16⟩
  | .local _ .vmem, ⟨22, _⟩ => ⟨S1024x1024, .f32⟩
  | .local _ .vmem, ⟨23, _⟩ => ⟨S1024x1024, .f32⟩
  | .local _ .vmem, ⟨24, _⟩ => ⟨S1024x4096, .bf16⟩
  | .local _ .vmem, ⟨25, _⟩ => ⟨S1024x4096, .bf16⟩
  | .local _ .vmem, ⟨26, _⟩ => ⟨S4096x1024, .bf16⟩
  | .local _ .vmem, ⟨27, _⟩ => ⟨S4096x1024, .bf16⟩
  | .local _ .vmem, ⟨28, _⟩ => ⟨S1024x1024, .f32⟩
  | .local _ .vmem, ⟨29, _⟩ => ⟨S1024x1024, .f32⟩
  | .local _ .vmem, ⟨30, _⟩ => ⟨S1024x4096, .bf16⟩
  | .local _ .vmem, ⟨31, _⟩ => ⟨S1024x4096, .bf16⟩
  | .local _ .vmem, ⟨32, _⟩ => ⟨S4096x1024, .bf16⟩
  | .local _ .vmem, ⟨33, _⟩ => ⟨S4096x1024, .bf16⟩
  | .local _ .vmem, ⟨34, _⟩ => ⟨S1024x1024, .f32⟩
  | .local _ .vmem, ⟨35, _⟩ => ⟨S1024x1024, .f32⟩
  | .local _ .vmem, ⟨36, _⟩ => ⟨S1024x4096, .bf16⟩
  | .local _ .vmem, ⟨37, _⟩ => ⟨S1024x4096, .bf16⟩
  | .local _ .vmem, ⟨38, _⟩ => ⟨S4096x128, .bf16⟩
  | .local _ .vmem, ⟨39, _⟩ => ⟨S1024x128, .f32⟩
  | .local _ .vmem, ⟨40, _⟩ => ⟨S1024x128, .f32⟩
  | .local _ .vmem, ⟨41, _⟩ => ⟨S1024x4096, .bf16⟩
  | .local _ .vmem, ⟨42, _⟩ => ⟨S1024x4096, .bf16⟩
  | .local _ .vmem, ⟨43, _⟩ => ⟨S4096x1024, .bf16⟩
  | .local _ .vmem, ⟨44, _⟩ => ⟨S4096x1024, .bf16⟩
  | .local _ .vmem, ⟨45, _⟩ => ⟨S1024x1024, .f32⟩
  | .local _ .vmem, ⟨46, _⟩ => ⟨S1024x1024, .f32⟩
  | .local _ .vmem, ⟨47, _⟩ => ⟨S1024x4096, .bf16⟩
  | .local _ .vmem, ⟨48, _⟩ => ⟨S1024x4096, .bf16⟩
  | .local _ .vmem, ⟨49, _⟩ => ⟨S4096x1024, .bf16⟩
  | .local _ .vmem, ⟨50, _⟩ => ⟨S4096x1024, .bf16⟩
  | .local _ .vmem, ⟨51, _⟩ => ⟨S1024x1024, .f32⟩
  | .local _ .vmem, ⟨52, _⟩ => ⟨S1024x1024, .f32⟩
  | .local _ .vmem, ⟨53, _⟩ => ⟨S1024x4096, .bf16⟩
  | .local _ .vmem, ⟨54, _⟩ => ⟨S1024x4096, .bf16⟩
  | .local _ .vmem, ⟨55, _⟩ => ⟨S4096x128, .bf16⟩
  | .local _ .vmem, ⟨56, _⟩ => ⟨S1024x128, .f32⟩
  | .local _ .vmem, ⟨57, _⟩ => ⟨S1024x128, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c : Ref sig .tc := ⟨.hbm, 37, rfl⟩
abbrev main_call0_v0 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_0 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_1 : Ref sig .tc := ⟨.hbm, 113, rfl⟩
abbrev main_v96 : Ref sig .tc := ⟨.hbm, 114, rfl⟩
abbrev main_v97 : Ref sig .tc := ⟨.hbm, 115, rfl⟩
abbrev main_cst_2 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_cst_3 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_cst_4 : Ref sig .tc := ⟨.hbm, 126, rfl⟩
abbrev main_v106 : Ref sig .tc := ⟨.hbm, 127, rfl⟩
abbrev main_v107 : Ref sig .tc := ⟨.hbm, 128, rfl⟩
abbrev main_cst_5 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_cst_6 : Ref sig .tc := ⟨.hbm, 137, rfl⟩
abbrev main_v115 : Ref sig .tc := ⟨.hbm, 138, rfl⟩
abbrev main_v116 : Ref sig .tc := ⟨.hbm, 139, rfl⟩
abbrev main_cst_7 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_call2_cst : Ref sig .tc := ⟨.hbm, 148, rfl⟩
abbrev main_call2_v0 : Ref sig .tc := ⟨.hbm, 149, rfl⟩
abbrev main_call2_v1 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_v7 : Ref sig .tc := ⟨.hbm, 156, rfl⟩
abbrev main_call2_v8 : Ref sig .tc := ⟨.hbm, 157, rfl⟩
abbrev main_call2_v9 : Ref sig .tc := ⟨.hbm, 158, rfl⟩
abbrev main_call2_v10 : Ref sig .tc := ⟨.hbm, 159, rfl⟩
abbrev main_call2_v11 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_8 : Ref sig .tc := ⟨.hbm, 168, rfl⟩
abbrev main_v131 : Ref sig .tc := ⟨.hbm, 169, rfl⟩
abbrev main_v132 : Ref sig .tc := ⟨.hbm, 170, rfl⟩
abbrev main_cst_9 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_10 : Ref sig .tc := ⟨.hbm, 200, rfl⟩
abbrev main_v161 : Ref sig .tc := ⟨.hbm, 201, rfl⟩
abbrev main_v162 : Ref sig .tc := ⟨.hbm, 202, rfl⟩
abbrev main_cst_11 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_cst_12 : Ref sig .tc := ⟨.hbm, 233, rfl⟩
abbrev main_v192 : Ref sig .tc := ⟨.hbm, 234, rfl⟩
abbrev main_v193 : Ref sig .tc := ⟨.hbm, 235, rfl⟩
abbrev main_cst_13 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_cst_14 : Ref sig .tc := ⟨.hbm, 265, rfl⟩
abbrev main_v222 : Ref sig .tc := ⟨.hbm, 266, rfl⟩
abbrev main_v223 : Ref sig .tc := ⟨.hbm, 267, rfl⟩
abbrev main_cst_15 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_cst_16 : Ref sig .tc := ⟨.hbm, 291, rfl⟩
abbrev main_v246 : Ref sig .tc := ⟨.hbm, 292, rfl⟩
abbrev main_v247 : Ref sig .tc := ⟨.hbm, 293, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg2_1 : Ref sig .tc := ⟨.vmem, 46, rfl⟩
abbrev cc8_stg0_0 : Ref sig .tc := ⟨.vmem, 47, rfl⟩
abbrev cc8_stg0_1 : Ref sig .tc := ⟨.vmem, 48, rfl⟩
abbrev cc8_stg1_0 : Ref sig .tc := ⟨.vmem, 49, rfl⟩
abbrev cc8_stg1_1 : Ref sig .tc := ⟨.vmem, 50, rfl⟩
abbrev cc8_stg2_0 : Ref sig .tc := ⟨.vmem, 51, rfl⟩
abbrev cc8_stg2_1 : Ref sig .tc := ⟨.vmem, 52, rfl⟩
abbrev cc9_stg0_0 : Ref sig .tc := ⟨.vmem, 53, rfl⟩
abbrev cc9_stg0_1 : Ref sig .tc := ⟨.vmem, 54, rfl⟩
abbrev cc9_stg1_0 : Ref sig .tc := ⟨.vmem, 55, rfl⟩
abbrev cc9_stg2_0 : Ref sig .tc := ⟨.vmem, 56, rfl⟩
abbrev cc9_stg2_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem2_1 : DmaSem sig := 46
abbrev cc8_sem0_0 : DmaSem sig := 47
abbrev cc8_sem0_1 : DmaSem sig := 48
abbrev cc8_sem1_0 : DmaSem sig := 49
abbrev cc8_sem1_1 : DmaSem sig := 50
abbrev cc8_sem2_0 : DmaSem sig := 51
abbrev cc8_sem2_1 : DmaSem sig := 52
abbrev cc9_sem0_0 : DmaSem sig := 53
abbrev cc9_sem0_1 : DmaSem sig := 54
abbrev cc9_sem1_0 : DmaSem sig := 55
abbrev cc9_sem2_0 : DmaSem sig := 56
abbrev cc9_sem2_1 : DmaSem sig := 57

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S4096x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S1024x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![8, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![8, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1024x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S4096x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![8, 1], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S1024x4096 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 1 → Memref sig .tc .vmem S4096x128 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 2 → Memref sig .tc .vmem S1024x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]
-- ==== Reference2Ideal.lean ====
abbrev S1x8192x4096 : Shape := ⟨3, ![1, 8192, 4096]⟩
abbrev S1x4096x26816 : Shape := ⟨3, ![1, 4096, 26816]⟩
abbrev S1x4x6144 : Shape := ⟨3, ![1, 4, 6144]⟩
abbrev S1x16 : Shape := ⟨2, ![1, 16]⟩
abbrev S8192 : Shape := ⟨1, ![8192]⟩
abbrev S_ : Shape := ⟨0, ![]⟩
abbrev S1x3x6144 : Shape := ⟨3, ![1, 3, 6144]⟩
abbrev S4096x26816 : Shape := ⟨2, ![4096, 26816]⟩
abbrev S4x6144 : Shape := ⟨2, ![4, 6144]⟩
abbrev S16 : Shape := ⟨1, ![16]⟩
abbrev S1x8192x26816 : Shape := ⟨3, ![1, 8192, 26816]⟩
abbrev S1x8192x6144 : Shape := ⟨3, ![1, 8192, 6144]⟩
abbrev S1x8192x2048 : Shape := ⟨3, ![1, 8192, 2048]⟩
abbrev S1x8192x16 : Shape := ⟨3, ![1, 8192, 16]⟩
abbrev S1x8192x32 : Shape := ⟨3, ![1, 8192, 32]⟩
abbrev S1x8192x128 : Shape := ⟨3, ![1, 8192, 128]⟩
abbrev S1x8195x6144 : Shape := ⟨3, ![1, 8195, 6144]⟩
abbrev S1x6144 : Shape := ⟨2, ![1, 6144]⟩
abbrev S6144 : Shape := ⟨1, ![6144]⟩
abbrev S1x1x6144 : Shape := ⟨3, ![1, 1, 6144]⟩
abbrev S1x8192x16x128 : Shape := ⟨4, ![1, 8192, 16, 128]⟩
abbrev S1x8192x16x1 : Shape := ⟨4, ![1, 8192, 16, 1]⟩
abbrev S1x1x16 : Shape := ⟨3, ![1, 1, 16]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x16x64 : Shape := ⟨4, ![1, 8192, 16, 64]⟩
abbrev S1x8192x32x128 : Shape := ⟨4, ![1, 8192, 32, 128]⟩
abbrev S1x8192x32x64 : Shape := ⟨4, ![1, 8192, 32, 64]⟩
abbrev S1x8192x1x128 : Shape := ⟨4, ![1, 8192, 1, 128]⟩

abbrev nBuf : Space → Nat
  | .hbm => 254
  | .vmem => 0
  | .smem => 0
  | _ => 0

abbrev hbmTy0_0 (i : Nat) : BufTy := match i % 128 with
  | 0 => ⟨S1x8192x4096, .f32⟩
  | 1 => ⟨S1x4096x26816, .f32⟩
  | 2 => ⟨S1x4x6144, .f32⟩
  | 3 => ⟨S1x16, .f32⟩
  | 4 => ⟨S1x16, .f32⟩
  | 5 => ⟨S8192, .i32⟩
  | 6 => ⟨S_, .f32⟩
  | 7 => ⟨S1x3x6144, .f32⟩
  | 8 => ⟨S4096x26816, .f32⟩
  | 9 => ⟨S4x6144, .f32⟩
  | 10 => ⟨S16, .f32⟩
  | 11 => ⟨S16, .f32⟩
  | 12 => ⟨S1x8192x26816, .f32⟩
  | 13 => ⟨S1x8192x6144, .f32⟩
  | 14 => ⟨S1x8192x2048, .f32⟩
  | 15 => ⟨S1x8192x16, .f32⟩
  | 16 => ⟨S1x8192x16, .f32⟩
  | 17 => ⟨S1x8192x2048, .f32⟩
  | 18 => ⟨S1x8192x2048, .f32⟩
  | 19 => ⟨S1x8192x2048, .f32⟩
  | 20 => ⟨S1x8192x4096, .f32⟩
  | 21 => ⟨S1x8192x32, .f32⟩
  | 22 => ⟨S1x8192x128, .f32⟩
  | 23 => ⟨S1x8192x4096, .f32⟩
  | 24 => ⟨S1x8192x4096, .f32⟩
  | 25 => ⟨S1x8195x6144, .f32⟩
  | 26 => ⟨S1x8192x6144, .f32⟩
  | 27 => ⟨S1x6144, .f32⟩
  | 28 => ⟨S6144, .f32⟩
  | 29 => ⟨S1x1x6144, .f32⟩
  | 30 => ⟨S1x8192x6144, .f32⟩
  | 31 => ⟨S1x8192x6144, .f32⟩
  | 32 => ⟨S_, .f32⟩
  | 33 => ⟨S1x8192x6144, .f32⟩
  | 34 => ⟨S1x8192x6144, .f32⟩
  | 35 => ⟨S1x8192x6144, .f32⟩
  | 36 => ⟨S1x6144, .f32⟩
  | 37 => ⟨S6144, .f32⟩
  | 38 => ⟨S1x1x6144, .f32⟩
  | 39 => ⟨S1x8192x6144, .f32⟩
  | 40 => ⟨S1x8192x6144, .f32⟩
  | 41 => ⟨S1x8192x6144, .f32⟩
  | 42 => ⟨S1x8192x6144, .f32⟩
  | 43 => ⟨S1x6144, .f32⟩
  | 44 => ⟨S6144, .f32⟩
  | 45 => ⟨S1x1x6144, .f32⟩
  | 46 => ⟨S1x8192x6144, .f32⟩
  | 47 => ⟨S1x8192x6144, .f32⟩
  | 48 => ⟨S1x8192x6144, .f32⟩
  | 49 => ⟨S1x8192x6144, .f32⟩
  | 50 => ⟨S1x6144, .f32⟩
  | 51 => ⟨S6144, .f32⟩
  | 52 => ⟨S1x1x6144, .f32⟩
  | 53 => ⟨S1x8192x6144, .f32⟩
  | 54 => ⟨S1x8192x6144, .f32⟩
  | 55 => ⟨S1x8192x6144, .f32⟩
  | 56 => ⟨S1x8192x6144, .f32⟩
  | 57 => ⟨S1x8192x6144, .f32⟩
  | 58 => ⟨S_, .f32⟩
  | 59 => ⟨S1x8192x6144, .f32⟩
  | 60 => ⟨S1x8192x6144, .f32⟩
  | 61 => ⟨S_, .f32⟩
  | 62 => ⟨S1x8192x6144, .f32⟩
  | 63 => ⟨S1x8192x6144, .f32⟩
  | 64 => ⟨S1x8192x6144, .f32⟩
  | 65 => ⟨S1x3x6144, .f32⟩
  | 66 => ⟨S1x8192x2048, .f32⟩
  | 67 => ⟨S1x8192x2048, .f32⟩
  | 68 => ⟨S1x8192x2048, .f32⟩
  | 69 => ⟨S1x8192x16x128, .f32⟩
  | 70 => ⟨S1x8192x16x128, .f32⟩
  | 71 => ⟨S1x8192x16x128, .f32⟩
  | 72 => ⟨S1x8192x16x128, .f32⟩
  | 73 => ⟨S_, .f32⟩
  | 74 => ⟨S1x8192x16, .f32⟩
  | 75 => ⟨S1x8192x16x1, .f32⟩
  | 76 => ⟨S_, .f32⟩
  | 77 => ⟨S1x8192x16x1, .f32⟩
  | 78 => ⟨S1x8192x16x1, .f32⟩
  | 79 => ⟨S1x8192x16x1, .f32⟩
  | 80 => ⟨S1x8192x16x128, .f32⟩
  | 81 => ⟨S1x8192x16x128, .f32⟩
  | 82 => ⟨S_, .f32⟩
  | 83 => ⟨S1x8192x16x128, .f32⟩
  | 84 => ⟨S1x8192x16x128, .f32⟩
  | 85 => ⟨S1x8192x16x128, .f32⟩
  | 86 => ⟨S_, .f32⟩
  | 87 => ⟨S1x8192x16, .f32⟩
  | 88 => ⟨S1x8192x16x1, .f32⟩
  | 89 => ⟨S_, .f32⟩
  | 90 => ⟨S1x8192x16x1, .f32⟩
  | 91 => ⟨S1x8192x16x1, .f32⟩
  | 92 => ⟨S1x8192x16x1, .f32⟩
  | 93 => ⟨S1x8192x16x128, .f32⟩
  | 94 => ⟨S1x8192x16x128, .f32⟩
  | 95 => ⟨S1x8192x16, .f32⟩
  | 96 => ⟨S1x8192x16, .f32⟩
  | 97 => ⟨S_, .f32⟩
  | 98 => ⟨S1x8192x16, .f32⟩
  | 99 => ⟨S1x8192x16, .f32⟩
  | 100 => ⟨S_, .f32⟩
  | 101 => ⟨S1x8192x16, .f32⟩
  | 102 => ⟨S1x8192x16, .f32⟩
  | 103 => ⟨S16, .f32⟩
  | 104 => ⟨S16, .f32⟩
  | 105 => ⟨S1x1x16, .f32⟩
  | 106 => ⟨S1x8192x16, .f32⟩
  | 107 => ⟨S1x8192x16, .f32⟩
  | 108 => ⟨S_, .f32⟩
  | 109 => ⟨S1x8192x16, .f32⟩
  | 110 => ⟨S1x8192x16, .f32⟩
  | 111 => ⟨S1x8192x16, .f32⟩
  | 112 => ⟨S1x8192x16, .f32⟩
  | 113 => ⟨S1x8192x16, .i1⟩
  | 114 => ⟨S1x8192x16, .f32⟩
  | 115 => ⟨S1x8192x16, .f32⟩
  | 116 => ⟨S1x8192x16, .f32⟩
  | 117 => ⟨S1x8192x16, .f32⟩
  | 118 => ⟨S1x8192x16, .f32⟩
  | 119 => ⟨S1x8192x16, .f32⟩
  | 120 => ⟨S1x8192x16, .f32⟩
  | 121 => ⟨S1x8192x16, .f32⟩
  | 122 => ⟨S1x1x16, .f32⟩
  | 123 => ⟨S1x8192x16, .f32⟩
  | 124 => ⟨S1x8192x16, .f32⟩
  | 125 => ⟨S1x8192x16x128, .f32⟩
  | 126 => ⟨S64, .f32⟩
  | 127 => ⟨S64, .f32⟩
  | _ => ⟨S1x8192x4096, .f32⟩

abbrev hbmTy0_1 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S64, .f32⟩
  | 6 => ⟨S8192, .f32⟩
  | 7 => ⟨S8192x1, .f32⟩
  | 8 => ⟨S1x64, .f32⟩
  | 9 => ⟨S8192x64, .f32⟩
  | 10 => ⟨S8192x64, .f32⟩
  | 11 => ⟨S8192x64, .f32⟩
  | 12 => ⟨S8192x64, .f32⟩
  | 13 => ⟨S1x8192x1x64, .f32⟩
  | 14 => ⟨S8192x64, .f32⟩
  | 15 => ⟨S1x8192x1x64, .f32⟩
  | 16 => ⟨S1x8192x16x64, .f32⟩
  | 17 => ⟨S1x8192x16x64, .f32⟩
  | 18 => ⟨S1x8192x16x64, .f32⟩
  | 19 => ⟨S1x8192x16x64, .f32⟩
  | 20 => ⟨S1x8192x16x64, .f32⟩
  | 21 => ⟨S1x8192x16x64, .f32⟩
  | 22 => ⟨S1x8192x16x64, .f32⟩
  | 23 => ⟨S1x8192x16x64, .f32⟩
  | 24 => ⟨S1x8192x16x64, .f32⟩
  | 25 => ⟨S1x8192x16x64, .f32⟩
  | 26 => ⟨S1x8192x16x64, .f32⟩
  | 27 => ⟨S1x8192x16x64, .f32⟩
  | 28 => ⟨S1x8192x16x128, .f32⟩
  | 29 => ⟨S1x8192x16x128, .f32⟩
  | 30 => ⟨S64, .f32⟩
  | 31 => ⟨S64, .f32⟩
  | 32 => ⟨S_, .f32⟩
  | 33 => ⟨S64, .f32⟩
  | 34 => ⟨S64, .f32⟩
  | 35 => ⟨S_, .f32⟩
  | 36 => ⟨S64, .f32⟩
  | 37 => ⟨S64, .f32⟩
  | 38 => ⟨S8192, .f32⟩
  | 39 => ⟨S8192x1, .f32⟩
  | 40 => ⟨S1x64, .f32⟩
  | 41 => ⟨S8192x64, .f32⟩
  | 42 => ⟨S8192x64, .f32⟩
  | 43 => ⟨S8192x64, .f32⟩
  | 44 => ⟨S8192x64, .f32⟩
  | 45 => ⟨S1x8192x1x64, .f32⟩
  | 46 => ⟨S8192x64, .f32⟩
  | 47 => ⟨S1x8192x1x64, .f32⟩
  | 48 => ⟨S1x8192x16x64, .f32⟩
  | 49 => ⟨S1x8192x16x64, .f32⟩
  | 50 => ⟨S1x8192x16x64, .f32⟩
  | 51 => ⟨S1x8192x16x64, .f32⟩
  | 52 => ⟨S1x8192x16x64, .f32⟩
  | 53 => ⟨S1x8192x16x64, .f32⟩
  | 54 => ⟨S1x8192x16x64, .f32⟩
  | 55 => ⟨S1x8192x16x64, .f32⟩
  | 56 => ⟨S1x8192x16x64, .f32⟩
  | 57 => ⟨S1x8192x16x64, .f32⟩
  | 58 => ⟨S1x8192x16x64, .f32⟩
  | 59 => ⟨S1x8192x16x64, .f32⟩
  | 60 => ⟨S1x8192x16x128, .f32⟩
  | 61 => ⟨S1x8192x16x128, .f32⟩
  | 62 => ⟨S1x8192x32x128, .f32⟩
  | 63 => ⟨S64, .f32⟩
  | 64 => ⟨S64, .f32⟩
  | 65 => ⟨S_, .f32⟩
  | 66 => ⟨S64, .f32⟩
  | 67 => ⟨S64, .f32⟩
  | 68 => ⟨S_, .f32⟩
  | 69 => ⟨S64, .f32⟩
  | 70 => ⟨S64, .f32⟩
  | 71 => ⟨S8192, .f32⟩
  | 72 => ⟨S8192x1, .f32⟩
  | 73 => ⟨S1x64, .f32⟩
  | 74 => ⟨S8192x64, .f32⟩
  | 75 => ⟨S8192x64, .f32⟩
  | 76 => ⟨S8192x64, .f32⟩
  | 77 => ⟨S8192x64, .f32⟩
  | 78 => ⟨S1x8192x1x64, .f32⟩
  | 79 => ⟨S8192x64, .f32⟩
  | 80 => ⟨S1x8192x1x64, .f32⟩
  | 81 => ⟨S1x8192x32x64, .f32⟩
  | 82 => ⟨S1x8192x32x64, .f32⟩
  | 83 => ⟨S1x8192x32x64, .f32⟩
  | 84 => ⟨S1x8192x32x64, .f32⟩
  | 85 => ⟨S1x8192x32x64, .f32⟩
  | 86 => ⟨S1x8192x32x64, .f32⟩
  | 87 => ⟨S1x8192x32x64, .f32⟩
  | 88 => ⟨S1x8192x32x64, .f32⟩
  | 89 => ⟨S1x8192x32x64, .f32⟩
  | 90 => ⟨S1x8192x32x64, .f32⟩
  | 91 => ⟨S1x8192x32x64, .f32⟩
  | 92 => ⟨S1x8192x32x64, .f32⟩
  | 93 => ⟨S1x8192x32x128, .f32⟩
  | 94 => ⟨S1x8192x1x128, .f32⟩
  | 95 => ⟨S64, .f32⟩
  | 96 => ⟨S64, .f32⟩
  | 97 => ⟨S_, .f32⟩
  | 98 => ⟨S64, .f32⟩
  | 99 => ⟨S64, .f32⟩
  | 100 => ⟨S_, .f32⟩
  | 101 => ⟨S64, .f32⟩
  | 102 => ⟨S64, .f32⟩
  | 103 => ⟨S8192, .f32⟩
  | 104 => ⟨S8192x1, .f32⟩
  | 105 => ⟨S1x64, .f32⟩
  | 106 => ⟨S8192x64, .f32⟩
  | 107 => ⟨S8192x64, .f32⟩
  | 108 => ⟨S8192x64, .f32⟩
  | 109 => ⟨S8192x64, .f32⟩
  | 110 => ⟨S1x8192x1x64, .f32⟩
  | 111 => ⟨S8192x64, .f32⟩
  | 112 => ⟨S1x8192x1x64, .f32⟩
  | 113 => ⟨S1x8192x1x64, .f32⟩
  | 114 => ⟨S1x8192x1x64, .f32⟩
  | 115 => ⟨S1x8192x1x64, .f32⟩
  | 116 => ⟨S1x8192x1x64, .f32⟩
  | 117 => ⟨S1x8192x1x64, .f32⟩
  | 118 => ⟨S1x8192x1x64, .f32⟩
  | 119 => ⟨S1x8192x1x64, .f32⟩
  | 120 => ⟨S1x8192x1x64, .f32⟩
  | 121 => ⟨S1x8192x1x128, .f32⟩
  | 122 => ⟨S1x8192x128, .f32⟩
  | 123 => ⟨S_, .f32⟩
  | 124 => ⟨S1x8192x32, .f32⟩
  | 125 => ⟨S1x8192x32, .f32⟩
  | _ => ⟨S1x8192x4096, .f32⟩

abbrev hbmTy (i : Nat) : BufTy := match i / 128 with
  | 0 => hbmTy0_0 i
  | 1 => hbmTy0_1 i
  | _ => ⟨S1x8192x4096, .f32⟩

abbrev bufTy : (tb : Table) → Fin (tcTables nBuf tb) → BufTy
  | .hbm, ⟨i, _⟩ => hbmTy i
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_1 : Ref sig .tc := ⟨.hbm, 73, rfl⟩
abbrev main_v58 : Ref sig .tc := ⟨.hbm, 74, rfl⟩
abbrev main_v59 : Ref sig .tc := ⟨.hbm, 75, rfl⟩
abbrev main_cst_2 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_3 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_4 : Ref sig .tc := ⟨.hbm, 86, rfl⟩
abbrev main_v68 : Ref sig .tc := ⟨.hbm, 87, rfl⟩
abbrev main_v69 : Ref sig .tc := ⟨.hbm, 88, rfl⟩
abbrev main_cst_5 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_6 : Ref sig .tc := ⟨.hbm, 97, rfl⟩
abbrev main_v77 : Ref sig .tc := ⟨.hbm, 98, rfl⟩
abbrev main_v78 : Ref sig .tc := ⟨.hbm, 99, rfl⟩
abbrev main_cst_7 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_call1_cst : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_call1_v5 : Ref sig .tc := ⟨.hbm, 114, rfl⟩
abbrev main_call1_v6 : Ref sig .tc := ⟨.hbm, 115, rfl⟩
abbrev main_call1_v7 : Ref sig .tc := ⟨.hbm, 116, rfl⟩
abbrev main_call1_v8 : Ref sig .tc := ⟨.hbm, 117, rfl⟩
abbrev main_call1_v9 : Ref sig .tc := ⟨.hbm, 118, rfl⟩
abbrev main_call1_v10 : Ref sig .tc := ⟨.hbm, 119, rfl⟩
abbrev main_call1_v11 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_8 : Ref sig .tc := ⟨.hbm, 128, rfl⟩
abbrev main_v93 : Ref sig .tc := ⟨.hbm, 129, rfl⟩
abbrev main_v94 : Ref sig .tc := ⟨.hbm, 130, rfl⟩
abbrev main_cst_9 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_10 : Ref sig .tc := ⟨.hbm, 160, rfl⟩
abbrev main_v123 : Ref sig .tc := ⟨.hbm, 161, rfl⟩
abbrev main_v124 : Ref sig .tc := ⟨.hbm, 162, rfl⟩
abbrev main_cst_11 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_cst_12 : Ref sig .tc := ⟨.hbm, 193, rfl⟩
abbrev main_v154 : Ref sig .tc := ⟨.hbm, 194, rfl⟩
abbrev main_v155 : Ref sig .tc := ⟨.hbm, 195, rfl⟩
abbrev main_cst_13 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_cst_14 : Ref sig .tc := ⟨.hbm, 225, rfl⟩
abbrev main_v184 : Ref sig .tc := ⟨.hbm, 226, rfl⟩
abbrev main_v185 : Ref sig .tc := ⟨.hbm, 227, rfl⟩
abbrev main_cst_15 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_cst_16 : Ref sig .tc := ⟨.hbm, 251, rfl⟩
abbrev main_v208 : Ref sig .tc := ⟨.hbm, 252, rfl⟩
abbrev main_v209 : Ref sig .tc := ⟨.hbm, 253, rfl⟩

abbrev nD : Nat := 1
abbrev τ : Topo := Topo.v7x

variable {F : FTy → Type} [FloatOps F]
-- ==== Kernel3.lean ====
abbrev S32x4x4096 : Shape := ⟨3, ![32, 4, 4096]⟩
abbrev S1x32x3x6144 : Shape := ⟨4, ![1, 32, 3, 6144]⟩
abbrev S1x32x16x128x128 : Shape := ⟨5, ![1, 32, 16, 128, 128]⟩
abbrev S1x4096x26816 : Shape := ⟨3, ![1, 4096, 26816]⟩
abbrev S1x4x6144 : Shape := ⟨3, ![1, 4, 6144]⟩
abbrev S1x16 : Shape := ⟨2, ![1, 16]⟩
abbrev S4 : Shape := ⟨1, ![4]⟩
abbrev S_ : Shape := ⟨0, ![]⟩
abbrev S32x3x6144 : Shape := ⟨3, ![32, 3, 6144]⟩
abbrev S4096x26816 : Shape := ⟨2, ![4096, 26816]⟩
abbrev S4x6144 : Shape := ⟨2, ![4, 6144]⟩
abbrev S16 : Shape := ⟨1, ![16]⟩
abbrev S4096x6144 : Shape := ⟨2, ![4096, 6144]⟩
abbrev S4096x2048 : Shape := ⟨2, ![4096, 2048]⟩
abbrev S4096x16 : Shape := ⟨2, ![4096, 16]⟩
abbrev S4096x4096 : Shape := ⟨2, ![4096, 4096]⟩
abbrev S4096x32 : Shape := ⟨2, ![4096, 32]⟩
abbrev S4096x128 : Shape := ⟨2, ![4096, 128]⟩
abbrev S4096x64 : Shape := ⟨2, ![4096, 64]⟩
abbrev S128x4096 : Shape := ⟨2, ![128, 4096]⟩
abbrev S128x6144 : Shape := ⟨2, ![128, 6144]⟩
abbrev S4096x1024 : Shape := ⟨2, ![4096, 1024]⟩
abbrev S128x1024 : Shape := ⟨2, ![128, 1024]⟩
abbrev S32x4x6144 : Shape := ⟨3, ![32, 4, 6144]⟩
abbrev S128x2048 : Shape := ⟨2, ![128, 2048]⟩
abbrev S32x4x2048 : Shape := ⟨3, ![32, 4, 2048]⟩
abbrev S128x128 : Shape := ⟨2, ![128, 128]⟩
abbrev S32x4x128 : Shape := ⟨3, ![32, 4, 128]⟩
abbrev S32x4x16 : Shape := ⟨3, ![32, 4, 16]⟩
abbrev S32x4x32 : Shape := ⟨3, ![32, 4, 32]⟩
abbrev S32x7x6144 : Shape := ⟨3, ![32, 7, 6144]⟩
abbrev S1x6144 : Shape := ⟨2, ![1, 6144]⟩
abbrev S6144 : Shape := ⟨1, ![6144]⟩
abbrev S1x1x6144 : Shape := ⟨3, ![1, 1, 6144]⟩
abbrev S32x4x16x128 : Shape := ⟨4, ![32, 4, 16, 128]⟩
abbrev S32x4x16x1 : Shape := ⟨4, ![32, 4, 16, 1]⟩
abbrev S1x1x16 : Shape := ⟨3, ![1, 1, 16]⟩
abbrev S64 : Shape := ⟨1, ![64]⟩
abbrev S4x1 : Shape := ⟨2, ![4, 1]⟩
abbrev S1x64 : Shape := ⟨2, ![1, 64]⟩
abbrev S4x64 : Shape := ⟨2, ![4, 64]⟩
abbrev S1x4x1x64 : Shape := ⟨4, ![1, 4, 1, 64]⟩
abbrev S32x4x16x64 : Shape := ⟨4, ![32, 4, 16, 64]⟩
abbrev S32x4x32x128 : Shape := ⟨4, ![32, 4, 32, 128]⟩
abbrev S32x4x32x64 : Shape := ⟨4, ![32, 4, 32, 64]⟩
abbrev S32x4x1x128 : Shape := ⟨4, ![32, 4, 1, 128]⟩
abbrev S32x4x1x64 : Shape := ⟨4, ![32, 4, 1, 64]⟩
abbrev S32x16x128x128 : Shape := ⟨4, ![32, 16, 128, 128]⟩
abbrev S32x16x4 : Shape := ⟨3, ![32, 16, 4]⟩
abbrev S32x16x4x1 : Shape := ⟨4, ![32, 16, 4, 1]⟩
abbrev S32x16x4x128 : Shape := ⟨4, ![32, 16, 4, 128]⟩
abbrev S32x16x128x4 : Shape := ⟨4, ![32, 16, 128, 4]⟩
abbrev S1x16x128x128 : Shape := ⟨4, ![1, 16, 128, 128]⟩
abbrev S1x16x128x4 : Shape := ⟨4, ![1, 16, 128, 4]⟩
abbrev S1x16x4x128 : Shape := ⟨4, ![1, 16, 4, 128]⟩
abbrev S1x1x128x128 : Shape := ⟨4, ![1, 1, 128, 128]⟩
abbrev S1x1x1x128 : Shape := ⟨4, ![1, 1, 1, 128]⟩
abbrev S1x128 : Shape := ⟨2, ![1, 128]⟩
abbrev S1x1x128x1 : Shape := ⟨4, ![1, 1, 128, 1]⟩
abbrev S128x1 : Shape := ⟨2, ![128, 1]⟩
abbrev S128 : Shape := ⟨1, ![128]⟩

abbrev nBuf : Space → Nat
  | .hbm => 317
  | .vmem => 62
  | .smem => 0
  | _ => 0

abbrev hbmTy0_0 (i : Nat) : BufTy := match i % 128 with
  | 0 => ⟨S32x4x4096, .f32⟩
  | 1 => ⟨S1x32x3x6144, .f32⟩
  | 2 => ⟨S1x32x16x128x128, .f32⟩
  | 3 => ⟨S1x4096x26816, .f32⟩
  | 4 => ⟨S1x4x6144, .f32⟩
  | 5 => ⟨S1x16, .f32⟩
  | 6 => ⟨S1x16, .f32⟩
  | 7 => ⟨S4, .i32⟩
  | 8 => ⟨S_, .i32⟩
  | 9 => ⟨S4, .i32⟩
  | 10 => ⟨S4, .i32⟩
  | 11 => ⟨S32x3x6144, .f32⟩
  | 12 => ⟨S4096x26816, .f32⟩
  | 13 => ⟨S4x6144, .f32⟩
  | 14 => ⟨S16, .f32⟩
  | 15 => ⟨S16, .f32⟩
  | 16 => ⟨S4096x6144, .f32⟩
  | 17 => ⟨S4096x6144, .bf16⟩
  | 18 => ⟨S4096x2048, .f32⟩
  | 19 => ⟨S4096x2048, .bf16⟩
  | 20 => ⟨S4096x16, .f32⟩
  | 21 => ⟨S4096x16, .bf16⟩
  | 22 => ⟨S4096x16, .f32⟩
  | 23 => ⟨S4096x16, .bf16⟩
  | 24 => ⟨S4096x2048, .f32⟩
  | 25 => ⟨S4096x2048, .bf16⟩
  | 26 => ⟨S4096x2048, .f32⟩
  | 27 => ⟨S4096x2048, .bf16⟩
  | 28 => ⟨S4096x2048, .f32⟩
  | 29 => ⟨S4096x2048, .bf16⟩
  | 30 => ⟨S4096x4096, .f32⟩
  | 31 => ⟨S4096x4096, .bf16⟩
  | 32 => ⟨S4096x32, .f32⟩
  | 33 => ⟨S4096x32, .bf16⟩
  | 34 => ⟨S4096x128, .f32⟩
  | 35 => ⟨S4096x128, .bf16⟩
  | 36 => ⟨S4096x4096, .f32⟩
  | 37 => ⟨S4096x4096, .bf16⟩
  | 38 => ⟨S4096x4096, .f32⟩
  | 39 => ⟨S4096x4096, .bf16⟩
  | 40 => ⟨S4096x64, .bf16⟩
  | 41 => ⟨S_, .i32⟩
  | 42 => ⟨S_, .bf16⟩
  | 43 => ⟨S4096x128, .bf16⟩
  | 44 => ⟨S128x4096, .f32⟩
  | 45 => ⟨S128x4096, .bf16⟩
  | 46 => ⟨S128x6144, .f32⟩
  | 47 => ⟨S32x4x6144, .f32⟩
  | 48 => ⟨S128x2048, .f32⟩
  | 49 => ⟨S32x4x2048, .f32⟩
  | 50 => ⟨S128x2048, .f32⟩
  | 51 => ⟨S32x4x2048, .f32⟩
  | 52 => ⟨S128x2048, .f32⟩
  | 53 => ⟨S32x4x2048, .f32⟩
  | 54 => ⟨S128x2048, .f32⟩
  | 55 => ⟨S32x4x2048, .f32⟩
  | 56 => ⟨S128x4096, .f32⟩
  | 57 => ⟨S32x4x4096, .f32⟩
  | 58 => ⟨S128x128, .f32⟩
  | 59 => ⟨S32x4x128, .f32⟩
  | 60 => ⟨S128x4096, .f32⟩
  | 61 => ⟨S32x4x4096, .f32⟩
  | 62 => ⟨S128x4096, .f32⟩
  | 63 => ⟨S32x4x4096, .f32⟩
  | 64 => ⟨S128x128, .f32⟩
  | 65 => ⟨S32x4x128, .f32⟩
  | 66 => ⟨S32x4x16, .f32⟩
  | 67 => ⟨S32x4x16, .f32⟩
  | 68 => ⟨S32x4x32, .f32⟩
  | 69 => ⟨S32x7x6144, .f32⟩
  | 70 => ⟨S32x4x6144, .f32⟩
  | 71 => ⟨S1x6144, .f32⟩
  | 72 => ⟨S6144, .f32⟩
  | 73 => ⟨S1x1x6144, .f32⟩
  | 74 => ⟨S32x4x6144, .f32⟩
  | 75 => ⟨S32x4x6144, .f32⟩
  | 76 => ⟨S_, .f32⟩
  | 77 => ⟨S32x4x6144, .f32⟩
  | 78 => ⟨S32x4x6144, .f32⟩
  | 79 => ⟨S32x4x6144, .f32⟩
  | 80 => ⟨S1x6144, .f32⟩
  | 81 => ⟨S6144, .f32⟩
  | 82 => ⟨S1x1x6144, .f32⟩
  | 83 => ⟨S32x4x6144, .f32⟩
  | 84 => ⟨S32x4x6144, .f32⟩
  | 85 => ⟨S32x4x6144, .f32⟩
  | 86 => ⟨S32x4x6144, .f32⟩
  | 87 => ⟨S1x6144, .f32⟩
  | 88 => ⟨S6144, .f32⟩
  | 89 => ⟨S1x1x6144, .f32⟩
  | 90 => ⟨S32x4x6144, .f32⟩
  | 91 => ⟨S32x4x6144, .f32⟩
  | 92 => ⟨S32x4x6144, .f32⟩
  | 93 => ⟨S32x4x6144, .f32⟩
  | 94 => ⟨S1x6144, .f32⟩
  | 95 => ⟨S6144, .f32⟩
  | 96 => ⟨S1x1x6144, .f32⟩
  | 97 => ⟨S32x4x6144, .f32⟩
  | 98 => ⟨S32x4x6144, .f32⟩
  | 99 => ⟨S32x4x6144, .f32⟩
  | 100 => ⟨S32x4x6144, .f32⟩
  | 101 => ⟨S32x4x6144, .f32⟩
  | 102 => ⟨S_, .f32⟩
  | 103 => ⟨S32x4x6144, .f32⟩
  | 104 => ⟨S32x4x6144, .f32⟩
  | 105 => ⟨S_, .f32⟩
  | 106 => ⟨S32x4x6144, .f32⟩
  | 107 => ⟨S32x4x6144, .f32⟩
  | 108 => ⟨S32x4x6144, .f32⟩
  | 109 => ⟨S32x3x6144, .f32⟩
  | 110 => ⟨S32x4x2048, .f32⟩
  | 111 => ⟨S32x4x2048, .f32⟩
  | 112 => ⟨S32x4x2048, .f32⟩
  | 113 => ⟨S32x4x16x128, .f32⟩
  | 114 => ⟨S32x4x16x128, .f32⟩
  | 115 => ⟨S32x4x16x128, .f32⟩
  | 116 => ⟨S32x4x16x128, .f32⟩
  | 117 => ⟨S_, .f32⟩
  | 118 => ⟨S32x4x16, .f32⟩
  | 119 => ⟨S32x4x16x1, .f32⟩
  | 120 => ⟨S_, .f32⟩
  | 121 => ⟨S32x4x16x1, .f32⟩
  | 122 => ⟨S32x4x16x1, .f32⟩
  | 123 => ⟨S32x4x16x1, .f32⟩
  | 124 => ⟨S32x4x16x128, .f32⟩
  | 125 => ⟨S32x4x16x128, .f32⟩
  | 126 => ⟨S_, .f32⟩
  | 127 => ⟨S32x4x16x128, .f32⟩
  | _ => ⟨S32x4x4096, .f32⟩

abbrev hbmTy0_1 (i : Nat) : BufTy := match i % 128 with
  | 0 => ⟨S32x4x16x128, .f32⟩
  | 1 => ⟨S32x4x16x128, .f32⟩
  | 2 => ⟨S_, .f32⟩
  | 3 => ⟨S32x4x16, .f32⟩
  | 4 => ⟨S32x4x16x1, .f32⟩
  | 5 => ⟨S_, .f32⟩
  | 6 => ⟨S32x4x16x1, .f32⟩
  | 7 => ⟨S32x4x16x1, .f32⟩
  | 8 => ⟨S32x4x16x1, .f32⟩
  | 9 => ⟨S32x4x16x128, .f32⟩
  | 10 => ⟨S32x4x16x128, .f32⟩
  | 11 => ⟨S32x4x16, .f32⟩
  | 12 => ⟨S32x4x16, .f32⟩
  | 13 => ⟨S_, .f32⟩
  | 14 => ⟨S32x4x16, .f32⟩
  | 15 => ⟨S32x4x16, .f32⟩
  | 16 => ⟨S_, .f32⟩
  | 17 => ⟨S32x4x16, .f32⟩
  | 18 => ⟨S32x4x16, .f32⟩
  | 19 => ⟨S16, .f32⟩
  | 20 => ⟨S16, .f32⟩
  | 21 => ⟨S1x1x16, .f32⟩
  | 22 => ⟨S32x4x16, .f32⟩
  | 23 => ⟨S32x4x16, .f32⟩
  | 24 => ⟨S_, .f32⟩
  | 25 => ⟨S32x4x16, .f32⟩
  | 26 => ⟨S32x4x16, .f32⟩
  | 27 => ⟨S32x4x16, .f32⟩
  | 28 => ⟨S32x4x16, .f32⟩
  | 29 => ⟨S32x4x16, .i1⟩
  | 30 => ⟨S32x4x16, .f32⟩
  | 31 => ⟨S32x4x16, .f32⟩
  | 32 => ⟨S32x4x16, .f32⟩
  | 33 => ⟨S32x4x16, .f32⟩
  | 34 => ⟨S32x4x16, .f32⟩
  | 35 => ⟨S32x4x16, .f32⟩
  | 36 => ⟨S32x4x16, .f32⟩
  | 37 => ⟨S32x4x16, .f32⟩
  | 38 => ⟨S1x1x16, .f32⟩
  | 39 => ⟨S32x4x16, .f32⟩
  | 40 => ⟨S32x4x16, .f32⟩
  | 41 => ⟨S32x4x16x128, .f32⟩
  | 42 => ⟨S64, .f32⟩
  | 43 => ⟨S64, .f32⟩
  | 44 => ⟨S_, .f32⟩
  | 45 => ⟨S64, .f32⟩
  | 46 => ⟨S64, .f32⟩
  | 47 => ⟨S_, .f32⟩
  | 48 => ⟨S64, .f32⟩
  | 49 => ⟨S64, .f32⟩
  | 50 => ⟨S4, .f32⟩
  | 51 => ⟨S4x1, .f32⟩
  | 52 => ⟨S1x64, .f32⟩
  | 53 => ⟨S4x64, .f32⟩
  | 54 => ⟨S4x64, .f32⟩
  | 55 => ⟨S4x64, .f32⟩
  | 56 => ⟨S4x64, .f32⟩
  | 57 => ⟨S1x4x1x64, .f32⟩
  | 58 => ⟨S4x64, .f32⟩
  | 59 => ⟨S1x4x1x64, .f32⟩
  | 60 => ⟨S32x4x16x64, .f32⟩
  | 61 => ⟨S32x4x16x64, .f32⟩
  | 62 => ⟨S32x4x16x64, .f32⟩
  | 63 => ⟨S32x4x16x64, .f32⟩
  | 64 => ⟨S32x4x16x64, .f32⟩
  | 65 => ⟨S32x4x16x64, .f32⟩
  | 66 => ⟨S32x4x16x64, .f32⟩
  | 67 => ⟨S32x4x16x64, .f32⟩
  | 68 => ⟨S32x4x16x64, .f32⟩
  | 69 => ⟨S32x4x16x64, .f32⟩
  | 70 => ⟨S32x4x16x64, .f32⟩
  | 71 => ⟨S32x4x16x64, .f32⟩
  | 72 => ⟨S32x4x16x128, .f32⟩
  | 73 => ⟨S32x4x16x128, .f32⟩
  | 74 => ⟨S64, .f32⟩
  | 75 => ⟨S64, .f32⟩
  | 76 => ⟨S_, .f32⟩
  | 77 => ⟨S64, .f32⟩
  | 78 => ⟨S64, .f32⟩
  | 79 => ⟨S_, .f32⟩
  | 80 => ⟨S64, .f32⟩
  | 81 => ⟨S64, .f32⟩
  | 82 => ⟨S4, .f32⟩
  | 83 => ⟨S4x1, .f32⟩
  | 84 => ⟨S1x64, .f32⟩
  | 85 => ⟨S4x64, .f32⟩
  | 86 => ⟨S4x64, .f32⟩
  | 87 => ⟨S4x64, .f32⟩
  | 88 => ⟨S4x64, .f32⟩
  | 89 => ⟨S1x4x1x64, .f32⟩
  | 90 => ⟨S4x64, .f32⟩
  | 91 => ⟨S1x4x1x64, .f32⟩
  | 92 => ⟨S32x4x16x64, .f32⟩
  | 93 => ⟨S32x4x16x64, .f32⟩
  | 94 => ⟨S32x4x16x64, .f32⟩
  | 95 => ⟨S32x4x16x64, .f32⟩
  | 96 => ⟨S32x4x16x64, .f32⟩
  | 97 => ⟨S32x4x16x64, .f32⟩
  | 98 => ⟨S32x4x16x64, .f32⟩
  | 99 => ⟨S32x4x16x64, .f32⟩
  | 100 => ⟨S32x4x16x64, .f32⟩
  | 101 => ⟨S32x4x16x64, .f32⟩
  | 102 => ⟨S32x4x16x64, .f32⟩
  | 103 => ⟨S32x4x16x64, .f32⟩
  | 104 => ⟨S32x4x16x128, .f32⟩
  | 105 => ⟨S32x4x16x128, .f32⟩
  | 106 => ⟨S32x4x32x128, .f32⟩
  | 107 => ⟨S64, .f32⟩
  | 108 => ⟨S64, .f32⟩
  | 109 => ⟨S_, .f32⟩
  | 110 => ⟨S64, .f32⟩
  | 111 => ⟨S64, .f32⟩
  | 112 => ⟨S_, .f32⟩
  | 113 => ⟨S64, .f32⟩
  | 114 => ⟨S64, .f32⟩
  | 115 => ⟨S4, .f32⟩
  | 116 => ⟨S4x1, .f32⟩
  | 117 => ⟨S1x64, .f32⟩
  | 118 => ⟨S4x64, .f32⟩
  | 119 => ⟨S4x64, .f32⟩
  | 120 => ⟨S4x64, .f32⟩
  | 121 => ⟨S4x64, .f32⟩
  | 122 => ⟨S1x4x1x64, .f32⟩
  | 123 => ⟨S4x64, .f32⟩
  | 124 => ⟨S1x4x1x64, .f32⟩
  | 125 => ⟨S32x4x32x64, .f32⟩
  | 126 => ⟨S32x4x32x64, .f32⟩
  | 127 => ⟨S32x4x32x64, .f32⟩
  | _ => ⟨S32x4x4096, .f32⟩

abbrev hbmTy0_2 (i : Nat) : BufTy := match i % 128 with
  | 0 => ⟨S32x4x32x64, .f32⟩
  | 1 => ⟨S32x4x32x64, .f32⟩
  | 2 => ⟨S32x4x32x64, .f32⟩
  | 3 => ⟨S32x4x32x64, .f32⟩
  | 4 => ⟨S32x4x32x64, .f32⟩
  | 5 => ⟨S32x4x32x64, .f32⟩
  | 6 => ⟨S32x4x32x64, .f32⟩
  | 7 => ⟨S32x4x32x64, .f32⟩
  | 8 => ⟨S32x4x32x64, .f32⟩
  | 9 => ⟨S32x4x32x128, .f32⟩
  | 10 => ⟨S32x4x1x128, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S4, .f32⟩
  | 20 => ⟨S4x1, .f32⟩
  | 21 => ⟨S1x64, .f32⟩
  | 22 => ⟨S4x64, .f32⟩
  | 23 => ⟨S4x64, .f32⟩
  | 24 => ⟨S4x64, .f32⟩
  | 25 => ⟨S4x64, .f32⟩
  | 26 => ⟨S1x4x1x64, .f32⟩
  | 27 => ⟨S4x64, .f32⟩
  | 28 => ⟨S1x4x1x64, .f32⟩
  | 29 => ⟨S32x4x1x64, .f32⟩
  | 30 => ⟨S32x4x1x64, .f32⟩
  | 31 => ⟨S32x4x1x64, .f32⟩
  | 32 => ⟨S32x4x1x64, .f32⟩
  | 33 => ⟨S32x4x1x64, .f32⟩
  | 34 => ⟨S32x4x1x64, .f32⟩
  | 35 => ⟨S32x4x1x64, .f32⟩
  | 36 => ⟨S32x4x1x64, .f32⟩
  | 37 => ⟨S32x4x1x64, .f32⟩
  | 38 => ⟨S32x4x1x64, .f32⟩
  | 39 => ⟨S32x4x1x64, .f32⟩
  | 40 => ⟨S32x4x1x64, .f32⟩
  | 41 => ⟨S32x4x1x128, .f32⟩
  | 42 => ⟨S32x4x128, .f32⟩
  | 43 => ⟨S_, .f32⟩
  | 44 => ⟨S32x4x32, .f32⟩
  | 45 => ⟨S32x4x32, .f32⟩
  | 46 => ⟨S32x16x128x128, .f32⟩
  | 47 => ⟨S32x4x16, .f32⟩
  | 48 => ⟨S32x16x4, .f32⟩
  | 49 => ⟨S32x16x4x1, .f32⟩
  | 50 => ⟨S32x16x4x128, .f32⟩
  | 51 => ⟨S32x16x128x4, .f32⟩
  | 52 => ⟨S32x16x128x4, .f32⟩
  | 53 => ⟨S32x4x16x1, .f32⟩
  | 54 => ⟨S32x4x16x128, .f32⟩
  | 55 => ⟨S32x4x16x128, .f32⟩
  | 56 => ⟨S32x16x128x4, .f32⟩
  | 57 => ⟨S32x16x4x128, .f32⟩
  | 58 => ⟨S32x16x4x128, .f32⟩
  | 59 => ⟨S32x16x128x128, .f32⟩
  | 60 => ⟨S32x4x16x128, .f32⟩
  | _ => ⟨S32x4x4096, .f32⟩

abbrev hbmTy (i : Nat) : BufTy := match i / 128 with
  | 0 => hbmTy0_0 i
  | 1 => hbmTy0_1 i
  | 2 => hbmTy0_2 i
  | _ => ⟨S32x4x4096, .f32⟩

abbrev bufTy : (tb : Table) → Fin (tcTables nBuf tb) → BufTy
  | .hbm, ⟨i, _⟩ => hbmTy i
  | .local _ .vmem, ⟨0, _⟩ => ⟨S128x4096, .bf16⟩
  | .local _ .vmem, ⟨1, _⟩ => ⟨S4096x1024, .bf16⟩
  | .local _ .vmem, ⟨2, _⟩ => ⟨S4096x1024, .bf16⟩
  | .local _ .vmem, ⟨3, _⟩ => ⟨S128x1024, .f32⟩
  | .local _ .vmem, ⟨4, _⟩ => ⟨S128x1024, .f32⟩
  | .local _ .vmem, ⟨5, _⟩ => ⟨S128x4096, .bf16⟩
  | .local _ .vmem, ⟨6, _⟩ => ⟨S4096x1024, .bf16⟩
  | .local _ .vmem, ⟨7, _⟩ => ⟨S4096x1024, .bf16⟩
  | .local _ .vmem, ⟨8, _⟩ => ⟨S128x1024, .f32⟩
  | .local _ .vmem, ⟨9, _⟩ => ⟨S128x1024, .f32⟩
  | .local _ .vmem, ⟨10, _⟩ => ⟨S128x4096, .bf16⟩
  | .local _ .vmem, ⟨11, _⟩ => ⟨S4096x1024, .bf16⟩
  | .local _ .vmem, ⟨12, _⟩ => ⟨S4096x1024, .bf16⟩
  | .local _ .vmem, ⟨13, _⟩ => ⟨S128x1024, .f32⟩
  | .local _ .vmem, ⟨14, _⟩ => ⟨S128x1024, .f32⟩
  | .local _ .vmem, ⟨15, _⟩ => ⟨S128x4096, .bf16⟩
  | .local _ .vmem, ⟨16, _⟩ => ⟨S4096x1024, .bf16⟩
  | .local _ .vmem, ⟨17, _⟩ => ⟨S4096x1024, .bf16⟩
  | .local _ .vmem, ⟨18, _⟩ => ⟨S128x1024, .f32⟩
  | .local _ .vmem, ⟨19, _⟩ => ⟨S128x1024, .f32⟩
  | .local _ .vmem, ⟨20, _⟩ => ⟨S128x4096, .bf16⟩
  | .local _ .vmem, ⟨21, _⟩ => ⟨S4096x1024, .bf16⟩
  | .local _ .vmem, ⟨22, _⟩ => ⟨S4096x1024, .bf16⟩
  | .local _ .vmem, ⟨23, _⟩ => ⟨S128x1024, .f32⟩
  | .local _ .vmem, ⟨24, _⟩ => ⟨S128x1024, .f32⟩
  | .local _ .vmem, ⟨25, _⟩ => ⟨S128x4096, .bf16⟩
  | .local _ .vmem, ⟨26, _⟩ => ⟨S4096x1024, .bf16⟩
  | .local _ .vmem, ⟨27, _⟩ => ⟨S4096x1024, .bf16⟩
  | .local _ .vmem, ⟨28, _⟩ => ⟨S128x1024, .f32⟩
  | .local _ .vmem, ⟨29, _⟩ => ⟨S128x1024, .f32⟩
  | .local _ .vmem, ⟨30, _⟩ => ⟨S128x4096, .bf16⟩
  | .local _ .vmem, ⟨31, _⟩ => ⟨S4096x128, .bf16⟩
  | .local _ .vmem, ⟨32, _⟩ => ⟨S128x128, .f32⟩
  | .local _ .vmem, ⟨33, _⟩ => ⟨S128x4096, .bf16⟩
  | .local _ .vmem, ⟨34, _⟩ => ⟨S4096x1024, .bf16⟩
  | .local _ .vmem, ⟨35, _⟩ => ⟨S4096x1024, .bf16⟩
  | .local _ .vmem, ⟨36, _⟩ => ⟨S128x1024, .f32⟩
  | .local _ .vmem, ⟨37, _⟩ => ⟨S128x1024, .f32⟩
  | .local _ .vmem, ⟨38, _⟩ => ⟨S128x4096, .bf16⟩
  | .local _ .vmem, ⟨39, _⟩ => ⟨S4096x1024, .bf16⟩
  | .local _ .vmem, ⟨40, _⟩ => ⟨S4096x1024, .bf16⟩
  | .local _ .vmem, ⟨41, _⟩ => ⟨S128x1024, .f32⟩
  | .local _ .vmem, ⟨42, _⟩ => ⟨S128x1024, .f32⟩
  | .local _ .vmem, ⟨43, _⟩ => ⟨S128x4096, .bf16⟩
  | .local _ .vmem, ⟨44, _⟩ => ⟨S4096x128, .bf16⟩
  | .local _ .vmem, ⟨45, _⟩ => ⟨S128x128, .f32⟩
  | .local _ .vmem, ⟨46, _⟩ => ⟨S1x16x128x128, .f32⟩
  | .local _ .vmem, ⟨47, _⟩ => ⟨S1x16x128x128, .f32⟩
  | .local _ .vmem, ⟨48, _⟩ => ⟨S1x16x128x4, .f32⟩
  | .local _ .vmem, ⟨49, _⟩ => ⟨S1x16x128x4, .f32⟩
  | .local _ .vmem, ⟨50, _⟩ => ⟨S1x16x128x4, .f32⟩
  | .local _ .vmem, ⟨51, _⟩ => ⟨S1x16x128x4, .f32⟩
  | .local _ .vmem, ⟨52, _⟩ => ⟨S1x16x128x4, .f32⟩
  | .local _ .vmem, ⟨53, _⟩ => ⟨S1x16x128x4, .f32⟩
  | .local _ .vmem, ⟨54, _⟩ => ⟨S1x16x4x128, .f32⟩
  | .local _ .vmem, ⟨55, _⟩ => ⟨S1x16x4x128, .f32⟩
  | .local _ .vmem, ⟨56, _⟩ => ⟨S1x16x4x128, .f32⟩
  | .local _ .vmem, ⟨57, _⟩ => ⟨S1x16x4x128, .f32⟩
  | .local _ .vmem, ⟨58, _⟩ => ⟨S1x16x4x128, .f32⟩
  | .local _ .vmem, ⟨59, _⟩ => ⟨S1x16x4x128, .f32⟩
  | .local _ .vmem, ⟨60, _⟩ => ⟨S1x16x128x128, .f32⟩
  | .local _ .vmem, ⟨61, _⟩ => ⟨S1x16x128x128, .f32⟩
  | _, _ => ⟨S32x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_0 : Ref sig .tc := ⟨.hbm, 41, rfl⟩
abbrev main_call0_v0 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_cst_1 : Ref sig .tc := ⟨.hbm, 117, rfl⟩
abbrev main_v98 : Ref sig .tc := ⟨.hbm, 118, rfl⟩
abbrev main_v99 : Ref sig .tc := ⟨.hbm, 119, rfl⟩
abbrev main_cst_2 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_3 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_4 : Ref sig .tc := ⟨.hbm, 130, rfl⟩
abbrev main_v108 : Ref sig .tc := ⟨.hbm, 131, rfl⟩
abbrev main_v109 : Ref sig .tc := ⟨.hbm, 132, rfl⟩
abbrev main_cst_5 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_cst_6 : Ref sig .tc := ⟨.hbm, 141, rfl⟩
abbrev main_v117 : Ref sig .tc := ⟨.hbm, 142, rfl⟩
abbrev main_v118 : Ref sig .tc := ⟨.hbm, 143, rfl⟩
abbrev main_cst_7 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_call2_cst : Ref sig .tc := ⟨.hbm, 152, rfl⟩
abbrev main_call2_v0 : Ref sig .tc := ⟨.hbm, 153, rfl⟩
abbrev main_call2_v1 : Ref sig .tc := ⟨.hbm, 154, rfl⟩
abbrev main_call2_v2 : Ref sig .tc := ⟨.hbm, 155, rfl⟩
abbrev main_call2_v3 : Ref sig .tc := ⟨.hbm, 156, rfl⟩
abbrev main_call2_v4 : Ref sig .tc := ⟨.hbm, 157, rfl⟩
abbrev main_call2_v5 : Ref sig .tc := ⟨.hbm, 158, rfl⟩
abbrev main_call2_v6 : Ref sig .tc := ⟨.hbm, 159, rfl⟩
abbrev main_call2_v7 : Ref sig .tc := ⟨.hbm, 160, rfl⟩
abbrev main_call2_v8 : Ref sig .tc := ⟨.hbm, 161, rfl⟩
abbrev main_call2_v9 : Ref sig .tc := ⟨.hbm, 162, rfl⟩
abbrev main_call2_v10 : Ref sig .tc := ⟨.hbm, 163, rfl⟩
abbrev main_call2_v11 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_8 : Ref sig .tc := ⟨.hbm, 172, rfl⟩
abbrev main_v133 : Ref sig .tc := ⟨.hbm, 173, rfl⟩
abbrev main_v134 : Ref sig .tc := ⟨.hbm, 174, rfl⟩
abbrev main_cst_9 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_cst_10 : Ref sig .tc := ⟨.hbm, 204, rfl⟩
abbrev main_v163 : Ref sig .tc := ⟨.hbm, 205, rfl⟩
abbrev main_v164 : Ref sig .tc := ⟨.hbm, 206, rfl⟩
abbrev main_cst_11 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_cst_12 : Ref sig .tc := ⟨.hbm, 237, rfl⟩
abbrev main_v194 : Ref sig .tc := ⟨.hbm, 238, rfl⟩
abbrev main_v195 : Ref sig .tc := ⟨.hbm, 239, rfl⟩
abbrev main_cst_13 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_cst_14 : Ref sig .tc := ⟨.hbm, 269, rfl⟩
abbrev main_v224 : Ref sig .tc := ⟨.hbm, 270, rfl⟩
abbrev main_v225 : Ref sig .tc := ⟨.hbm, 271, rfl⟩
abbrev main_cst_15 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_v251 : Ref sig .tc := ⟨.hbm, 298, rfl⟩
abbrev main_cst_16 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266_0 : Ref sig .tc := ⟨.hbm, 314, rfl⟩
abbrev main_v266_1 : Ref sig .tc := ⟨.hbm, 315, rfl⟩
abbrev main_v267 : Ref sig .tc := ⟨.hbm, 316, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg1_1 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc7_stg0_0 : Ref sig .tc := ⟨.vmem, 33, rfl⟩
abbrev cc7_stg1_0 : Ref sig .tc := ⟨.vmem, 34, rfl⟩
abbrev cc7_stg1_1 : Ref sig .tc := ⟨.vmem, 35, rfl⟩
abbrev cc7_stg2_0 : Ref sig .tc := ⟨.vmem, 36, rfl⟩
abbrev cc7_stg2_1 : Ref sig .tc := ⟨.vmem, 37, rfl⟩
abbrev cc8_stg0_0 : Ref sig .tc := ⟨.vmem, 38, rfl⟩
abbrev cc8_stg1_0 : Ref sig .tc := ⟨.vmem, 39, rfl⟩
abbrev cc8_stg1_1 : Ref sig .tc := ⟨.vmem, 40, rfl⟩
abbrev cc8_stg2_0 : Ref sig .tc := ⟨.vmem, 41, rfl⟩
abbrev cc8_stg2_1 : Ref sig .tc := ⟨.vmem, 42, rfl⟩
abbrev cc9_stg0_0 : Ref sig .tc := ⟨.vmem, 43, rfl⟩
abbrev cc9_stg1_0 : Ref sig .tc := ⟨.vmem, 44, rfl⟩
abbrev cc9_stg2_0 : Ref sig .tc := ⟨.vmem, 45, rfl⟩
abbrev cc10_stg0_0 : Ref sig .tc := ⟨.vmem, 46, rfl⟩
abbrev cc10_stg0_1 : Ref sig .tc := ⟨.vmem, 47, rfl⟩
abbrev cc10_stg1_0 : Ref sig .tc := ⟨.vmem, 48, rfl⟩
abbrev cc10_stg1_1 : Ref sig .tc := ⟨.vmem, 49, rfl⟩
abbrev cc10_stg2_0 : Ref sig .tc := ⟨.vmem, 50, rfl⟩
abbrev cc10_stg2_1 : Ref sig .tc := ⟨.vmem, 51, rfl⟩
abbrev cc10_stg3_0 : Ref sig .tc := ⟨.vmem, 52, rfl⟩
abbrev cc10_stg3_1 : Ref sig .tc := ⟨.vmem, 53, rfl⟩
abbrev cc10_stg4_0 : Ref sig .tc := ⟨.vmem, 54, rfl⟩
abbrev cc10_stg4_1 : Ref sig .tc := ⟨.vmem, 55, rfl⟩
abbrev cc10_stg5_0 : Ref sig .tc := ⟨.vmem, 56, rfl⟩
abbrev cc10_stg5_1 : Ref sig .tc := ⟨.vmem, 57, rfl⟩
abbrev cc10_stg6_0 : Ref sig .tc := ⟨.vmem, 58, rfl⟩
abbrev cc10_stg6_1 : Ref sig .tc := ⟨.vmem, 59, rfl⟩
abbrev cc10_stg7_0 : Ref sig .tc := ⟨.vmem, 60, rfl⟩
abbrev cc10_stg7_1 : Ref sig .tc := ⟨.vmem, 61, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem2_1 : DmaSem sig := 24
abbrev cc5_sem0_0 : DmaSem sig := 25
abbrev cc5_sem1_0 : DmaSem sig := 26
abbrev cc5_sem1_1 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc7_sem0_0 : DmaSem sig := 33
abbrev cc7_sem1_0 : DmaSem sig := 34
abbrev cc7_sem1_1 : DmaSem sig := 35
abbrev cc7_sem2_0 : DmaSem sig := 36
abbrev cc7_sem2_1 : DmaSem sig := 37
abbrev cc8_sem0_0 : DmaSem sig := 38
abbrev cc8_sem1_0 : DmaSem sig := 39
abbrev cc8_sem1_1 : DmaSem sig := 40
abbrev cc8_sem2_0 : DmaSem sig := 41
abbrev cc8_sem2_1 : DmaSem sig := 42
abbrev cc9_sem0_0 : DmaSem sig := 43
abbrev cc9_sem1_0 : DmaSem sig := 44
abbrev cc9_sem2_0 : DmaSem sig := 45
abbrev cc10_sem0_0 : DmaSem sig := 46
abbrev cc10_sem0_1 : DmaSem sig := 47
abbrev cc10_sem1_0 : DmaSem sig := 48
abbrev cc10_sem1_1 : DmaSem sig := 49
abbrev cc10_sem2_0 : DmaSem sig := 50
abbrev cc10_sem2_1 : DmaSem sig := 51
abbrev cc10_sem3_0 : DmaSem sig := 52
abbrev cc10_sem3_1 : DmaSem sig := 53
abbrev cc10_sem4_0 : DmaSem sig := 54
abbrev cc10_sem4_1 : DmaSem sig := 55
abbrev cc10_sem5_0 : DmaSem sig := 56
abbrev cc10_sem5_1 : DmaSem sig := 57
abbrev cc10_sem6_0 : DmaSem sig := 58
abbrev cc10_sem6_1 : DmaSem sig := 59
abbrev cc10_sem7_0 : DmaSem sig := 60
abbrev cc10_sem7_1 : DmaSem sig := 61

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S128x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S128x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S128x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S128x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S128x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S128x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S128x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S128x4096 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S128x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S128x4096 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 1 → Memref sig .tc .vmem S4096x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true]

abbrev grid7 : Pipeline.Grid := ⟨2, ![1, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S128x4096 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 2 → Memref sig .tc .vmem S4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S128x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![1, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S128x4096 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 2 → Memref sig .tc .vmem S4096x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S128x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![1, 1], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 1 → Memref sig .tc .vmem S128x4096 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false]

abbrev stage9_1 : Fin 1 → Memref sig .tc .vmem S4096x128 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, true]

abbrev grid10 : Pipeline.Grid := ⟨1, ![32], ![false]⟩

def cc10_transform_0 (i : grid10.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc10_transform_1 (i : grid10.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc10_transform_2 (i : grid10.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc10_transform_3 (i : grid10.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc10_transform_4 (i : grid10.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc10_transform_5 (i : grid10.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc10_transform_6 (i : grid10.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc10_transform_7 (i : grid10.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage10_0 : Fin 2 → Memref sig .tc .vmem S1x16x128x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1x16x128x4 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S1x16x128x4 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S1x16x128x4 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S1x16x4x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S1x16x4x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S1x16x4x128 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 2 → Memref sig .tc .vmem S1x16x128x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]
-- ==== Reference3Ideal.lean ====
abbrev S32x4x4096 : Shape := ⟨3, ![32, 4, 4096]⟩
abbrev S1x32x3x6144 : Shape := ⟨4, ![1, 32, 3, 6144]⟩
abbrev S1x32x16x128x128 : Shape := ⟨5, ![1, 32, 16, 128, 128]⟩
abbrev S1x4096x26816 : Shape := ⟨3, ![1, 4096, 26816]⟩
abbrev S1x4x6144 : Shape := ⟨3, ![1, 4, 6144]⟩
abbrev S1x16 : Shape := ⟨2, ![1, 16]⟩
abbrev S4 : Shape := ⟨1, ![4]⟩
abbrev S_ : Shape := ⟨0, ![]⟩
abbrev S32x3x6144 : Shape := ⟨3, ![32, 3, 6144]⟩
abbrev S4096x26816 : Shape := ⟨2, ![4096, 26816]⟩
abbrev S4x6144 : Shape := ⟨2, ![4, 6144]⟩
abbrev S16 : Shape := ⟨1, ![16]⟩
abbrev S32x4x26816 : Shape := ⟨3, ![32, 4, 26816]⟩
abbrev S32x4x6144 : Shape := ⟨3, ![32, 4, 6144]⟩
abbrev S32x4x2048 : Shape := ⟨3, ![32, 4, 2048]⟩
abbrev S32x4x16 : Shape := ⟨3, ![32, 4, 16]⟩
abbrev S32x4x32 : Shape := ⟨3, ![32, 4, 32]⟩
abbrev S32x4x128 : Shape := ⟨3, ![32, 4, 128]⟩
abbrev S32x7x6144 : Shape := ⟨3, ![32, 7, 6144]⟩
abbrev S1x6144 : Shape := ⟨2, ![1, 6144]⟩
abbrev S6144 : Shape := ⟨1, ![6144]⟩
abbrev S1x1x6144 : Shape := ⟨3, ![1, 1, 6144]⟩
abbrev S32x4x16x128 : Shape := ⟨4, ![32, 4, 16, 128]⟩
abbrev S32x4x16x1 : Shape := ⟨4, ![32, 4, 16, 1]⟩
abbrev S1x1x16 : Shape := ⟨3, ![1, 1, 16]⟩
abbrev S64 : Shape := ⟨1, ![64]⟩
abbrev S4x1 : Shape := ⟨2, ![4, 1]⟩
abbrev S1x64 : Shape := ⟨2, ![1, 64]⟩
abbrev S4x64 : Shape := ⟨2, ![4, 64]⟩
abbrev S1x4x1x64 : Shape := ⟨4, ![1, 4, 1, 64]⟩
abbrev S32x4x16x64 : Shape := ⟨4, ![32, 4, 16, 64]⟩
abbrev S32x4x32x128 : Shape := ⟨4, ![32, 4, 32, 128]⟩
abbrev S32x4x32x64 : Shape := ⟨4, ![32, 4, 32, 64]⟩
abbrev S32x4x1x128 : Shape := ⟨4, ![32, 4, 1, 128]⟩
abbrev S32x4x1x64 : Shape := ⟨4, ![32, 4, 1, 64]⟩
abbrev S32x16x128x128 : Shape := ⟨4, ![32, 16, 128, 128]⟩
abbrev S4x32x16x128 : Shape := ⟨4, ![4, 32, 16, 128]⟩
abbrev S4x32x16 : Shape := ⟨3, ![4, 32, 16]⟩
abbrev S0x32x16x128 : Shape := ⟨4, ![0, 32, 16, 128]⟩
abbrev S0x32x16 : Shape := ⟨3, ![0, 32, 16]⟩
abbrev S1x32x16x128 : Shape := ⟨4, ![1, 32, 16, 128]⟩
abbrev S32x16x128 : Shape := ⟨3, ![32, 16, 128]⟩
abbrev S1x32x16 : Shape := ⟨3, ![1, 32, 16]⟩
abbrev S32x16 : Shape := ⟨2, ![32, 16]⟩
abbrev S32x16x1x1 : Shape := ⟨4, ![32, 16, 1, 1]⟩
abbrev S32x16x1 : Shape := ⟨3, ![32, 16, 1]⟩
abbrev S32x16x128x1 : Shape := ⟨4, ![32, 16, 128, 1]⟩
abbrev S32x16x1x128 : Shape := ⟨4, ![32, 16, 1, 128]⟩

abbrev nBuf : Space → Nat
  | .hbm => 391
  | .vmem => 0
  | .smem => 0
  | _ => 0

abbrev hbmTy0_0 (i : Nat) : BufTy := match i % 128 with
  | 0 => ⟨S32x4x4096, .f32⟩
  | 1 => ⟨S1x32x3x6144, .f32⟩
  | 2 => ⟨S1x32x16x128x128, .f32⟩
  | 3 => ⟨S1x4096x26816, .f32⟩
  | 4 => ⟨S1x4x6144, .f32⟩
  | 5 => ⟨S1x16, .f32⟩
  | 6 => ⟨S1x16, .f32⟩
  | 7 => ⟨S4, .i32⟩
  | 8 => ⟨S_, .i32⟩
  | 9 => ⟨S4, .i32⟩
  | 10 => ⟨S4, .i32⟩
  | 11 => ⟨S32x3x6144, .f32⟩
  | 12 => ⟨S4096x26816, .f32⟩
  | 13 => ⟨S4x6144, .f32⟩
  | 14 => ⟨S16, .f32⟩
  | 15 => ⟨S16, .f32⟩
  | 16 => ⟨S32x4x26816, .f32⟩
  | 17 => ⟨S32x4x6144, .f32⟩
  | 18 => ⟨S32x4x2048, .f32⟩
  | 19 => ⟨S32x4x16, .f32⟩
  | 20 => ⟨S32x4x16, .f32⟩
  | 21 => ⟨S32x4x2048, .f32⟩
  | 22 => ⟨S32x4x2048, .f32⟩
  | 23 => ⟨S32x4x2048, .f32⟩
  | 24 => ⟨S32x4x4096, .f32⟩
  | 25 => ⟨S32x4x32, .f32⟩
  | 26 => ⟨S32x4x128, .f32⟩
  | 27 => ⟨S32x4x4096, .f32⟩
  | 28 => ⟨S32x4x4096, .f32⟩
  | 29 => ⟨S32x7x6144, .f32⟩
  | 30 => ⟨S32x4x6144, .f32⟩
  | 31 => ⟨S1x6144, .f32⟩
  | 32 => ⟨S6144, .f32⟩
  | 33 => ⟨S1x1x6144, .f32⟩
  | 34 => ⟨S32x4x6144, .f32⟩
  | 35 => ⟨S32x4x6144, .f32⟩
  | 36 => ⟨S_, .f32⟩
  | 37 => ⟨S32x4x6144, .f32⟩
  | 38 => ⟨S32x4x6144, .f32⟩
  | 39 => ⟨S32x4x6144, .f32⟩
  | 40 => ⟨S1x6144, .f32⟩
  | 41 => ⟨S6144, .f32⟩
  | 42 => ⟨S1x1x6144, .f32⟩
  | 43 => ⟨S32x4x6144, .f32⟩
  | 44 => ⟨S32x4x6144, .f32⟩
  | 45 => ⟨S32x4x6144, .f32⟩
  | 46 => ⟨S32x4x6144, .f32⟩
  | 47 => ⟨S1x6144, .f32⟩
  | 48 => ⟨S6144, .f32⟩
  | 49 => ⟨S1x1x6144, .f32⟩
  | 50 => ⟨S32x4x6144, .f32⟩
  | 51 => ⟨S32x4x6144, .f32⟩
  | 52 => ⟨S32x4x6144, .f32⟩
  | 53 => ⟨S32x4x6144, .f32⟩
  | 54 => ⟨S1x6144, .f32⟩
  | 55 => ⟨S6144, .f32⟩
  | 56 => ⟨S1x1x6144, .f32⟩
  | 57 => ⟨S32x4x6144, .f32⟩
  | 58 => ⟨S32x4x6144, .f32⟩
  | 59 => ⟨S32x4x6144, .f32⟩
  | 60 => ⟨S32x4x6144, .f32⟩
  | 61 => ⟨S32x4x6144, .f32⟩
  | 62 => ⟨S_, .f32⟩
  | 63 => ⟨S32x4x6144, .f32⟩
  | 64 => ⟨S32x4x6144, .f32⟩
  | 65 => ⟨S_, .f32⟩
  | 66 => ⟨S32x4x6144, .f32⟩
  | 67 => ⟨S32x4x6144, .f32⟩
  | 68 => ⟨S32x4x6144, .f32⟩
  | 69 => ⟨S32x3x6144, .f32⟩
  | 70 => ⟨S32x4x2048, .f32⟩
  | 71 => ⟨S32x4x2048, .f32⟩
  | 72 => ⟨S32x4x2048, .f32⟩
  | 73 => ⟨S32x4x16x128, .f32⟩
  | 74 => ⟨S32x4x16x128, .f32⟩
  | 75 => ⟨S32x4x16x128, .f32⟩
  | 76 => ⟨S32x4x16x128, .f32⟩
  | 77 => ⟨S_, .f32⟩
  | 78 => ⟨S32x4x16, .f32⟩
  | 79 => ⟨S32x4x16x1, .f32⟩
  | 80 => ⟨S_, .f32⟩
  | 81 => ⟨S32x4x16x1, .f32⟩
  | 82 => ⟨S32x4x16x1, .f32⟩
  | 83 => ⟨S32x4x16x1, .f32⟩
  | 84 => ⟨S32x4x16x128, .f32⟩
  | 85 => ⟨S32x4x16x128, .f32⟩
  | 86 => ⟨S_, .f32⟩
  | 87 => ⟨S32x4x16x128, .f32⟩
  | 88 => ⟨S32x4x16x128, .f32⟩
  | 89 => ⟨S32x4x16x128, .f32⟩
  | 90 => ⟨S_, .f32⟩
  | 91 => ⟨S32x4x16, .f32⟩
  | 92 => ⟨S32x4x16x1, .f32⟩
  | 93 => ⟨S_, .f32⟩
  | 94 => ⟨S32x4x16x1, .f32⟩
  | 95 => ⟨S32x4x16x1, .f32⟩
  | 96 => ⟨S32x4x16x1, .f32⟩
  | 97 => ⟨S32x4x16x128, .f32⟩
  | 98 => ⟨S32x4x16x128, .f32⟩
  | 99 => ⟨S32x4x16, .f32⟩
  | 100 => ⟨S32x4x16, .f32⟩
  | 101 => ⟨S_, .f32⟩
  | 102 => ⟨S32x4x16, .f32⟩
  | 103 => ⟨S32x4x16, .f32⟩
  | 104 => ⟨S_, .f32⟩
  | 105 => ⟨S32x4x16, .f32⟩
  | 106 => ⟨S32x4x16, .f32⟩
  | 107 => ⟨S16, .f32⟩
  | 108 => ⟨S16, .f32⟩
  | 109 => ⟨S1x1x16, .f32⟩
  | 110 => ⟨S32x4x16, .f32⟩
  | 111 => ⟨S32x4x16, .f32⟩
  | 112 => ⟨S_, .f32⟩
  | 113 => ⟨S32x4x16, .f32⟩
  | 114 => ⟨S32x4x16, .f32⟩
  | 115 => ⟨S32x4x16, .f32⟩
  | 116 => ⟨S32x4x16, .f32⟩
  | 117 => ⟨S32x4x16, .i1⟩
  | 118 => ⟨S32x4x16, .f32⟩
  | 119 => ⟨S32x4x16, .f32⟩
  | 120 => ⟨S32x4x16, .f32⟩
  | 121 => ⟨S32x4x16, .f32⟩
  | 122 => ⟨S32x4x16, .f32⟩
  | 123 => ⟨S32x4x16, .f32⟩
  | 124 => ⟨S32x4x16, .f32⟩
  | 125 => ⟨S32x4x16, .f32⟩
  | 126 => ⟨S1x1x16, .f32⟩
  | 127 => ⟨S32x4x16, .f32⟩
  | _ => ⟨S32x4x4096, .f32⟩

abbrev hbmTy0_1 (i : Nat) : BufTy := match i % 128 with
  | 0 => ⟨S32x4x16, .f32⟩
  | 1 => ⟨S32x4x16x128, .f32⟩
  | 2 => ⟨S64, .f32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S4, .f32⟩
  | 11 => ⟨S4x1, .f32⟩
  | 12 => ⟨S1x64, .f32⟩
  | 13 => ⟨S4x64, .f32⟩
  | 14 => ⟨S4x64, .f32⟩
  | 15 => ⟨S4x64, .f32⟩
  | 16 => ⟨S4x64, .f32⟩
  | 17 => ⟨S1x4x1x64, .f32⟩
  | 18 => ⟨S4x64, .f32⟩
  | 19 => ⟨S1x4x1x64, .f32⟩
  | 20 => ⟨S32x4x16x64, .f32⟩
  | 21 => ⟨S32x4x16x64, .f32⟩
  | 22 => ⟨S32x4x16x64, .f32⟩
  | 23 => ⟨S32x4x16x64, .f32⟩
  | 24 => ⟨S32x4x16x64, .f32⟩
  | 25 => ⟨S32x4x16x64, .f32⟩
  | 26 => ⟨S32x4x16x64, .f32⟩
  | 27 => ⟨S32x4x16x64, .f32⟩
  | 28 => ⟨S32x4x16x64, .f32⟩
  | 29 => ⟨S32x4x16x64, .f32⟩
  | 30 => ⟨S32x4x16x64, .f32⟩
  | 31 => ⟨S32x4x16x64, .f32⟩
  | 32 => ⟨S32x4x16x128, .f32⟩
  | 33 => ⟨S32x4x16x128, .f32⟩
  | 34 => ⟨S64, .f32⟩
  | 35 => ⟨S64, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | 42 => ⟨S4, .f32⟩
  | 43 => ⟨S4x1, .f32⟩
  | 44 => ⟨S1x64, .f32⟩
  | 45 => ⟨S4x64, .f32⟩
  | 46 => ⟨S4x64, .f32⟩
  | 47 => ⟨S4x64, .f32⟩
  | 48 => ⟨S4x64, .f32⟩
  | 49 => ⟨S1x4x1x64, .f32⟩
  | 50 => ⟨S4x64, .f32⟩
  | 51 => ⟨S1x4x1x64, .f32⟩
  | 52 => ⟨S32x4x16x64, .f32⟩
  | 53 => ⟨S32x4x16x64, .f32⟩
  | 54 => ⟨S32x4x16x64, .f32⟩
  | 55 => ⟨S32x4x16x64, .f32⟩
  | 56 => ⟨S32x4x16x64, .f32⟩
  | 57 => ⟨S32x4x16x64, .f32⟩
  | 58 => ⟨S32x4x16x64, .f32⟩
  | 59 => ⟨S32x4x16x64, .f32⟩
  | 60 => ⟨S32x4x16x64, .f32⟩
  | 61 => ⟨S32x4x16x64, .f32⟩
  | 62 => ⟨S32x4x16x64, .f32⟩
  | 63 => ⟨S32x4x16x64, .f32⟩
  | 64 => ⟨S32x4x16x128, .f32⟩
  | 65 => ⟨S32x4x16x128, .f32⟩
  | 66 => ⟨S32x4x32x128, .f32⟩
  | 67 => ⟨S64, .f32⟩
  | 68 => ⟨S64, .f32⟩
  | 69 => ⟨S_, .f32⟩
  | 70 => ⟨S64, .f32⟩
  | 71 => ⟨S64, .f32⟩
  | 72 => ⟨S_, .f32⟩
  | 73 => ⟨S64, .f32⟩
  | 74 => ⟨S64, .f32⟩
  | 75 => ⟨S4, .f32⟩
  | 76 => ⟨S4x1, .f32⟩
  | 77 => ⟨S1x64, .f32⟩
  | 78 => ⟨S4x64, .f32⟩
  | 79 => ⟨S4x64, .f32⟩
  | 80 => ⟨S4x64, .f32⟩
  | 81 => ⟨S4x64, .f32⟩
  | 82 => ⟨S1x4x1x64, .f32⟩
  | 83 => ⟨S4x64, .f32⟩
  | 84 => ⟨S1x4x1x64, .f32⟩
  | 85 => ⟨S32x4x32x64, .f32⟩
  | 86 => ⟨S32x4x32x64, .f32⟩
  | 87 => ⟨S32x4x32x64, .f32⟩
  | 88 => ⟨S32x4x32x64, .f32⟩
  | 89 => ⟨S32x4x32x64, .f32⟩
  | 90 => ⟨S32x4x32x64, .f32⟩
  | 91 => ⟨S32x4x32x64, .f32⟩
  | 92 => ⟨S32x4x32x64, .f32⟩
  | 93 => ⟨S32x4x32x64, .f32⟩
  | 94 => ⟨S32x4x32x64, .f32⟩
  | 95 => ⟨S32x4x32x64, .f32⟩
  | 96 => ⟨S32x4x32x64, .f32⟩
  | 97 => ⟨S32x4x32x128, .f32⟩
  | 98 => ⟨S32x4x1x128, .f32⟩
  | 99 => ⟨S64, .f32⟩
  | 100 => ⟨S64, .f32⟩
  | 101 => ⟨S_, .f32⟩
  | 102 => ⟨S64, .f32⟩
  | 103 => ⟨S64, .f32⟩
  | 104 => ⟨S_, .f32⟩
  | 105 => ⟨S64, .f32⟩
  | 106 => ⟨S64, .f32⟩
  | 107 => ⟨S4, .f32⟩
  | 108 => ⟨S4x1, .f32⟩
  | 109 => ⟨S1x64, .f32⟩
  | 110 => ⟨S4x64, .f32⟩
  | 111 => ⟨S4x64, .f32⟩
  | 112 => ⟨S4x64, .f32⟩
  | 113 => ⟨S4x64, .f32⟩
  | 114 => ⟨S1x4x1x64, .f32⟩
  | 115 => ⟨S4x64, .f32⟩
  | 116 => ⟨S1x4x1x64, .f32⟩
  | 117 => ⟨S32x4x1x64, .f32⟩
  | 118 => ⟨S32x4x1x64, .f32⟩
  | 119 => ⟨S32x4x1x64, .f32⟩
  | 120 => ⟨S32x4x1x64, .f32⟩
  | 121 => ⟨S32x4x1x64, .f32⟩
  | 122 => ⟨S32x4x1x64, .f32⟩
  | 123 => ⟨S32x4x1x64, .f32⟩
  | 124 => ⟨S32x4x1x64, .f32⟩
  | 125 => ⟨S32x4x1x64, .f32⟩
  | 126 => ⟨S32x4x1x64, .f32⟩
  | 127 => ⟨S32x4x1x64, .f32⟩
  | _ => ⟨S32x4x4096, .f32⟩

abbrev hbmTy0_2 (i : Nat) : BufTy := match i % 128 with
  | 0 => ⟨S32x4x1x64, .f32⟩
  | 1 => ⟨S32x4x1x128, .f32⟩
  | 2 => ⟨S32x4x128, .f32⟩
  | 3 => ⟨S_, .f32⟩
  | 4 => ⟨S32x4x32, .f32⟩
  | 5 => ⟨S32x4x32, .f32⟩
  | 6 => ⟨S32x16x128x128, .f32⟩
  | 7 => ⟨S4x32x16x128, .f32⟩
  | 8 => ⟨S4x32x16x128, .f32⟩
  | 9 => ⟨S4x32x16x128, .f32⟩
  | 10 => ⟨S4x32x16, .f32⟩
  | 11 => ⟨S4x32x16, .f32⟩
  | 12 => ⟨S0x32x16x128, .f32⟩
  | 13 => ⟨S4x32x16x128, .f32⟩
  | 14 => ⟨S0x32x16x128, .f32⟩
  | 15 => ⟨S4x32x16x128, .f32⟩
  | 16 => ⟨S0x32x16x128, .f32⟩
  | 17 => ⟨S4x32x16x128, .f32⟩
  | 18 => ⟨S0x32x16, .f32⟩
  | 19 => ⟨S4x32x16, .f32⟩
  | 20 => ⟨S0x32x16, .f32⟩
  | 21 => ⟨S4x32x16, .f32⟩
  | 22 => ⟨S_, .f32⟩
  | 23 => ⟨S0x32x16x128, .f32⟩
  | 24 => ⟨S1x32x16x128, .f32⟩
  | 25 => ⟨S32x16x128, .f32⟩
  | 26 => ⟨S1x32x16x128, .f32⟩
  | 27 => ⟨S32x16x128, .f32⟩
  | 28 => ⟨S1x32x16x128, .f32⟩
  | 29 => ⟨S32x16x128, .f32⟩
  | 30 => ⟨S1x32x16, .f32⟩
  | 31 => ⟨S32x16, .f32⟩
  | 32 => ⟨S1x32x16, .f32⟩
  | 33 => ⟨S32x16, .f32⟩
  | 34 => ⟨S32x16, .f32⟩
  | 35 => ⟨S32x16x1x1, .f32⟩
  | 36 => ⟨S32x16x128x128, .f32⟩
  | 37 => ⟨S32x16x128x128, .f32⟩
  | 38 => ⟨S32x16x128, .f32⟩
  | 39 => ⟨S32x16x1, .f32⟩
  | 40 => ⟨S32x16x128, .f32⟩
  | 41 => ⟨S32x16x128, .f32⟩
  | 42 => ⟨S32x16x128x1, .f32⟩
  | 43 => ⟨S32x16x128, .f32⟩
  | 44 => ⟨S32x16x1x128, .f32⟩
  | 45 => ⟨S32x16x128x128, .f32⟩
  | 46 => ⟨S32x16x128x128, .f32⟩
  | 47 => ⟨S32x16x128x128, .f32⟩
  | 48 => ⟨S32x16x128x128, .f32⟩
  | 49 => ⟨S32x16x128, .f32⟩
  | 50 => ⟨S1x32x16x128, .f32⟩
  | 51 => ⟨S32x16x128, .f32⟩
  | 52 => ⟨S1x32x16x128, .f32⟩
  | 53 => ⟨S32x16x128, .f32⟩
  | 54 => ⟨S1x32x16x128, .f32⟩
  | 55 => ⟨S32x16x128, .f32⟩
  | 56 => ⟨S1x32x16, .f32⟩
  | 57 => ⟨S32x16, .f32⟩
  | 58 => ⟨S1x32x16, .f32⟩
  | 59 => ⟨S32x16, .f32⟩
  | 60 => ⟨S32x16, .f32⟩
  | 61 => ⟨S32x16x1x1, .f32⟩
  | 62 => ⟨S32x16x128x128, .f32⟩
  | 63 => ⟨S32x16x128x128, .f32⟩
  | 64 => ⟨S32x16x128, .f32⟩
  | 65 => ⟨S32x16x1, .f32⟩
  | 66 => ⟨S32x16x128, .f32⟩
  | 67 => ⟨S32x16x128, .f32⟩
  | 68 => ⟨S32x16x128x1, .f32⟩
  | 69 => ⟨S32x16x128, .f32⟩
  | 70 => ⟨S32x16x1x128, .f32⟩
  | 71 => ⟨S32x16x128x128, .f32⟩
  | 72 => ⟨S32x16x128x128, .f32⟩
  | 73 => ⟨S32x16x128x128, .f32⟩
  | 74 => ⟨S32x16x128x128, .f32⟩
  | 75 => ⟨S32x16x128, .f32⟩
  | 76 => ⟨S1x32x16x128, .f32⟩
  | 77 => ⟨S32x16x128, .f32⟩
  | 78 => ⟨S1x32x16x128, .f32⟩
  | 79 => ⟨S32x16x128, .f32⟩
  | 80 => ⟨S1x32x16x128, .f32⟩
  | 81 => ⟨S32x16x128, .f32⟩
  | 82 => ⟨S1x32x16, .f32⟩
  | 83 => ⟨S32x16, .f32⟩
  | 84 => ⟨S1x32x16, .f32⟩
  | 85 => ⟨S32x16, .f32⟩
  | 86 => ⟨S32x16, .f32⟩
  | 87 => ⟨S32x16x1x1, .f32⟩
  | 88 => ⟨S32x16x128x128, .f32⟩
  | 89 => ⟨S32x16x128x128, .f32⟩
  | 90 => ⟨S32x16x128, .f32⟩
  | 91 => ⟨S32x16x1, .f32⟩
  | 92 => ⟨S32x16x128, .f32⟩
  | 93 => ⟨S32x16x128, .f32⟩
  | 94 => ⟨S32x16x128x1, .f32⟩
  | 95 => ⟨S32x16x128, .f32⟩
  | 96 => ⟨S32x16x1x128, .f32⟩
  | 97 => ⟨S32x16x128x128, .f32⟩
  | 98 => ⟨S32x16x128x128, .f32⟩
  | 99 => ⟨S32x16x128x128, .f32⟩
  | 100 => ⟨S32x16x128x128, .f32⟩
  | 101 => ⟨S32x16x128, .f32⟩
  | 102 => ⟨S1x32x16x128, .f32⟩
  | 103 => ⟨S32x16x128, .f32⟩
  | 104 => ⟨S1x32x16x128, .f32⟩
  | 105 => ⟨S32x16x128, .f32⟩
  | 106 => ⟨S1x32x16x128, .f32⟩
  | 107 => ⟨S32x16x128, .f32⟩
  | 108 => ⟨S1x32x16, .f32⟩
  | 109 => ⟨S32x16, .f32⟩
  | 110 => ⟨S1x32x16, .f32⟩
  | 111 => ⟨S32x16, .f32⟩
  | 112 => ⟨S32x16, .f32⟩
  | 113 => ⟨S32x16x1x1, .f32⟩
  | 114 => ⟨S32x16x128x128, .f32⟩
  | 115 => ⟨S32x16x128x128, .f32⟩
  | 116 => ⟨S32x16x128, .f32⟩
  | 117 => ⟨S32x16x1, .f32⟩
  | 118 => ⟨S32x16x128, .f32⟩
  | 119 => ⟨S32x16x128, .f32⟩
  | 120 => ⟨S32x16x128x1, .f32⟩
  | 121 => ⟨S32x16x128, .f32⟩
  | 122 => ⟨S32x16x1x128, .f32⟩
  | 123 => ⟨S32x16x128x128, .f32⟩
  | 124 => ⟨S32x16x128x128, .f32⟩
  | 125 => ⟨S32x16x128x128, .f32⟩
  | 126 => ⟨S32x16x128x128, .f32⟩
  | 127 => ⟨S32x16x128, .f32⟩
  | _ => ⟨S32x4x4096, .f32⟩

abbrev hbmTy0_3 (i : Nat) : BufTy := match i % 128 with
  | 0 => ⟨S1x32x16x128, .f32⟩
  | 1 => ⟨S1x32x16x128, .f32⟩
  | 2 => ⟨S1x32x16x128, .f32⟩
  | 3 => ⟨S1x32x16x128, .f32⟩
  | 4 => ⟨S4x32x16x128, .f32⟩
  | 5 => ⟨S4x32x16x128, .f32⟩
  | 6 => ⟨S32x4x16x128, .f32⟩
  | _ => ⟨S32x4x4096, .f32⟩

abbrev hbmTy (i : Nat) : BufTy := match i / 128 with
  | 0 => hbmTy0_0 i
  | 1 => hbmTy0_1 i
  | 2 => hbmTy0_2 i
  | 3 => hbmTy0_3 i
  | _ => ⟨S32x4x4096, .f32⟩

abbrev bufTy : (tb : Table) → Fin (tcTables nBuf tb) → BufTy
  | .hbm, ⟨i, _⟩ => hbmTy i
  | _, _ => ⟨S32x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_0 : Ref sig .tc := ⟨.hbm, 77, rfl⟩
abbrev main_v60 : Ref sig .tc := ⟨.hbm, 78, rfl⟩
abbrev main_v61 : Ref sig .tc := ⟨.hbm, 79, rfl⟩
abbrev main_cst_1 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_2 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_3 : Ref sig .tc := ⟨.hbm, 90, rfl⟩
abbrev main_v70 : Ref sig .tc := ⟨.hbm, 91, rfl⟩
abbrev main_v71 : Ref sig .tc := ⟨.hbm, 92, rfl⟩
abbrev main_cst_4 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_5 : Ref sig .tc := ⟨.hbm, 101, rfl⟩
abbrev main_v79 : Ref sig .tc := ⟨.hbm, 102, rfl⟩
abbrev main_v80 : Ref sig .tc := ⟨.hbm, 103, rfl⟩
abbrev main_cst_6 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_call1_cst : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_v8 : Ref sig .tc := ⟨.hbm, 121, rfl⟩
abbrev main_call1_v9 : Ref sig .tc := ⟨.hbm, 122, rfl⟩
abbrev main_call1_v10 : Ref sig .tc := ⟨.hbm, 123, rfl⟩
abbrev main_call1_v11 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_7 : Ref sig .tc := ⟨.hbm, 132, rfl⟩
abbrev main_v95 : Ref sig .tc := ⟨.hbm, 133, rfl⟩
abbrev main_v96 : Ref sig .tc := ⟨.hbm, 134, rfl⟩
abbrev main_cst_8 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_9 : Ref sig .tc := ⟨.hbm, 164, rfl⟩
abbrev main_v125 : Ref sig .tc := ⟨.hbm, 165, rfl⟩
abbrev main_v126 : Ref sig .tc := ⟨.hbm, 166, rfl⟩
abbrev main_cst_10 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_11 : Ref sig .tc := ⟨.hbm, 197, rfl⟩
abbrev main_v156 : Ref sig .tc := ⟨.hbm, 198, rfl⟩
abbrev main_v157 : Ref sig .tc := ⟨.hbm, 199, rfl⟩
abbrev main_cst_12 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_cst_13 : Ref sig .tc := ⟨.hbm, 229, rfl⟩
abbrev main_v186 : Ref sig .tc := ⟨.hbm, 230, rfl⟩
abbrev main_v187 : Ref sig .tc := ⟨.hbm, 231, rfl⟩
abbrev main_cst_14 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_cst_15 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_cst_16 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_v267 : Ref sig .tc := ⟨.hbm, 314, rfl⟩
abbrev main_v268 : Ref sig .tc := ⟨.hbm, 315, rfl⟩
abbrev main_v269 : Ref sig .tc := ⟨.hbm, 316, rfl⟩
abbrev main_v270 : Ref sig .tc := ⟨.hbm, 317, rfl⟩
abbrev main_v271 : Ref sig .tc := ⟨.hbm, 318, rfl⟩
abbrev main_v272 : Ref sig .tc := ⟨.hbm, 319, rfl⟩
abbrev main_v273 : Ref sig .tc := ⟨.hbm, 320, rfl⟩
abbrev main_v274 : Ref sig .tc := ⟨.hbm, 321, rfl⟩
abbrev main_v275 : Ref sig .tc := ⟨.hbm, 322, rfl⟩
abbrev main_v276 : Ref sig .tc := ⟨.hbm, 323, rfl⟩
abbrev main_v277 : Ref sig .tc := ⟨.hbm, 324, rfl⟩
abbrev main_v278 : Ref sig .tc := ⟨.hbm, 325, rfl⟩
abbrev main_v279 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_v284 : Ref sig .tc := ⟨.hbm, 331, rfl⟩
abbrev main_v285 : Ref sig .tc := ⟨.hbm, 332, rfl⟩
abbrev main_v286 : Ref sig .tc := ⟨.hbm, 333, rfl⟩
abbrev main_v287 : Ref sig .tc := ⟨.hbm, 334, rfl⟩
abbrev main_v288 : Ref sig .tc := ⟨.hbm, 335, rfl⟩
abbrev main_v289 : Ref sig .tc := ⟨.hbm, 336, rfl⟩
abbrev main_v290 : Ref sig .tc := ⟨.hbm, 337, rfl⟩
abbrev main_v291 : Ref sig .tc := ⟨.hbm, 338, rfl⟩
abbrev main_v292 : Ref sig .tc := ⟨.hbm, 339, rfl⟩
abbrev main_v293 : Ref sig .tc := ⟨.hbm, 340, rfl⟩
abbrev main_v294 : Ref sig .tc := ⟨.hbm, 341, rfl⟩
abbrev main_v295 : Ref sig .tc := ⟨.hbm, 342, rfl⟩
abbrev main_v296 : Ref sig .tc := ⟨.hbm, 343, rfl⟩
abbrev main_v297 : Ref sig .tc := ⟨.hbm, 344, rfl⟩
abbrev main_v298 : Ref sig .tc := ⟨.hbm, 345, rfl⟩
abbrev main_v299 : Ref sig .tc := ⟨.hbm, 346, rfl⟩
abbrev main_v300 : Ref sig .tc := ⟨.hbm, 347, rfl⟩
abbrev main_v301 : Ref sig .tc := ⟨.hbm, 348, rfl⟩
abbrev main_v302 : Ref sig .tc := ⟨.hbm, 349, rfl⟩
abbrev main_v303 : Ref sig .tc := ⟨.hbm, 350, rfl⟩
abbrev main_v304 : Ref sig .tc := ⟨.hbm, 351, rfl⟩
abbrev main_v305 : Ref sig .tc := ⟨.hbm, 352, rfl⟩
abbrev main_v306 : Ref sig .tc := ⟨.hbm, 353, rfl⟩
abbrev main_v307 : Ref sig .tc := ⟨.hbm, 354, rfl⟩
abbrev main_v308 : Ref sig .tc := ⟨.hbm, 355, rfl⟩
abbrev main_v309 : Ref sig .tc := ⟨.hbm, 356, rfl⟩
abbrev main_v310 : Ref sig .tc := ⟨.hbm, 357, rfl⟩
abbrev main_v311 : Ref sig .tc := ⟨.hbm, 358, rfl⟩
abbrev main_v312 : Ref sig .tc := ⟨.hbm, 359, rfl⟩
abbrev main_v313 : Ref sig .tc := ⟨.hbm, 360, rfl⟩
abbrev main_v314 : Ref sig .tc := ⟨.hbm, 361, rfl⟩
abbrev main_v315 : Ref sig .tc := ⟨.hbm, 362, rfl⟩
abbrev main_v316 : Ref sig .tc := ⟨.hbm, 363, rfl⟩
abbrev main_v317 : Ref sig .tc := ⟨.hbm, 364, rfl⟩
abbrev main_v318 : Ref sig .tc := ⟨.hbm, 365, rfl⟩
abbrev main_v319 : Ref sig .tc := ⟨.hbm, 366, rfl⟩
abbrev main_v320 : Ref sig .tc := ⟨.hbm, 367, rfl⟩
abbrev main_v321 : Ref sig .tc := ⟨.hbm, 368, rfl⟩
abbrev main_v322 : Ref sig .tc := ⟨.hbm, 369, rfl⟩
abbrev main_v323 : Ref sig .tc := ⟨.hbm, 370, rfl⟩
abbrev main_v324 : Ref sig .tc := ⟨.hbm, 371, rfl⟩
abbrev main_v325 : Ref sig .tc := ⟨.hbm, 372, rfl⟩
abbrev main_v326 : Ref sig .tc := ⟨.hbm, 373, rfl⟩
abbrev main_v327 : Ref sig .tc := ⟨.hbm, 374, rfl⟩
abbrev main_v328 : Ref sig .tc := ⟨.hbm, 375, rfl⟩
abbrev main_v329 : Ref sig .tc := ⟨.hbm, 376, rfl⟩
abbrev main_v330 : Ref sig .tc := ⟨.hbm, 377, rfl⟩
abbrev main_v331 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_v336 : Ref sig .tc := ⟨.hbm, 383, rfl⟩
abbrev main_v337 : Ref sig .tc := ⟨.hbm, 384, rfl⟩
abbrev main_v338 : Ref sig .tc := ⟨.hbm, 385, rfl⟩
abbrev main_v339 : Ref sig .tc := ⟨.hbm, 386, rfl⟩
abbrev main_v340 : Ref sig .tc := ⟨.hbm, 387, rfl⟩
abbrev main_v341 : Ref sig .tc := ⟨.hbm, 388, rfl⟩
abbrev main_v342 : Ref sig .tc := ⟨.hbm, 389, rfl⟩
abbrev main_v343 : Ref sig .tc := ⟨.hbm, 390, rfl⟩

abbrev nD : Nat := 1
abbrev τ : Topo := Topo.v7x

variable {F : FTy → Type} [FloatOps F]
-- ==== Kernel4.lean ====
abbrev S1x8192x4096 : Shape := ⟨3, ![1, 8192, 4096]⟩
abbrev S1x8192x16x128 : Shape := ⟨4, ![1, 8192, 16, 128]⟩
abbrev S1x8192x2048 : Shape := ⟨3, ![1, 8192, 2048]⟩
abbrev S1x128 : Shape := ⟨2, ![1, 128]⟩
abbrev S1x2048x4096 : Shape := ⟨3, ![1, 2048, 4096]⟩
abbrev S1x4096x4096 : Shape := ⟨3, ![1, 4096, 4096]⟩
abbrev S1x4096 : Shape := ⟨2, ![1, 4096]⟩
abbrev S1x4096x2048 : Shape := ⟨3, ![1, 4096, 2048]⟩
abbrev S128 : Shape := ⟨1, ![128]⟩
abbrev S_ : Shape := ⟨0, ![]⟩
abbrev S1x8192x16 : Shape := ⟨3, ![1, 8192, 16]⟩
abbrev S1x8192x16x1 : Shape := ⟨4, ![1, 8192, 16, 1]⟩
abbrev S1x1x1x128 : Shape := ⟨4, ![1, 1, 1, 128]⟩
abbrev S2048x4096 : Shape := ⟨2, ![2048, 4096]⟩
abbrev S8192x2048 : Shape := ⟨2, ![8192, 2048]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩
abbrev S4096x4096 : Shape := ⟨2, ![4096, 4096]⟩
abbrev S1024x4096 : Shape := ⟨2, ![1024, 4096]⟩
abbrev S4096x1024 : Shape := ⟨2, ![4096, 1024]⟩
abbrev S4096 : Shape := ⟨1, ![4096]⟩
abbrev S1x8192 : Shape := ⟨2, ![1, 8192]⟩
abbrev S1x8192x1 : Shape := ⟨3, ![1, 8192, 1]⟩
abbrev S1x1x4096 : Shape := ⟨3, ![1, 1, 4096]⟩
abbrev S4096x2048 : Shape := ⟨2, ![4096, 2048]⟩

abbrev nBuf : Space → Nat
  | .hbm => 133
  | .vmem => 24
  | .smem => 0
  | _ => 0

abbrev hbmTy0_0 (i : Nat) : BufTy := match i % 128 with
  | 0 => ⟨S1x8192x4096, .f32⟩
  | 1 => ⟨S1x8192x16x128, .f32⟩
  | 2 => ⟨S1x8192x2048, .f32⟩
  | 3 => ⟨S1x8192x2048, .f32⟩
  | 4 => ⟨S1x8192x4096, .f32⟩
  | 5 => ⟨S1x8192x4096, .f32⟩
  | 6 => ⟨S1x128, .f32⟩
  | 7 => ⟨S1x2048x4096, .f32⟩
  | 8 => ⟨S1x2048x4096, .f32⟩
  | 9 => ⟨S1x4096x4096, .f32⟩
  | 10 => ⟨S1x4096, .f32⟩
  | 11 => ⟨S1x4096, .f32⟩
  | 12 => ⟨S1x4096x2048, .f32⟩
  | 13 => ⟨S128, .f32⟩
  | 14 => ⟨S1x8192x16x128, .f32⟩
  | 15 => ⟨S_, .f32⟩
  | 16 => ⟨S1x8192x16, .f32⟩
  | 17 => ⟨S1x8192x16x1, .f32⟩
  | 18 => ⟨S_, .f32⟩
  | 19 => ⟨S1x8192x16x1, .f32⟩
  | 20 => ⟨S1x8192x16x1, .f32⟩
  | 21 => ⟨S_, .f32⟩
  | 22 => ⟨S1x8192x16x1, .f32⟩
  | 23 => ⟨S1x8192x16x1, .f32⟩
  | 24 => ⟨S1x8192x16x1, .f32⟩
  | 25 => ⟨S1x8192x16x128, .f32⟩
  | 26 => ⟨S1x8192x16x128, .f32⟩
  | 27 => ⟨S1x1x1x128, .f32⟩
  | 28 => ⟨S1x8192x16x128, .f32⟩
  | 29 => ⟨S1x8192x16x128, .f32⟩
  | 30 => ⟨S1x8192x2048, .f32⟩
  | 31 => ⟨S1x8192x2048, .f32⟩
  | 32 => ⟨S1x8192x2048, .f32⟩
  | 33 => ⟨S_, .f32⟩
  | 34 => ⟨S1x8192x2048, .f32⟩
  | 35 => ⟨S1x8192x2048, .f32⟩
  | 36 => ⟨S_, .f32⟩
  | 37 => ⟨S1x8192x2048, .f32⟩
  | 38 => ⟨S1x8192x2048, .f32⟩
  | 39 => ⟨S1x8192x2048, .f32⟩
  | 40 => ⟨S1x8192x2048, .f32⟩
  | 41 => ⟨S1x8192x4096, .f32⟩
  | 42 => ⟨S1x8192x4096, .f32⟩
  | 43 => ⟨S_, .f32⟩
  | 44 => ⟨S1x8192x4096, .f32⟩
  | 45 => ⟨S1x8192x4096, .f32⟩
  | 46 => ⟨S_, .f32⟩
  | 47 => ⟨S1x8192x4096, .f32⟩
  | 48 => ⟨S1x8192x4096, .f32⟩
  | 49 => ⟨S2048x4096, .f32⟩
  | 50 => ⟨S2048x4096, .bf16⟩
  | 51 => ⟨S_, .i32⟩
  | 52 => ⟨S_, .bf16⟩
  | 53 => ⟨S2048x4096, .bf16⟩
  | 54 => ⟨S8192x2048, .f32⟩
  | 55 => ⟨S8192x2048, .bf16⟩
  | 56 => ⟨S8192x4096, .f32⟩
  | 57 => ⟨S1x8192x4096, .f32⟩
  | 58 => ⟨S1x8192x4096, .f32⟩
  | 59 => ⟨S1x8192x4096, .f32⟩
  | 60 => ⟨S1x8192x4096, .f32⟩
  | 61 => ⟨S_, .f32⟩
  | 62 => ⟨S1x8192x4096, .f32⟩
  | 63 => ⟨S1x8192x4096, .f32⟩
  | 64 => ⟨S_, .f32⟩
  | 65 => ⟨S1x8192x4096, .f32⟩
  | 66 => ⟨S1x8192x4096, .f32⟩
  | 67 => ⟨S2048x4096, .f32⟩
  | 68 => ⟨S2048x4096, .bf16⟩
  | 69 => ⟨S_, .i32⟩
  | 70 => ⟨S_, .bf16⟩
  | 71 => ⟨S2048x4096, .bf16⟩
  | 72 => ⟨S8192x2048, .f32⟩
  | 73 => ⟨S8192x2048, .bf16⟩
  | 74 => ⟨S8192x4096, .f32⟩
  | 75 => ⟨S1x8192x4096, .f32⟩
  | 76 => ⟨S1x8192x4096, .f32⟩
  | 77 => ⟨S1x8192x4096, .f32⟩
  | 78 => ⟨S4096x4096, .f32⟩
  | 79 => ⟨S4096x4096, .bf16⟩
  | 80 => ⟨S_, .i32⟩
  | 81 => ⟨S_, .bf16⟩
  | 82 => ⟨S4096x4096, .bf16⟩
  | 83 => ⟨S8192x4096, .f32⟩
  | 84 => ⟨S8192x4096, .bf16⟩
  | 85 => ⟨S8192x4096, .f32⟩
  | 86 => ⟨S1x8192x4096, .f32⟩
  | 87 => ⟨S_, .f32⟩
  | 88 => ⟨S1x8192x4096, .f32⟩
  | 89 => ⟨S1x8192x4096, .f32⟩
  | 90 => ⟨S1x8192x4096, .f32⟩
  | 91 => ⟨S4096, .f32⟩
  | 92 => ⟨S4096, .f32⟩
  | 93 => ⟨S_, .f32⟩
  | 94 => ⟨S1x8192, .f32⟩
  | 95 => ⟨S1x8192x1, .f32⟩
  | 96 => ⟨S_, .f32⟩
  | 97 => ⟨S1x8192x1, .f32⟩
  | 98 => ⟨S1x8192x1, .f32⟩
  | 99 => ⟨S1x8192x4096, .f32⟩
  | 100 => ⟨S1x8192x4096, .f32⟩
  | 101 => ⟨S1x8192x4096, .f32⟩
  | 102 => ⟨S_, .f32⟩
  | 103 => ⟨S1x8192, .f32⟩
  | 104 => ⟨S1x8192x1, .f32⟩
  | 105 => ⟨S_, .f32⟩
  | 106 => ⟨S1x8192x1, .f32⟩
  | 107 => ⟨S1x8192x1, .f32⟩
  | 108 => ⟨S1x8192x4096, .f32⟩
  | 109 => ⟨S1x8192x4096, .f32⟩
  | 110 => ⟨S_, .f32⟩
  | 111 => ⟨S1x8192x1, .f32⟩
  | 112 => ⟨S1x8192x1, .f32⟩
  | 113 => ⟨S1x8192x1, .f32⟩
  | 114 => ⟨S1x8192x4096, .f32⟩
  | 115 => ⟨S1x8192x4096, .f32⟩
  | 116 => ⟨S1x1x4096, .f32⟩
  | 117 => ⟨S1x8192x4096, .f32⟩
  | 118 => ⟨S1x8192x4096, .f32⟩
  | 119 => ⟨S1x1x4096, .f32⟩
  | 120 => ⟨S1x8192x4096, .f32⟩
  | 121 => ⟨S1x8192x4096, .f32⟩
  | 122 => ⟨S8192x4096, .f32⟩
  | 123 => ⟨S_, .i32⟩
  | 124 => ⟨S_, .f32⟩
  | 125 => ⟨S8192x4096, .f32⟩
  | 126 => ⟨S8192x4096, .bf16⟩
  | 127 => ⟨S4096x2048, .f32⟩
  | _ => ⟨S1x8192x4096, .f32⟩

abbrev hbmTy0_1 (i : Nat) : BufTy := match i % 128 with
  | 0 => ⟨S4096x2048, .bf16⟩
  | 1 => ⟨S_, .i32⟩
  | 2 => ⟨S_, .bf16⟩
  | 3 => ⟨S4096x2048, .bf16⟩
  | 4 => ⟨S8192x2048, .f32⟩
  | _ => ⟨S1x8192x4096, .f32⟩

abbrev hbmTy (i : Nat) : BufTy := match i / 128 with
  | 0 => hbmTy0_0 i
  | 1 => hbmTy0_1 i
  | _ => ⟨S1x8192x4096, .f32⟩

abbrev bufTy : (tb : Table) → Fin (tcTables nBuf tb) → BufTy
  | .hbm, ⟨i, _⟩ => hbmTy i
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x4096, .bf16⟩
  | .local _ .vmem, ⟨13, _⟩ => ⟨S1024x4096, .bf16⟩
  | .local _ .vmem, ⟨14, _⟩ => ⟨S4096x1024, .bf16⟩
  | .local _ .vmem, ⟨15, _⟩ => ⟨S4096x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x4096, .bf16⟩
  | .local _ .vmem, ⟨19, _⟩ => ⟨S1024x4096, .bf16⟩
  | .local _ .vmem, ⟨20, _⟩ => ⟨S4096x1024, .bf16⟩
  | .local _ .vmem, ⟨21, _⟩ => ⟨S4096x1024, .bf16⟩
  | .local _ .vmem, ⟨22, _⟩ => ⟨S1024x1024, .f32⟩
  | .local _ .vmem, ⟨23, _⟩ => ⟨S1024x1024, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_cst_3 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c : Ref sig .tc := ⟨.hbm, 51, rfl⟩
abbrev main_call1_v0 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_4 : Ref sig .tc := ⟨.hbm, 61, rfl⟩
abbrev main_v33 : Ref sig .tc := ⟨.hbm, 62, rfl⟩
abbrev main_v34 : Ref sig .tc := ⟨.hbm, 63, rfl⟩
abbrev main_cst_5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_6 : Ref sig .tc := ⟨.hbm, 69, rfl⟩
abbrev main_call2_v0 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_7 : Ref sig .tc := ⟨.hbm, 80, rfl⟩
abbrev main_call3_v0 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_8 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_9 : Ref sig .tc := ⟨.hbm, 93, rfl⟩
abbrev main_v58 : Ref sig .tc := ⟨.hbm, 94, rfl⟩
abbrev main_v59 : Ref sig .tc := ⟨.hbm, 95, rfl⟩
abbrev main_cst_10 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_11 : Ref sig .tc := ⟨.hbm, 102, rfl⟩
abbrev main_v65 : Ref sig .tc := ⟨.hbm, 103, rfl⟩
abbrev main_v66 : Ref sig .tc := ⟨.hbm, 104, rfl⟩
abbrev main_cst_12 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_13 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_c_14 : Ref sig .tc := ⟨.hbm, 123, rfl⟩
abbrev main_call4_v0 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_c_15 : Ref sig .tc := ⟨.hbm, 129, rfl⟩
abbrev main_call5_v0 : Ref sig .tc := ⟨.hbm, 130, rfl⟩
abbrev main_v87 : Ref sig .tc := ⟨.hbm, 131, rfl⟩
abbrev main_v88 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference4Ideal.lean ====
abbrev S1x8192x4096 : Shape := ⟨3, ![1, 8192, 4096]⟩
abbrev S1x8192x16x128 : Shape := ⟨4, ![1, 8192, 16, 128]⟩
abbrev S1x8192x2048 : Shape := ⟨3, ![1, 8192, 2048]⟩
abbrev S1x128 : Shape := ⟨2, ![1, 128]⟩
abbrev S1x2048x4096 : Shape := ⟨3, ![1, 2048, 4096]⟩
abbrev S1x4096x4096 : Shape := ⟨3, ![1, 4096, 4096]⟩
abbrev S1x4096 : Shape := ⟨2, ![1, 4096]⟩
abbrev S1x4096x2048 : Shape := ⟨3, ![1, 4096, 2048]⟩
abbrev S_ : Shape := ⟨0, ![]⟩
abbrev S1x8192x16 : Shape := ⟨3, ![1, 8192, 16]⟩
abbrev S1x8192x16x1 : Shape := ⟨4, ![1, 8192, 16, 1]⟩
abbrev S128 : Shape := ⟨1, ![128]⟩
abbrev S1x1x1x128 : Shape := ⟨4, ![1, 1, 1, 128]⟩
abbrev S2048x4096 : Shape := ⟨2, ![2048, 4096]⟩
abbrev S4096x4096 : Shape := ⟨2, ![4096, 4096]⟩
abbrev S1x8192 : Shape := ⟨2, ![1, 8192]⟩
abbrev S1x8192x1 : Shape := ⟨3, ![1, 8192, 1]⟩
abbrev S4096 : Shape := ⟨1, ![4096]⟩
abbrev S1x1x4096 : Shape := ⟨3, ![1, 1, 4096]⟩
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 104
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S1x8192x16x128, .f32⟩
  | .hbm, ⟨2, _⟩ => ⟨S1x8192x2048, .f32⟩
  | .hbm, ⟨3, _⟩ => ⟨S1x8192x2048, .f32⟩
  | .hbm, ⟨4, _⟩ => ⟨S1x8192x4096, .f32⟩
  | .hbm, ⟨5, _⟩ => ⟨S1x8192x4096, .f32⟩
  | .hbm, ⟨6, _⟩ => ⟨S1x128, .f32⟩
  | .hbm, ⟨7, _⟩ => ⟨S1x2048x4096, .f32⟩
  | .hbm, ⟨8, _⟩ => ⟨S1x2048x4096, .f32⟩
  | .hbm, ⟨9, _⟩ => ⟨S1x4096x4096, .f32⟩
  | .hbm, ⟨10, _⟩ => ⟨S1x4096, .f32⟩
  | .hbm, ⟨11, _⟩ => ⟨S1x4096, .f32⟩
  | .hbm, ⟨12, _⟩ => ⟨S1x4096x2048, .f32⟩
  | .hbm, ⟨13, _⟩ => ⟨S1x8192x16x128, .f32⟩
  | .hbm, ⟨14, _⟩ => ⟨S_, .f32⟩
  | .hbm, ⟨15, _⟩ => ⟨S1x8192x16, .f32⟩
  | .hbm, ⟨16, _⟩ => ⟨S1x8192x16x1, .f32⟩
  | .hbm, ⟨17, _⟩ => ⟨S_, .f32⟩
  | .hbm, ⟨18, _⟩ => ⟨S1x8192x16x1, .f32⟩
  | .hbm, ⟨19, _⟩ => ⟨S1x8192x16x1, .f32⟩
  | .hbm, ⟨20, _⟩ => ⟨S_, .f32⟩
  | .hbm, ⟨21, _⟩ => ⟨S1x8192x16x1, .f32⟩
  | .hbm, ⟨22, _⟩ => ⟨S1x8192x16x1, .f32⟩
  | .hbm, ⟨23, _⟩ => ⟨S1x8192x16x1, .f32⟩
  | .hbm, ⟨24, _⟩ => ⟨S1x8192x16x128, .f32⟩
  | .hbm, ⟨25, _⟩ => ⟨S1x8192x16x128, .f32⟩
  | .hbm, ⟨26, _⟩ => ⟨S128, .f32⟩
  | .hbm, ⟨27, _⟩ => ⟨S1x1x1x128, .f32⟩
  | .hbm, ⟨28, _⟩ => ⟨S1x8192x16x128, .f32⟩
  | .hbm, ⟨29, _⟩ => ⟨S1x8192x16x128, .f32⟩
  | .hbm, ⟨30, _⟩ => ⟨S1x8192x2048, .f32⟩
  | .hbm, ⟨31, _⟩ => ⟨S1x8192x2048, .f32⟩
  | .hbm, ⟨32, _⟩ => ⟨S1x8192x2048, .f32⟩
  | .hbm, ⟨33, _⟩ => ⟨S_, .f32⟩
  | .hbm, ⟨34, _⟩ => ⟨S1x8192x2048, .f32⟩
  | .hbm, ⟨35, _⟩ => ⟨S1x8192x2048, .f32⟩
  | .hbm, ⟨36, _⟩ => ⟨S_, .f32⟩
  | .hbm, ⟨37, _⟩ => ⟨S1x8192x2048, .f32⟩
  | .hbm, ⟨38, _⟩ => ⟨S1x8192x2048, .f32⟩
  | .hbm, ⟨39, _⟩ => ⟨S1x8192x2048, .f32⟩
  | .hbm, ⟨40, _⟩ => ⟨S1x8192x2048, .f32⟩
  | .hbm, ⟨41, _⟩ => ⟨S1x8192x4096, .f32⟩
  | .hbm, ⟨42, _⟩ => ⟨S1x8192x4096, .f32⟩
  | .hbm, ⟨43, _⟩ => ⟨S_, .f32⟩
  | .hbm, ⟨44, _⟩ => ⟨S1x8192x4096, .f32⟩
  | .hbm, ⟨45, _⟩ => ⟨S1x8192x4096, .f32⟩
  | .hbm, ⟨46, _⟩ => ⟨S_, .f32⟩
  | .hbm, ⟨47, _⟩ => ⟨S1x8192x4096, .f32⟩
  | .hbm, ⟨48, _⟩ => ⟨S1x8192x4096, .f32⟩
  | .hbm, ⟨49, _⟩ => ⟨S2048x4096, .f32⟩
  | .hbm, ⟨50, _⟩ => ⟨S1x8192x4096, .f32⟩
  | .hbm, ⟨51, _⟩ => ⟨S1x8192x4096, .f32⟩
  | .hbm, ⟨52, _⟩ => ⟨S1x8192x4096, .f32⟩
  | .hbm, ⟨53, _⟩ => ⟨S1x8192x4096, .f32⟩
  | .hbm, ⟨54, _⟩ => ⟨S_, .f32⟩
  | .hbm, ⟨55, _⟩ => ⟨S1x8192x4096, .f32⟩
  | .hbm, ⟨56, _⟩ => ⟨S1x8192x4096, .f32⟩
  | .hbm, ⟨57, _⟩ => ⟨S_, .f32⟩
  | .hbm, ⟨58, _⟩ => ⟨S1x8192x4096, .f32⟩
  | .hbm, ⟨59, _⟩ => ⟨S1x8192x4096, .f32⟩
  | .hbm, ⟨60, _⟩ => ⟨S2048x4096, .f32⟩
  | .hbm, ⟨61, _⟩ => ⟨S1x8192x4096, .f32⟩
  | .hbm, ⟨62, _⟩ => ⟨S1x8192x4096, .f32⟩
  | .hbm, ⟨63, _⟩ => ⟨S1x8192x4096, .f32⟩
  | .hbm, ⟨64, _⟩ => ⟨S4096x4096, .f32⟩
  | .hbm, ⟨65, _⟩ => ⟨S1x8192x4096, .f32⟩
  | .hbm, ⟨66, _⟩ => ⟨S_, .f32⟩
  | .hbm, ⟨67, _⟩ => ⟨S1x8192x4096, .f32⟩
  | .hbm, ⟨68, _⟩ => ⟨S1x8192x4096, .f32⟩
  | .hbm, ⟨69, _⟩ => ⟨S1x8192x4096, .f32⟩
  | .hbm, ⟨70, _⟩ => ⟨S_, .f32⟩
  | .hbm, ⟨71, _⟩ => ⟨S1x8192, .f32⟩
  | .hbm, ⟨72, _⟩ => ⟨S1x8192x1, .f32⟩
  | .hbm, ⟨73, _⟩ => ⟨S_, .f32⟩
  | .hbm, ⟨74, _⟩ => ⟨S1x8192x1, .f32⟩
  | .hbm, ⟨75, _⟩ => ⟨S1x8192x1, .f32⟩
  | .hbm, ⟨76, _⟩ => ⟨S1x8192x4096, .f32⟩
  | .hbm, ⟨77, _⟩ => ⟨S1x8192x4096, .f32⟩
  | .hbm, ⟨78, _⟩ => ⟨S1x8192x4096, .f32⟩
  | .hbm, ⟨79, _⟩ => ⟨S_, .f32⟩
  | .hbm, ⟨80, _⟩ => ⟨S1x8192, .f32⟩
  | .hbm, ⟨81, _⟩ => ⟨S1x8192x1, .f32⟩
  | .hbm, ⟨82, _⟩ => ⟨S_, .f32⟩
  | .hbm, ⟨83, _⟩ => ⟨S1x8192x1, .f32⟩
  | .hbm, ⟨84, _⟩ => ⟨S1x8192x1, .f32⟩
  | .hbm, ⟨85, _⟩ => ⟨S1x8192x4096, .f32⟩
  | .hbm, ⟨86, _⟩ => ⟨S1x8192x4096, .f32⟩
  | .hbm, ⟨87, _⟩ => ⟨S_, .f32⟩
  | .hbm, ⟨88, _⟩ => ⟨S1x8192x1, .f32⟩
  | .hbm, ⟨89, _⟩ => ⟨S1x8192x1, .f32⟩
  | .hbm, ⟨90, _⟩ => ⟨S1x8192x1, .f32⟩
  | .hbm, ⟨91, _⟩ => ⟨S1x8192x4096, .f32⟩
  | .hbm, ⟨92, _⟩ => ⟨S1x8192x4096, .f32⟩
  | .hbm, ⟨93, _⟩ => ⟨S4096, .f32⟩
  | .hbm, ⟨94, _⟩ => ⟨S1x1x4096, .f32⟩
  | .hbm, ⟨95, _⟩ => ⟨S1x8192x4096, .f32⟩
  | .hbm, ⟨96, _⟩ => ⟨S1x8192x4096, .f32⟩
  | .hbm, ⟨97, _⟩ => ⟨S4096, .f32⟩
  | .hbm, ⟨98, _⟩ => ⟨S1x1x4096, .f32⟩
  | .hbm, ⟨99, _⟩ => ⟨S1x8192x4096, .f32⟩
  | .hbm, ⟨100, _⟩ => ⟨S1x8192x4096, .f32⟩
  | .hbm, ⟨101, _⟩ => ⟨S8192x4096, .f32⟩
  | .hbm, ⟨102, _⟩ => ⟨S4096x2048, .f32⟩
  | .hbm, ⟨103, _⟩ => ⟨S8192x2048, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_cst_3 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]
-- ==== Proof.ScanPoint.lean ====
/- One grid point of the scan, read as mathematics. The body works the sixteen heads one after the other: it stores a head's
   output tile and that head's plane of the state. Here the lists of stores are brought to one uniform form, a recursion over
   the heads, whatever way the body's text is cut. -/
module

public import proofs.«01_k».proof.Proof.Gen.KernelIdeal.Value
public import Idealize.ShloMosaic.Lib.Pointwise

@[expose] public section

noncomputable section

namespace Cert.Scan

open Idealize.ShloMosaic Idealize.ShloMosaic.TcCoe Idealize.SL.Sem
open Cert.KernelIdeal Cert.KernelIdeal.Gen

variable {F : FTy → Type} [FloatOps F]

/-! ## The boxes of a head -/

theorem inState (h : ℕ) (hh : h < 16) : ∀ a, (![h, 0, 0] : Fin 3 → ℕ) a + S1x128x128.size a ≤ S16x128x128.size a := by
  intro a; fin_cases a
  · show h + 1 ≤ 16; omega
  · show 0 + 128 ≤ 128; omega
  · show 0 + 128 ≤ 128; omega

theorem inTile (h : ℕ) (hh : h < 16) : ∀ a, (![0, h, 0, 0] : Fin 4 → ℕ) a + S1x1x64x128.size a ≤ S1x16x64x128.size a := by
  intro a; fin_cases a
  · show 0 + 1 ≤ 1; omega
  · show h + 1 ≤ 16; omega
  · show 0 + 64 ≤ 64; omega
  · show 0 + 128 ≤ 128; omega

theorem inScore (h : ℕ) (hh : h < 16) : ∀ a, (![0, h, 0, 0] : Fin 4 → ℕ) a + S1x1x64x64.size a ≤ S1x16x64x64.size a := by
  intro a; fin_cases a
  · show 0 + 1 ≤ 1; omega
  · show h + 1 ≤ 16; omega
  · show 0 + 64 ≤ 64; omega
  · show 0 + 64 ≤ 64; omega

theorem inRow (h : ℕ) (hh : h < 16) : ∀ a, (![0, h, 0, 0] : Fin 4 → ℕ) a + S1x1x1x128.size a ≤ S1x16x1x128.size a := by
  intro a; fin_cases a
  · show 0 + 1 ≤ 1; omega
  · show h + 1 ≤ 16; omega
  · show 0 + 1 ≤ 1; omega
  · show 0 + 128 ≤ 128; omega

/-- Head `h`'s plane of the state. -/
abbrev boxState (h : ℕ) (hh : h < 16) : Rect S16x128x128 := Rect.unit ![h, 0, 0] S1x128x128.size (inState h hh)
/-- Head `h`'s tile of a chunk. -/
abbrev boxTile (h : ℕ) (hh : h < 16) : Rect S1x16x64x128 := Rect.unit ![0, h, 0, 0] S1x1x64x128.size (inTile h hh)
/-- Head `h`'s scores within a chunk. -/
abbrev boxScore (h : ℕ) (hh : h < 16) : Rect S1x16x64x64 := Rect.unit ![0, h, 0, 0] S1x1x64x64.size (inScore h hh)
/-- Head `h`'s row of decays. -/
abbrev boxRow (h : ℕ) (hh : h < 16) : Rect S1x16x1x128 := Rect.unit ![0, h, 0, 0] S1x1x1x128.size (inRow h hh)

/-! ## One head -/

/-- What a head leaves of the state: its decayed plane plus the keys times the corrected values. -/
def nextPlane (s : Vec F S1x128x128 .f32) (u w kg : Vec F S1x1x64x128 .f32) (dl : Vec F S1x1x1x128 .f32) :
    FVec F S1x128x128 .f32 :=
  k0_pay7 (k0_pay3 s) (k0_pay5 s u w) dl kg

/-- The tile of outputs a head stores. -/
def outTile (s : Vec F S1x128x128 .f32) (u w qg : Vec F S1x1x64x128 .f32) (qk : Vec F S1x1x64x64 .f32) :
    FVec F S1x1x64x128 .f32 :=
  k0_pay6 s u w qg qk

/-- What the body reads of its six inputs, head by head. -/
structure Reads (F : FTy → Type) [FloatOps F] where
  u : (h : ℕ) → h < 16 → Vec F S1x1x64x128 .f32
  w : (h : ℕ) → h < 16 → Vec F S1x1x64x128 .f32
  qg : (h : ℕ) → h < 16 → Vec F S1x1x64x128 .f32
  kg : (h : ℕ) → h < 16 → Vec F S1x1x64x128 .f32
  qk : (h : ℕ) → h < 16 → Vec F S1x1x64x64 .f32
  dl : (h : ℕ) → h < 16 → Vec F S1x1x1x128 .f32

/-- The plane head `h` leaves when it read the plane `s`. -/
def Reads.plane (r : Reads F) (s : Vec F S1x128x128 .f32) (h : ℕ) (hh : h < 16) : Vec F S1x128x128 .f32 :=
  nextPlane s (r.u h hh) (r.w h hh) (r.kg h hh) (r.dl h hh)

/-- The tile head `h` stores when it read the plane `s`. -/
def Reads.tile (r : Reads F) (s : Vec F S1x128x128 .f32) (h : ℕ) (hh : h < 16) : Vec F S1x1x64x128 .f32 :=
  outTile s (r.u h hh) (r.w h hh) (r.qg h hh) (r.qk h hh)

/-! ## The stores of a point -/

/-- The stores to the state after the first `n` heads; a head reads its plane through `ld` of the stores before it. -/
def stateStores (r : Reads F) (first : List (View.Piece (Elt F) S16x128x128 .f32))
    (ld : List (View.Piece (Elt F) S16x128x128 .f32) → (h : ℕ) → h < 16 → Vec F S1x128x128 .f32) :
    (n : ℕ) → n ≤ 16 → List (View.Piece (Elt F) S16x128x128 .f32)
  | 0, _ => first
  | n + 1, hn =>
    ⟨boxState n hn, r.plane (ld (stateStores r first ld n (Nat.le_of_succ_le hn)) n hn) n hn⟩
      :: stateStores r first ld n (Nat.le_of_succ_le hn)

/-- The stores to the outputs after the first `n` heads. -/
def tileStores (r : Reads F) (s : (h : ℕ) → h < 16 → Vec F S1x128x128 .f32) :
    (n : ℕ) → n ≤ 16 → List (View.Piece (Elt F) S1x16x64x128 .f32)
  | 0, _ => []
  | n + 1, hn => ⟨boxTile n hn, r.tile (s n hn) n hn⟩ :: tileStores r s n (Nat.le_of_succ_le hn)

/-! ## What the stores leave -/

/-- Off a head's plane a store to it leaves what was there. -/
theorem canon_plane_of_ne (n : ℕ) (hn : n < 16) (w : Vec F S1x128x128 .f32)
    (L : List (View.Piece (Elt F) S16x128x128 .f32)) (h : Fin 16) (a b : Fin 128) (hne : h.val ≠ n) :
    View.canon (⟨boxState n hn, w⟩ :: L) (ix3 h a b) = View.canon L (ix3 h a b) := by
  refine View.canon_cons_of_not_mem _ _ fun hm => hne ?_
  rw [Rect.mem_set_unit] at hm
  have h0 := hm 0
  have e : (ix3 h a b : S16x128x128.Idx) 0 = h := rfl
  have e1 : (![n, 0, 0] : Fin 3 → ℕ) 0 = n := rfl
  have e2 : S1x128x128.size 0 = 1 := rfl
  rw [e, e1, e2] at h0
  omega

/-- On it, the store's own entry. -/
theorem canon_plane_self (w : (h : ℕ) → h < 16 → Vec F S1x128x128 .f32)
    (L : List (View.Piece (Elt F) S16x128x128 .f32)) (h : Fin 16) (a b : Fin 128) :
    View.canon (⟨boxState h.val h.isLt, w h.val h.isLt⟩ :: L) (ix3 h a b) = w h.val h.isLt (ix3 0 a b) := by
  have e : (ix3 h a b : S16x128x128.Idx) = (boxState h.val h.isLt).emb (ix3 0 a b) := by
    funext x; apply Fin.ext
    match x with
    | ⟨0, _⟩ => show h.val = h.val + 1 * 0; omega
    | ⟨1, _⟩ => show a.val = 0 + 1 * a.val; omega
    | ⟨2, _⟩ => show b.val = 0 + 1 * b.val; omega
  rw [e, View.canon_cons_emb]

theorem canon_tile_of_ne (n : ℕ) (hn : n < 16) (w : Vec F S1x1x64x128 .f32)
    (L : List (View.Piece (Elt F) S1x16x64x128 .f32)) (h : Fin 16) (a : Fin 64) (b : Fin 128) (hne : h.val ≠ n) :
    View.canon (⟨boxTile n hn, w⟩ :: L) (ix4 0 h a b) = View.canon L (ix4 0 h a b) := by
  refine View.canon_cons_of_not_mem _ _ fun hm => hne ?_
  rw [Rect.mem_set_unit] at hm
  have h0 := hm 1
  have e : (ix4 0 h a b : S1x16x64x128.Idx) 1 = h := rfl
  have e1 : (![0, n, 0, 0] : Fin 4 → ℕ) 1 = n := rfl
  have e2 : S1x1x64x128.size 1 = 1 := rfl
  rw [e, e1, e2] at h0
  omega

theorem canon_tile_self (w : (h : ℕ) → h < 16 → Vec F S1x1x64x128 .f32)
    (L : List (View.Piece (Elt F) S1x16x64x128 .f32)) (h : Fin 16) (a : Fin 64) (b : Fin 128) :
    View.canon (⟨boxTile h.val h.isLt, w h.val h.isLt⟩ :: L) (ix4 0 h a b) = w h.val h.isLt (ix4 0 0 a b) := by
  have e : (ix4 0 h a b : S1x16x64x128.Idx) = (boxTile h.val h.isLt).emb (ix4 0 0 a b) := by
    funext x; apply Fin.ext
    match x with
    | ⟨0, _⟩ => show 0 = 0 + 1 * 0; omega
    | ⟨1, _⟩ => show h.val = h.val + 1 * 0; omega
    | ⟨2, _⟩ => show a.val = 0 + 1 * a.val; omega
    | ⟨3, _⟩ => show b.val = 0 + 1 * b.val; omega
  rw [e, View.canon_cons_emb]

/-- The heads before the `n`-th hold their new planes, the others what the stores started from. -/
theorem canon_stateStores (r : Reads F) (first : List (View.Piece (Elt F) S16x128x128 .f32))
    (s : (h : ℕ) → h < 16 → Vec F S1x128x128 .f32) (h : Fin 16) (a b : Fin 128) : ∀ (n : ℕ) (hn : n ≤ 16),
    View.canon (stateStores r first (fun _ => s) n hn) (ix3 h a b)
      = if h.val < n then r.plane (s h.val h.isLt) h.val h.isLt (ix3 0 a b) else View.canon first (ix3 h a b)
  | 0, _ => by rw [if_neg (Nat.not_lt_zero _)]; rfl
  | n + 1, hn => by
    rw [stateStores]
    by_cases e : h.val = n
    · subst e
      rw [if_pos (Nat.lt_succ_self _)]
      exact canon_plane_self (fun h hh => r.plane (s h hh) h hh) _ h a b
    · rw [canon_plane_of_ne n hn _ _ h a b e, canon_stateStores r first s h a b n]
      by_cases l : h.val < n
      · rw [if_pos l, if_pos (by omega)]
      · rw [if_neg l, if_neg (by omega)]

theorem canon_tileStores (r : Reads F) (s : (h : ℕ) → h < 16 → Vec F S1x128x128 .f32) (h : Fin 16) (a : Fin 64) (b : Fin 128) :
    ∀ (n : ℕ) (hn : n ≤ 16), h.val < n →
    View.canon (tileStores r s n hn) (ix4 0 h a b) = r.tile (s h.val h.isLt) h.val h.isLt (ix4 0 0 a b)
  | 0, _, hl => absurd hl (Nat.not_lt_zero _)
  | n + 1, hn, hl => by
    rw [tileStores]
    by_cases e : h.val = n
    · subst e
      exact canon_tile_self (fun h hh => r.tile (s h hh) h hh) _ h a b
    · rw [canon_tile_of_ne n hn _ _ h a b e]
      exact canon_tileStores r s h a b n _ (by omega)

section Runs

variable (c : Dev nD) (i : grid0.Coords)
  (a1 : Memref sig .tc .vmem S16x128x128 .f32) (b1 : a1.IsWhole) (a2 : Memref sig .tc .vmem S1x16x64x128 .f32) (b2 : a2.IsWhole)
  (a3 : Memref sig .tc .vmem S1x16x64x128 .f32) (b3 : a3.IsWhole) (a4 : Memref sig .tc .vmem S1x16x64x128 .f32) (b4 : a4.IsWhole)
  (a5 : Memref sig .tc .vmem S1x16x64x128 .f32) (b5 : a5.IsWhole) (a6 : Memref sig .tc .vmem S1x16x64x64 .f32) (b6 : a6.IsWhole)
  (a7 : Memref sig .tc .vmem S1x16x1x128 .f32) (b7 : a7.IsWhole) (a8 : Memref sig .tc .vmem S1x16x64x128 .f32) (b8 : a8.IsWhole)
  (a9 : Memref sig .tc .vmem S16x128x128 .f32) (b9 : a9.IsWhole)
  (x0 : Vec F S16x128x128 .f32) (x1 x2 x3 x4 : Vec F S1x16x64x128 .f32) (x5 : Vec F S1x16x64x64 .f32)
  (x6 : Vec F S1x16x1x128 .f32) (x8 : Vec F S16x128x128 .f32)

/-- The reads of the inputs as the run spells them. -/
def readsOf : Reads F where
  u h hh := View.readAt (Elt F) a2.view (boxTile h hh).toLoadRect (b2.unread x1)
  w h hh := View.readAt (Elt F) a3.view (boxTile h hh).toLoadRect (b3.unread x2)
  qg h hh := View.readAt (Elt F) a4.view (boxTile h hh).toLoadRect (b4.unread x3)
  kg h hh := View.readAt (Elt F) a5.view (boxTile h hh).toLoadRect (b5.unread x4)
  qk h hh := View.readAt (Elt F) a6.view (boxScore h hh).toLoadRect (b6.unread x5)
  dl h hh := View.readAt (Elt F) a7.view (boxRow h hh).toLoadRect (b7.unread x6)

set_option maxRecDepth 16384 in
theorem stateStores_B (h1) : (kernelRun0_B c i a1 b1 a2 b2 a3 b3 a4 b4 a5 b5 a6 b6 a7 b7 a8 b8 a9 b9 h1 x0 x1 x2 x3 x4 x5 x6 x8).2.1
    = stateStores (readsOf a2 b2 a3 b3 a4 b4 a5 b5 a6 b6 a7 b7 x1 x2 x3 x4 x5 x6) []
        (fun _ h hh => View.readAt (Elt F) a9.view (boxState h hh).toLoadRect (b9.unread x8)) 16 le_rfl := by
  unfold kernelRun0_B
  rfl

set_option maxRecDepth 16384 in
theorem tileStores_B (h1) : (kernelRun0_B c i a1 b1 a2 b2 a3 b3 a4 b4 a5 b5 a6 b6 a7 b7 a8 b8 a9 b9 h1 x0 x1 x2 x3 x4 x5 x6 x8).1
    = tileStores (readsOf a2 b2 a3 b3 a4 b4 a5 b5 a6 b6 a7 b7 x1 x2 x3 x4 x5 x6)
        (fun h hh => View.readAt (Elt F) a9.view (boxState h hh).toLoadRect (b9.unread x8)) 16 le_rfl := by
  unfold kernelRun0_B
  rfl

/-- At the first point: the stores to the state before head `n`, as the run names them. -/
def storesBefore : ℕ → List (View.Piece (Elt F) S16x128x128 .f32)
  | 0 => kernelRun0_A.sl.H8_1 c a1 b1 x0
  | 1 => kernelRun0_A.sl.H8_2 c a1 b1 a2 b2 a3 b3 a5 b5 a7 b7 a9 x0 x1 x2 x4 x6
  | 2 => kernelRun0_A.sl.H8_3 c a1 b1 a2 b2 a3 b3 a5 b5 a7 b7 a9 x0 x1 x2 x4 x6
  | 3 => kernelRun0_A.sl.H8_4 c a1 b1 a2 b2 a3 b3 a5 b5 a7 b7 a9 x0 x1 x2 x4 x6
  | 4 => kernelRun0_A.sl.H8_5 c a1 b1 a2 b2 a3 b3 a5 b5 a7 b7 a9 x0 x1 x2 x4 x6
  | 5 => kernelRun0_A.sl.H8_6 c a1 b1 a2 b2 a3 b3 a5 b5 a7 b7 a9 x0 x1 x2 x4 x6
  | 6 => kernelRun0_A.sl.H8_7 c a1 b1 a2 b2 a3 b3 a5 b5 a7 b7 a9 x0 x1 x2 x4 x6
  | 7 => kernelRun0_A.sl.H8_8 c a1 b1 a2 b2 a3 b3 a5 b5 a7 b7 a9 x0 x1 x2 x4 x6
  | 8 => kernelRun0_A.sl.H8_9 c a1 b1 a2 b2 a3 b3 a5 b5 a7 b7 a9 x0 x1 x2 x4 x6
  | 9 => kernelRun0_A.sl.H8_10 c a1 b1 a2 b2 a3 b3 a5 b5 a7 b7 a9 x0 x1 x2 x4 x6
  | 10 => kernelRun0_A.sl.H8_11 c a1 b1 a2 b2 a3 b3 a5 b5 a7 b7 a9 x0 x1 x2 x4 x6
  | 11 => kernelRun0_A.sl.H8_12 c a1 b1 a2 b2 a3 b3 a5 b5 a7 b7 a9 x0 x1 x2 x4 x6
  | 12 => kernelRun0_A.sl.H8_13 c a1 b1 a2 b2 a3 b3 a5 b5 a7 b7 a9 x0 x1 x2 x4 x6
  | 13 => kernelRun0_A.sl.H8_14 c a1 b1 a2 b2 a3 b3 a5 b5 a7 b7 a9 x0 x1 x2 x4 x6
  | 14 => kernelRun0_A.sl.H8_15 c a1 b1 a2 b2 a3 b3 a5 b5 a7 b7 a9 x0 x1 x2 x4 x6
  | 15 => kernelRun0_A.sl.H8_16 c a1 b1 a2 b2 a3 b3 a5 b5 a7 b7 a9 x0 x1 x2 x4 x6
  | _ => []

/-- The plane head `h` reads at the first point. -/
def planeRead (h : ℕ) (hh : h < 16) : Vec F S1x128x128 .f32 :=
  a9.view.readCov (storesBefore c a1 b1 a2 b2 a3 b3 a5 b5 a7 b7 a9 x0 x1 x2 x4 x6 h) (boxState h hh).toLoadRect

set_option maxRecDepth 16384 in
theorem tileStores_A (h1) : (kernelRun0_A c i a1 b1 a2 b2 a3 b3 a4 b4 a5 b5 a6 b6 a7 b7 a8 b8 a9 b9 h1 x0 x1 x2 x3 x4 x5 x6).1
    = tileStores (readsOf a2 b2 a3 b3 a4 b4 a5 b5 a6 b6 a7 b7 x1 x2 x3 x4 x5 x6)
        (planeRead c a1 b1 a2 b2 a3 b3 a5 b5 a7 b7 a9 x0 x1 x2 x4 x6) 16 le_rfl := by
  unfold kernelRun0_A
  rfl

set_option maxRecDepth 16384 in
/-- Each head's store comes on top of the stores before it. -/
theorem storesBefore_succ (n : Fin 15) :
    storesBefore c a1 b1 a2 b2 a3 b3 a5 b5 a7 b7 a9 x0 x1 x2 x4 x6 (n.val + 1)
      = ⟨boxState n.val (by omega), (readsOf a2 b2 a3 b3 a4 b4 a5 b5 a6 b6 a7 b7 x1 x2 x3 x4 x5 x6).plane
          (planeRead c a1 b1 a2 b2 a3 b3 a5 b5 a7 b7 a9 x0 x1 x2 x4 x6 n.val (by omega)) n.val (by omega)⟩
        :: storesBefore c a1 b1 a2 b2 a3 b3 a5 b5 a7 b7 a9 x0 x1 x2 x4 x6 n.val := by
  fin_cases n <;> rfl

set_option maxRecDepth 16384 in
theorem stateStores_last (h1) : (kernelRun0_A c i a1 b1 a2 b2 a3 b3 a4 b4 a5 b5 a6 b6 a7 b7 a8 b8 a9 b9 h1 x0 x1 x2 x3 x4 x5 x6).2.1
    = ⟨boxState 15 (by omega), (readsOf a2 b2 a3 b3 a4 b4 a5 b5 a6 b6 a7 b7 x1 x2 x3 x4 x5 x6).plane
          (planeRead c a1 b1 a2 b2 a3 b3 a5 b5 a7 b7 a9 x0 x1 x2 x4 x6 15 (by omega)) 15 (by omega)⟩
        :: storesBefore c a1 b1 a2 b2 a3 b3 a5 b5 a7 b7 a9 x0 x1 x2 x4 x6 15 := by
  unfold kernelRun0_A
  rfl

/-! ## What a point leaves -/

/-- The reads of the inputs, as parts of the blocks. -/
def blockReads : Reads F where
  u h hh := View.ld x1 (boxTile h hh)
  w h hh := View.ld x2 (boxTile h hh)
  qg h hh := View.ld x3 (boxTile h hh)
  kg h hh := View.ld x4 (boxTile h hh)
  qk h hh := View.ld x5 (boxScore h hh)
  dl h hh := View.ld x6 (boxRow h hh)

theorem readsOf_eq : readsOf a2 b2 a3 b3 a4 b4 a5 b5 a6 b6 a7 b7 x1 x2 x3 x4 x5 x6 = blockReads x1 x2 x3 x4 x5 x6 := by
  unfold readsOf blockReads
  simp only [View.readAt_eq_ld, b2.read_unread, b3.read_unread, b4.read_unread, b5.read_unread, b6.read_unread, b7.read_unread]

/-- The planes of a state. -/
abbrev planes (st : Vec F S16x128x128 .f32) (h : ℕ) (hh : h < 16) : Vec F S1x128x128 .f32 := View.ld st (boxState h hh)

theorem first_eq : View.canon (kernelRun0_A.sl.H8_1 c a1 b1 x0) = x0 := by
  have hz : (![0, 0, 0] : Fin 3 → ℕ) = fun _ => 0 := funext fun a => by fin_cases a <;> rfl
  unfold kernelRun0_A.sl.H8_1
  rw [View.canon_unit_zero hz]
  unfold k0_pay2
  simp only [View.readAt_eq_ld, b1.read_unread, shapeCast_self]
  exact View.ld_unit_zero hz _ _

/-- At the first point each head reads its plane of the given state. -/
theorem planeRead_of (n : ℕ) (hn : n < 16) (L : List (View.Piece (Elt F) S16x128x128 .f32))
    (hL : L = stateStores (blockReads x1 x2 x3 x4 x5 x6) (kernelRun0_A.sl.H8_1 c a1 b1 x0) (fun _ => planes x0) n hn.le) :
    a9.view.readCov L (boxState n hn).toLoadRect = planes x0 n hn := by
  subst hL
  rw [View.readCov_eq_canon']
  funext y
  have e : (boxState n hn).idx y = ix3 (⟨n, hn⟩ : Fin 16) (y 1) (y 2) := by
    funext x; apply Fin.ext
    match x with
    | ⟨0, _⟩ =>
      have h0 : (y 0).val < 1 := (y 0).isLt
      show n + 1 * (y 0).val = n; omega
    | ⟨1, _⟩ => show 0 + 1 * (y 1).val = (y 1).val; omega
    | ⟨2, _⟩ => show 0 + 1 * (y 2).val = (y 2).val; omega
  show View.canon _ ((boxState n hn).idx y) = x0 ((boxState n hn).idx y)
  rw [e]
  refine (canon_stateStores _ _ _ (⟨n, hn⟩ : Fin 16) (y 1) (y 2) n hn.le).trans ?_
  rw [if_neg (Nat.lt_irrefl _), first_eq]
  rfl

include a4 b4 a6 b6 x3 x5 in
theorem storesBefore_eq : ∀ (n : ℕ) (hn : n ≤ 15),
    storesBefore c a1 b1 a2 b2 a3 b3 a5 b5 a7 b7 a9 x0 x1 x2 x4 x6 n
      = stateStores (blockReads x1 x2 x3 x4 x5 x6) (kernelRun0_A.sl.H8_1 c a1 b1 x0) (fun _ => planes x0) n (by omega)
  | 0, _ => rfl
  | n + 1, hn => by
    rw [storesBefore_succ c a1 b1 a2 b2 a3 b3 a4 b4 a5 b5 a6 b6 a7 b7 a9 x0 x1 x2 x3 x4 x5 x6 ⟨n, hn⟩, stateStores, readsOf_eq,
      planeRead, planeRead_of c a1 b1 a9 x0 x1 x2 x3 x4 x5 x6 n (by omega) _ (storesBefore_eq n (by omega)), storesBefore_eq n (by omega)]

include a4 b4 a6 b6 x3 x5 in
theorem planeRead_eq (h : ℕ) (hh : h < 16) :
    planeRead c a1 b1 a2 b2 a3 b3 a5 b5 a7 b7 a9 x0 x1 x2 x4 x6 h hh = planes x0 h hh :=
  planeRead_of c a1 b1 a9 x0 x1 x2 x3 x4 x5 x6 h hh _
    (storesBefore_eq c a1 b1 a2 b2 a3 b3 a4 b4 a5 b5 a6 b6 a7 b7 a9 x0 x1 x2 x3 x4 x5 x6 h (by omega))

/-- The state a point leaves, of the state `st` it found. -/
def nextState (st : Vec F S16x128x128 .f32) : Vec F S16x128x128 .f32 := fun y =>
  (blockReads x1 x2 x3 x4 x5 x6).plane (planes st (y 0).val (y 0).isLt) (y 0).val (y 0).isLt (ix3 0 (y 1) (y 2))

/-- The outputs a point leaves, of the state `st` it found. -/
def outChunk (st : Vec F S16x128x128 .f32) : Vec F S1x16x64x128 .f32 := fun y =>
  (blockReads x1 x2 x3 x4 x5 x6).tile (planes st (y 1).val (y 1).isLt) (y 1).val (y 1).isLt (ix4 0 0 (y 2) (y 3))

theorem state_B (h1) : out0_B_8 c i a1 b1 a2 b2 a3 b3 a4 b4 a5 b5 a6 b6 a7 b7 a8 b8 a9 b9 h1 x0 x1 x2 x3 x4 x5 x6 x8
    = nextState x1 x2 x3 x4 x5 x6 x8 := by
  unfold out0_B_8
  rw [View.read_writes_eq_canon _ _ _ (cover0_B_8 c i a1 b1 a2 b2 a3 b3 a4 b4 a5 b5 a6 b6 a7 b7 a8 b8 a9 b9 h1 x0 x1 x2 x3 x4 x5 x6 x8),
    stateStores_B, readsOf_eq]
  funext y
  simp only [View.readAt_eq_ld, b9.read_unread]
  rw [eq_ix3 y]
  exact (canon_stateStores _ _ _ (y 0) (y 1) (y 2) 16 le_rfl).trans (if_pos (y 0).isLt)

theorem out_B (h1) : out0_B_7 c i a1 b1 a2 b2 a3 b3 a4 b4 a5 b5 a6 b6 a7 b7 a8 b8 a9 b9 h1 x0 x1 x2 x3 x4 x5 x6 x8
    = outChunk x1 x2 x3 x4 x5 x6 x8 := by
  unfold out0_B_7
  rw [View.read_writes_eq_canon _ _ _ (cover0_B_7 c i a1 b1 a2 b2 a3 b3 a4 b4 a5 b5 a6 b6 a7 b7 a8 b8 a9 b9 h1 x0 x1 x2 x3 x4 x5 x6 x8),
    tileStores_B, readsOf_eq]
  funext y
  simp only [View.readAt_eq_ld, b9.read_unread]
  obtain ⟨h, a, b, rfl⟩ : ∃ (h : Fin 16) (a : Fin 64) (b : Fin 128), y = ix4 0 h a b :=
    ⟨y 1, y 2, y 3, by rw [eq_ix4 y]; congr 1; exact Fin.ext (by have h0 : (y 0).val < 1 := (y 0).isLt; show (y 0).val = 0; omega)⟩
  exact canon_tileStores _ _ h a b 16 le_rfl h.isLt

theorem state_A (h1) : out0_A_8 c i a1 b1 a2 b2 a3 b3 a4 b4 a5 b5 a6 b6 a7 b7 a8 b8 a9 b9 h1 x0 x1 x2 x3 x4 x5 x6
    = nextState x1 x2 x3 x4 x5 x6 x0 := by
  unfold out0_A_8
  rw [View.read_writes_eq_canon _ _ _ (cover0_A_8 c i a1 b1 a2 b2 a3 b3 a4 b4 a5 b5 a6 b6 a7 b7 a8 b8 a9 b9 h1 x0 x1 x2 x3 x4 x5 x6),
    stateStores_last, readsOf_eq, planeRead_eq c a1 b1 a2 b2 a3 b3 a4 b4 a5 b5 a6 b6 a7 b7 a9 x0 x1 x2 x3 x4 x5 x6,
    storesBefore_eq c a1 b1 a2 b2 a3 b3 a4 b4 a5 b5 a6 b6 a7 b7 a9 x0 x1 x2 x3 x4 x5 x6 15 le_rfl]
  funext y
  rw [eq_ix3 y]
  exact (canon_stateStores (blockReads x1 x2 x3 x4 x5 x6) (kernelRun0_A.sl.H8_1 c a1 b1 x0) (planes x0) (y 0) (y 1) (y 2) 16 le_rfl).trans
    (if_pos (y 0).isLt)

theorem out_A (h1) : out0_A_7 c i a1 b1 a2 b2 a3 b3 a4 b4 a5 b5 a6 b6 a7 b7 a8 b8 a9 b9 h1 x0 x1 x2 x3 x4 x5 x6
    = outChunk x1 x2 x3 x4 x5 x6 x0 := by
  unfold out0_A_7
  rw [View.read_writes_eq_canon _ _ _ (cover0_A_7 c i a1 b1 a2 b2 a3 b3 a4 b4 a5 b5 a6 b6 a7 b7 a8 b8 a9 b9 h1 x0 x1 x2 x3 x4 x5 x6),
    tileStores_A, readsOf_eq]
  have e : planeRead c a1 b1 a2 b2 a3 b3 a5 b5 a7 b7 a9 x0 x1 x2 x4 x6 = planes x0 := by
    funext h hh; exact planeRead_eq c a1 b1 a2 b2 a3 b3 a4 b4 a5 b5 a6 b6 a7 b7 a9 x0 x1 x2 x3 x4 x5 x6 h hh
  rw [e]
  funext y
  obtain ⟨h, a, b, rfl⟩ : ∃ (h : Fin 16) (a : Fin 64) (b : Fin 128), y = ix4 0 h a b :=
    ⟨y 1, y 2, y 3, by rw [eq_ix4 y]; congr 1; exact Fin.ext (by have h0 : (y 0).val < 1 := (y 0).isLt; show (y 0).val = 0; omega)⟩
  exact canon_tileStores _ _ h a b 16 le_rfl h.isLt

end Runs

end Cert.Scan

end
-- ==== Proof.ScanMath.lean ====
/- One chunk of the gated delta-rule recurrence as plain formulas over the extended reals: sixteen heads, sixty-four
   positions a chunk, states of 128 × 128. Both programs are compared with these formulas. -/
module

public import Idealize.ShloMosaic.Lib.Pointwise

@[expose] public section

noncomputable section

namespace Cert.ScanMath

/-- What a chunk is made of: the new values and the keys that read them back (`u`, `w`), the decayed queries and keys
    (`qg`, `kg`), the masked scores (`qk`) and the decay over the whole chunk (`dl`). -/
@[ext] structure Chunk where
  u : Fin 16 → Fin 64 → Fin 128 → EReal
  w : Fin 16 → Fin 64 → Fin 128 → EReal
  qg : Fin 16 → Fin 64 → Fin 128 → EReal
  kg : Fin 16 → Fin 64 → Fin 128 → EReal
  qk : Fin 16 → Fin 64 → Fin 64 → EReal
  dl : Fin 16 → EReal

/-- The state: a matrix for each head. -/
abbrev Planes := Fin 16 → Fin 128 → Fin 128 → EReal

/-- The values a chunk writes: `u − w·s`. -/
def written (k : Chunk) (s : Planes) (h : Fin 16) (c : Fin 64) (j : Fin 128) : EReal :=
  k.u h c j - ∑ i : Fin 128, k.w h c i * s h i j

/-- The state after a chunk. -/
def next (k : Chunk) (s : Planes) (h : Fin 16) (i j : Fin 128) : EReal :=
  s h i j * k.dl h + ∑ c : Fin 64, k.kg h c i * written k s h c j

/-- A chunk's outputs. -/
def outs (k : Chunk) (s : Planes) (h : Fin 16) (c : Fin 64) (j : Fin 128) : EReal :=
  (∑ i : Fin 128, k.qg h c i * s h i j) + ∑ d : Fin 64, k.qk h c d * written k s h d j

/-- The states before each chunk. -/
def run (k : ℕ → Chunk) (s : Planes) : ℕ → Planes
  | 0 => s
  | n + 1 => next (k n) (run k s n)

end Cert.ScanMath

end
-- ==== Proof.ScanKernel.lean ====
/- A grid point of the kernel over the extended reals: the state and the outputs it leaves are a chunk's formulas
   (`ScanMath`) of its blocks. The kernel's roundings to bf16 are the identity there. -/
module

public import proofs.«01_k».proof.Proof.ScanPoint
public import proofs.«01_k».proof.Proof.ScanMath

@[expose] public section

set_option maxRecDepth 16384

noncomputable section

namespace Cert.ScanKernel

open Cert.KernelIdeal Cert.KernelIdeal.Gen Idealize.ShloMosaic
open Cert.ScanMath Cert.Scan

variable (x1 x2 x3 x4 : FVec Ideal S1x16x64x128 .f32) (x5 : FVec Ideal S1x16x64x64 .f32) (x6 : FVec Ideal S1x16x1x128 .f32)
  (st : FVec Ideal S16x128x128 .f32)

/-- The blocks of a point as a chunk. -/
def chunkOf : Chunk where
  u h c j := x1 (ix4 0 h c j)
  w h c j := x2 (ix4 0 h c j)
  qg h c j := x3 (ix4 0 h c j)
  kg h c j := x4 (ix4 0 h c j)
  qk h c d := x5 (ix4 0 h c d)
  dl h := x6 (ix4 0 h 0 0)

theorem chunkOf_eq (k : Chunk) (hu : ∀ h c j, x1 (ix4 0 h c j) = k.u h c j) (hw : ∀ h c j, x2 (ix4 0 h c j) = k.w h c j)
    (hqg : ∀ h c j, x3 (ix4 0 h c j) = k.qg h c j) (hkg : ∀ h c j, x4 (ix4 0 h c j) = k.kg h c j)
    (hqk : ∀ h c d, x5 (ix4 0 h c d) = k.qk h c d) (hdl : ∀ h, x6 (ix4 0 h 0 0) = k.dl h) : chunkOf x1 x2 x3 x4 x5 x6 = k :=
  Chunk.ext (funext fun h => funext fun c => funext fun j => hu h c j) (funext fun h => funext fun c => funext fun j => hw h c j)
    (funext fun h => funext fun c => funext fun j => hqg h c j) (funext fun h => funext fun c => funext fun j => hkg h c j)
    (funext fun h => funext fun c => funext fun j => hqk h c j) (funext hdl)

/-- A state as planes. -/
def planesOf : Planes := fun h i j => st (ix3 h i j)

theorem next_eq (hdl : ∀ (h : Fin 16) (j : Fin 128), x6 (ix4 0 h 0 j) = x6 (ix4 0 h 0 0)) (h : Fin 16) (i j : Fin 128) :
    nextState (F := Ideal) x1 x2 x3 x4 x5 x6 st (ix3 h i j) = next (chunkOf x1 x2 x3 x4 x5 x6) (planesOf st) h i j := by
  unfold nextState Reads.plane blockReads nextPlane planes
  pointwise [k0_pay7, k0_pay3, k0_pay4, k0_pay5, next, written, chunkOf, planesOf]
  rw [hdl h j]

theorem outs_eq (h : Fin 16) (i : Fin 64) (j : Fin 128) :
    outChunk (F := Ideal) x1 x2 x3 x4 x5 x6 st (ix4 0 h i j) = outs (chunkOf x1 x2 x3 x4 x5 x6) (planesOf st) h i j := by
  unfold outChunk Reads.tile blockReads outTile planes
  pointwise [k0_pay6, k0_pay5, k0_pay4, k0_pay3, outs, written, chunkOf, planesOf]

end Cert.ScanKernel

end
-- ==== Proof.ScanRefRun.lean ====
/- The reference's loop, read as a sequence of states. One trip of the loop takes the state (`Step.State`) to `Step.step` of it:
   when the loop's buffers hold a state and the trip's number, one trip leaves the next state and the next number. So the
   results of the run are fields of the 128th state. -/
module

public import proofs.«01_k».proof.Proof.Gen.ReferenceIdeal.Run
public import proofs.«01_k».proof.Proof.Gen.ReferenceIdeal.Step

@[expose] public section

noncomputable section

namespace Cert.ScanRefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state the loop's buffers hold: the carried recurrent state, the stack of outputs and the scanned arrays. -/
def stateOf (V : Valuation τ sig (Elt F)) : State F where
  main_v22_7 := V (Proc.devRef .tc main_v22_7)
  main_v22_8 := V (Proc.devRef .tc main_v22_8)
  main_v22_0 := V (Proc.devRef .tc main_v22_0)
  main_v22_1 := V (Proc.devRef .tc main_v22_1)
  main_v22_2 := V (Proc.devRef .tc main_v22_2)
  main_v22_3 := V (Proc.devRef .tc main_v22_3)
  main_v22_4 := V (Proc.devRef .tc main_v22_4)
  main_v22_5 := V (Proc.devRef .tc main_v22_5)

/-- The loop's counter holds the number `j`. -/
def At (V : Valuation τ sig (Elt F)) (j : ℕ) : Prop :=
  V (Proc.devRef .tc main_v22_6) = constantI S_ 32 (BitVec.ofNat 32 j)

variable {V : Valuation τ sig (Elt F)} {j : ℕ}

set_option maxRecDepth 8192 in
theorem carried (h : At V j) : step_main_v22_7 V = Step.b56 j (stateOf V) := by
  unfold At at h
  unfold step_main_v22_7 res_main_while0b_v40 res_main_while0b_v32 res_main_while0b_v29
  simp only [h]
  rfl

set_option maxRecDepth 8192 in
theorem stacked (h : At V j) : step_main_v22_8 V = Step.b62 j (stateOf V) := by
  unfold At at h
  unfold step_main_v22_8 res_main_while0b_v32 res_main_while0b_v29
  simp only [h]
  rfl

theorem counted (h : At V j) : At (STEP V) (j + 1) := by
  unfold At at h ⊢
  rw [STEP_main_v22_6]
  unfold step_main_v22_6
  rw [h]
  funext i
  show BitVec.ofNat 32 j + 1#32 = BitVec.ofNat 32 (j + 1)
  simp only [BitVec.ofNat_add]

/-- One trip of the loop is `step`. -/
theorem trip (h : At V j) : stateOf (STEP V) = step j (stateOf V) := by
  unfold stateOf
  rw [STEP_main_v22_7, STEP_main_v22_8, STEP_main_v22_0, STEP_main_v22_1, STEP_main_v22_2, STEP_main_v22_3,
    STEP_main_v22_4, STEP_main_v22_5, carried h, stacked h]
  rfl

variable (m : (ℓ : Loc nD τ sig) → Buf (Elt F) ℓ) (c : Dev nD)

/-- The state before the first trip, of the arguments the run starts from. -/
abbrev start : State F :=
  init (m ((c.tc : Thread nD τ).loc main_arg5)) (m ((c.tc : Thread nD τ).loc main_arg3))
    (m ((c.tc : Thread nD τ).loc main_arg4)) (m ((c.tc : Thread nD τ).loc main_arg0))
    (m ((c.tc : Thread nD τ).loc main_arg1)) (m ((c.tc : Thread nD τ).loc main_arg2))

set_option maxRecDepth 65536 in
set_option maxHeartbeats 1000000 in
theorem entry_state : stateOf (entryContents preI m c) = start m c := by
  unfold stateOf start init
  simp only [State.mk.injEq]
  refine ⟨?_, ?_, ?_, ?_, ?_, ?_, ?_, ?_⟩ <;> (simp only [entryContents, afterL_cons, afterL_nil]; after_reads_simp) <;> rfl

set_option maxRecDepth 65536 in
set_option maxHeartbeats 500000 in
theorem entry_at : At (entryContents preI m c) 0 := by
  unfold At
  simp only [entryContents, afterL_cons, afterL_nil]
  after_reads_simp
  rfl

/-- The state before trip `k`. -/
def states : ℕ → State F
  | 0 => start m c
  | k + 1 => step k (states k)

theorem iterates : ∀ k, At (STEP^[k] (entryContents preI m c)) k
    ∧ stateOf (STEP^[k] (entryContents preI m c)) = states m c k
  | 0 => ⟨entry_at m c, entry_state m c⟩
  | k + 1 => by
    rw [Function.iterate_succ_apply']
    exact ⟨counted (iterates k).1, (trip (iterates k).1).trans (by rw [(iterates k).2]; rfl)⟩

theorem out_o (V : Valuation τ sig (Elt F)) : out_main_v23 V = Step.R_main_v23 (stateOf V) := by
  unfold out_main_v23 Step.R_main_v23 stateOf; rfl

theorem out_s (V : Valuation τ sig (Elt F)) : out_main_v24 V = Step.R_main_v24 (stateOf V) := by
  unfold out_main_v24 Step.R_main_v24 stateOf; rfl

variable (ρ : Dev nD → PrngReg)

/-- The run of the reference: each result is of the 128th state, and the arguments keep their values. -/
theorem run : θ_run (defs (F := F)) (onTc (τ := τ) (main (F := F))) ⟨m, fun _ => 0, ρ⟩ fun r => ∀ c : Dev nD,
      r.2.mem ((c.tc : Thread nD τ).loc main_v23) = Step.R_main_v23 (states m c 128)
      ∧ r.2.mem ((c.tc : Thread nD τ).loc main_v24) = Step.R_main_v24 (states m c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    have ho := (h c).1
    have hs := (h c).2.1
    rw [out_o, (iterates m c 128).2] at ho
    rw [out_s, (iterates m c 128).2] at hs
    exact ⟨ho, hs, (h c).2.2⟩)
    (Value.run m ρ)

end Cert.ScanRefRun

end
-- ==== Proof.ScanRef.lean ====
/- A trip of the reference's loop over the extended reals: the state and the outputs it computes are a chunk's formulas
   (`ScanMath`) of that trip's slices of the scanned arrays. -/
module

public import proofs.«01_k».proof.Proof.ScanRefRun
public import proofs.«01_k».proof.Proof.ScanMath
public import Idealize.ShloMosaic.Lib.DynamicIndex
public import Idealize.ShloMosaic.Lib.Pipeline.Value

@[expose] public section

set_option maxRecDepth 16384

noncomputable section

namespace Cert.ScanRef

open Cert.ReferenceIdeal Cert.ReferenceIdeal.Gen Cert.ReferenceIdeal.Step Idealize.ShloMosaic
open Cert.ScanMath

/-- The chunk trip `t` works on: its slices of the scanned arrays, with the decays applied to the queries and keys. -/
def chunkAt (s : State Ideal) (t : Fin 128) : Chunk where
  u h c j := s.main_v22_2 (ix5 t 0 h c j)
  w h c j := s.main_v22_3 (ix5 t 0 h c j)
  qg h c j := s.main_v22_0 (ix5 t 0 h c j) * Ideal.exp (s.main_v22_4 (ix4 t 0 h c))
  kg h c j := s.main_v22_1 (ix5 t 0 h c j) * Ideal.exp (s.main_v22_4 (ix4 t 0 h 63) - s.main_v22_4 (ix4 t 0 h c))
  qk h c d := s.main_v22_5 (ix5 t 0 h c d)
  dl h := Ideal.exp (s.main_v22_4 (ix4 t 0 h 63))

/-- The carried state as planes. -/
def planesOf (s : State Ideal) : Planes := fun h i j => s.main_v22_7 (ix4 0 h i j)

/-! ## A trip's slices of the scanned arrays -/

theorem start_word (t : Fin 128) : (BitVec.ofNat 32 t.val).toInt = (t.val : Int) := by
  have := t.isLt
  rw [BitVec.toInt_eq_toNat_of_lt (by rw [BitVec.toNat_ofNat]; omega), BitVec.toNat_ofNat]; omega

theorem rows_fit (t : Fin 128) : S128x1x16x64x128.Slices ![t.val, 0, 0, 0, 0] S1x1x16x64x128 :=
  ⟨rfl, fun a => by have := t.isLt; fin_cases a <;> simp [S128x1x16x64x128, S1x1x16x64x128] <;> omega⟩

theorem scores_fit (t : Fin 128) : S128x1x16x64x64.Slices ![t.val, 0, 0, 0, 0] S1x1x16x64x64 :=
  ⟨rfl, fun a => by have := t.isLt; fin_cases a <;> simp [S128x1x16x64x64, S1x1x16x64x64] <;> omega⟩

theorem gates_fit (t : Fin 128) : S128x1x16x64.Slices ![t.val, 0, 0, 0] S1x1x16x64 :=
  ⟨rfl, fun a => by have := t.isLt; fin_cases a <;> simp [S128x1x16x64, S1x1x16x64] <;> omega⟩

theorem cut_q (s : State Ideal) (t : Fin 128) (h : Fin 16) (i : Fin 64) (j : Fin 128) :
    b5 t.val s (ix4 0 h i j) = s.main_v22_0 (ix5 t 0 h i j) := by
  rw [b5, b4, Host.dynamicSlice_eq_extractStridedSlice _ _ _ ![t.val, 0, 0, 0, 0] _ (rows_fit t)
    (fun a => by fin_cases a <;> first | exact start_word t | rfl)]
  pointwise

theorem cut_k (s : State Ideal) (t : Fin 128) (h : Fin 16) (i : Fin 64) (j : Fin 128) :
    b11 t.val s (ix4 0 h i j) = s.main_v22_1 (ix5 t 0 h i j) := by
  rw [b11, b10, Host.dynamicSlice_eq_extractStridedSlice _ _ _ ![t.val, 0, 0, 0, 0] _ (rows_fit t)
    (fun a => by fin_cases a <;> first | exact start_word t | rfl)]
  pointwise

theorem cut_u (s : State Ideal) (t : Fin 128) (h : Fin 16) (i : Fin 64) (j : Fin 128) :
    b17 t.val s (ix4 0 h i j) = s.main_v22_2 (ix5 t 0 h i j) := by
  rw [b17, b16, Host.dynamicSlice_eq_extractStridedSlice _ _ _ ![t.val, 0, 0, 0, 0] _ (rows_fit t)
    (fun a => by fin_cases a <;> first | exact start_word t | rfl)]
  pointwise

theorem cut_w (s : State Ideal) (t : Fin 128) (h : Fin 16) (i : Fin 64) (j : Fin 128) :
    b23 t.val s (ix4 0 h i j) = s.main_v22_3 (ix5 t 0 h i j) := by
  rw [b23, b22, Host.dynamicSlice_eq_extractStridedSlice _ _ _ ![t.val, 0, 0, 0, 0] _ (rows_fit t)
    (fun a => by fin_cases a <;> first | exact start_word t | rfl)]
  pointwise

theorem cut_g (s : State Ideal) (t : Fin 128) (h : Fin 16) (i : Fin 64) :
    b28 t.val s (ix3 0 h i) = s.main_v22_4 (ix4 t 0 h i) := by
  rw [b28, b27, Host.dynamicSlice_eq_extractStridedSlice _ _ _ ![t.val, 0, 0, 0] _ (gates_fit t)
    (fun a => by fin_cases a <;> first | exact start_word t | rfl)]
  pointwise

theorem cut_qk (s : State Ideal) (t : Fin 128) (h : Fin 16) (i : Fin 64) (j : Fin 64) :
    b34 t.val s (ix4 0 h i j) = s.main_v22_5 (ix5 t 0 h i j) := by
  rw [b34, b33, Host.dynamicSlice_eq_extractStridedSlice _ _ _ ![t.val, 0, 0, 0, 0] _ (scores_fit t)
    (fun a => by fin_cases a <;> first | exact start_word t | rfl)]
  pointwise

/-! ## A trip -/

theorem next_eq (s : State Ideal) (t : Fin 128) (h : Fin 16) (i j : Fin 128) :
    b56 t.val s (ix4 0 h i j) = next (chunkAt s t) (planesOf s) h i j := by
  pointwise [b56, b55, b54, b53, b52, b51, b50, b49, b48, b47, b46, b45, b44, b36, b35, next, written, chunkAt, planesOf]
  rw [cut_g]
  simp only [cut_q, cut_k, cut_u, cut_w, cut_g]

theorem outs_eq (s : State Ideal) (t : Fin 128) (h : Fin 16) (i : Fin 64) (j : Fin 128) :
    b43 t.val s (ix4 0 h i j) = outs (chunkAt s t) (planesOf s) h i j := by
  pointwise [b43, b42, b41, b40, b39, b38, b37, b36, b35, outs, written, chunkAt, planesOf]
  simp only [cut_q, cut_qk, cut_u, cut_w, cut_g]

/-! ## The loop -/

open Cert.ScanRefRun

variable (m : (ℓ : Loc nD τ sig) → Buf (Elt Ideal) ℓ) (c : Dev nD)

/-- The chunks of the run. -/
abbrev chunks (t : ℕ) : Chunk := chunkAt (start m c) ⟨t % 128, Nat.mod_lt _ (by decide)⟩

theorem chunk_kept (t : Fin 128) : ∀ k, chunkAt (states m c k) t = chunkAt (start m c) t
  | 0 => rfl
  | k + 1 => chunk_kept t k

theorem chunks_of_lt (t : Fin 128) : chunks m c t.val = chunkAt (start m c) t := by
  have e : (⟨t.val % 128, Nat.mod_lt _ (by decide)⟩ : Fin 128) = t := Fin.ext (Nat.mod_eq_of_lt t.isLt)
  unfold chunks; rw [e]

theorem planes_run : ∀ k, k ≤ 128 → planesOf (states m c k) = ScanMath.run (chunks m c) (planesOf (start m c)) k
  | 0, _ => rfl
  | k + 1, hk => by
    funext h i j
    have := next_eq (states m c k) ⟨k, hk⟩ h i j
    rw [chunk_kept, ← chunks_of_lt, planes_run k (by omega)] at this
    exact this

theorem stack_at (s : State Ideal) (k : Fin 128) (t : Fin 128) (h : Fin 16) (i : Fin 64) (j : Fin 128) :
    b62 k.val s (ix5 t 0 h i j) = if t = k then b43 k.val s (ix4 0 h i j) else s.main_v22_8 (ix5 t 0 h i j) := by
  rw [b62, Host.dynamicUpdateSlice_eq_updateSlice _ _ _ _ ![k.val, 0, 0, 0, 0] (fun a => by
      have := k.isLt
      fin_cases a
      · show (min (max (BitVec.ofNat 32 k.val).toInt 0) ((128 - 1 : Nat) : Int)).toNat = k.val
        rw [start_word]; omega
      all_goals rfl) (rows_fit k)]
  pointwise [b57]
  by_cases e : t = k
  · subst e
    rw [if_pos rfl, dif_pos ⟨le_rfl, Nat.lt_succ_self _⟩]
  · have : t.val ≠ k.val := fun h => e (Fin.ext h)
    rw [if_neg e, dif_neg (by omega)]

theorem outs_run (t : Fin 128) (h : Fin 16) (i : Fin 64) (j : Fin 128) : ∀ k, t.val < k → k ≤ 128 →
    (states m c k).main_v22_8 (ix5 t 0 h i j)
      = outs (chunks m c t.val) (ScanMath.run (chunks m c) (planesOf (start m c)) t.val) h i j
  | 0, hl, _ => absurd hl (Nat.not_lt_zero _)
  | k + 1, hl, hk => by
    have e : (states m c (k + 1)).main_v22_8 (ix5 t 0 h i j) = _ := stack_at (states m c k) ⟨k, hk⟩ t h i j
    rw [e]
    by_cases he : t = ⟨k, hk⟩
    · subst he
      rw [if_pos rfl]
      have := outs_eq (states m c k) ⟨k, hk⟩ h i j
      rw [chunk_kept, ← chunks_of_lt, planes_run m c k (by omega)] at this
      exact this
    · rw [if_neg he]
      have : t.val ≠ k := fun h => he (Fin.ext h)
      exact outs_run t h i j k (by omega) (by omega)

/-- The reference's outputs. -/
theorem result_o (t : Fin 128) (h : Fin 16) (i : Fin 64) (j : Fin 128) :
    R_main_v23 (states m c 128) (ix4 t h i j)
      = outs (chunks m c t.val) (ScanMath.run (chunks m c) (planesOf (start m c)) t.val) h i j := by
  rw [← outs_run m c t h i j 128 t.isLt le_rfl]
  generalize states m c 128 = s
  pointwise [R_main_v23]

/-- The reference's last state. -/
theorem result_s (h : Fin 16) (i j : Fin 128) :
    R_main_v24 (states m c 128) (ix3 h i j) = ScanMath.run (chunks m c) (planesOf (start m c)) 128 h i j := by
  rw [← planes_run m c 128 le_rfl]
  generalize states m c 128 = s
  pointwise [R_main_v24, planesOf]

end Cert.ScanRef

end
-- ==== Proof.ScanHost.lean ====
/- What the kernel's grid points read: the arrays the host lines make before the launch, as the reference's own arrays
   (`Step.A_…`) and products with exponentials of the cumulated gates, and each point's blocks as entries of them. -/
module

public import proofs.«01_k».proof.Proof.ScanKernel
public import proofs.«01_k».proof.Proof.ScanRef
public import Idealize.ShloMosaic.Lib.Claim
public import Idealize.ShloMosaic.Lib.Pipeline.ValueKit

@[expose] public section

set_option maxRecDepth 16384

noncomputable section

namespace Cert.ScanHost

open Cert.KernelIdeal Cert.KernelIdeal.Gen Idealize.ShloMosaic Idealize.ShloMosaic.TcCoe

variable (m : (ℓ : Loc nD τ sig) → Buf (Elt Ideal) ℓ) (c : Dev nD)

/-- The chunked queries. -/
def queries : FVec Ideal S128x1x16x64x128 .f32 := Cert.ReferenceIdeal.Step.A_main_v2 (F := Ideal)
  (m ((c : Thread nD τ).loc main_arg0)) (m ((c : Thread nD τ).loc main_arg1)) (m ((c : Thread nD τ).loc main_arg2))
/-- The chunked keys. -/
def keys : FVec Ideal S128x1x16x64x128 .f32 := Cert.ReferenceIdeal.Step.A_main_v5 (F := Ideal)
  (m ((c : Thread nD τ).loc main_arg0)) (m ((c : Thread nD τ).loc main_arg1)) (m ((c : Thread nD τ).loc main_arg2))
/-- The gates cumulated within each chunk. -/
def gates : FVec Ideal S128x1x16x64 .f32 := Cert.ReferenceIdeal.Step.A_main_v9 (F := Ideal)
  (m ((c : Thread nD τ).loc main_arg0)) (m ((c : Thread nD τ).loc main_arg1)) (m ((c : Thread nD τ).loc main_arg2))
/-- The masked, decayed scores. -/
def scores : FVec Ideal S128x1x16x64x64 .f32 := Cert.ReferenceIdeal.Step.A_main_v20 (F := Ideal)
  (m ((c : Thread nD τ).loc main_arg0)) (m ((c : Thread nD τ).loc main_arg1)) (m ((c : Thread nD τ).loc main_arg2))

theorem V_state : V m c main_v35 = shapeCast S16x128x128 (m ((c : Thread nD τ).loc main_arg5)) shapeCasts_S1x16x128x128_S16x128x128 := by
  unfold V; after_reads_simp; rfl
theorem V_u : V m c main_v36 = shapeCast S128x16x64x128 (m ((c : Thread nD τ).loc main_arg3)) shapeCasts_S128x1x16x64x128_S128x16x64x128 := by
  unfold V; after_reads_simp; rfl
theorem V_w : V m c main_v37 = shapeCast S128x16x64x128 (m ((c : Thread nD τ).loc main_arg4)) shapeCasts_S128x1x16x64x128_S128x16x64x128 := by
  unfold V; after_reads_simp; rfl
theorem V_qg : V m c main_v38 = shapeCast S128x16x64x128 (mulf (queries m c)
    (broadcastInDim S128x1x16x64x128 ![0, 1, 2, 3, 4] bcast_S128x1x16x64x1_S128x1x16x64x128_0_1_2_3_4
      (broadcastInDim S128x1x16x64x1 ![0, 1, 2, 3] bcast_S128x1x16x64_S128x1x16x64x1_0_1_2_3 (Host.exp (gates m c)))))
    shapeCasts_S128x1x16x64x128_S128x16x64x128 := by
  unfold V; after_reads_simp; rfl
theorem V_kg : V m c main_v39 = shapeCast S128x16x64x128 (mulf (keys m c)
    (broadcastInDim S128x1x16x64x128 ![0, 1, 2, 3, 4] bcast_S128x1x16x64x1_S128x1x16x64x128_0_1_2_3_4
      (broadcastInDim S128x1x16x64x1 ![0, 1, 2, 3] bcast_S128x1x16x64_S128x1x16x64x1_0_1_2_3 (Host.exp
        (subf (broadcastInDim S128x1x16x64 ![0, 1, 2, 3] bcast_S128x1x16x1_S128x1x16x64_0_1_2_3
          (extractStridedSlice S128x1x16x1 ![0, 0, 0, 63] (gates m c) slices_S128x1x16x64_S128x1x16x1_0_0_0_63)) (gates m c))))))
    shapeCasts_S128x1x16x64x128_S128x16x64x128 := by
  unfold V; after_reads_simp; rfl
theorem V_qk : V m c main_v40 = shapeCast S128x16x64x64 (scores m c) shapeCasts_S128x1x16x64x64_S128x16x64x64 := by
  unfold V; after_reads_simp; rfl
theorem V_dl : V m c main_v41 = shapeCast S128x16x1x128 (broadcastInDim S128x1x16x1x128 ![0, 1, 2, 3, 4] bcast_S128x1x16x1x1_S128x1x16x1x128_0_1_2_3_4
    (broadcastInDim S128x1x16x1x1 ![0, 1, 2, 3] bcast_S128x1x16x1_S128x1x16x1x1_0_1_2_3 (Host.exp
      (extractStridedSlice S128x1x16x1 ![0, 0, 0, 63] (gates m c) slices_S128x1x16x64_S128x1x16x1_0_0_0_63))))
    shapeCasts_S128x1x16x1x128_S128x16x1x128 := by
  unfold V; after_reads_simp; rfl

/-! ## The blocks -/

theorem N_eq : cfg0.N = 128 := N_0

/-- The windows' block indices. -/
theorem idx : ∀ t : Fin cfg0.N, win0_0.index t = ![0, 0, 0] ∧ win0_1.index t = ![t.val, 0, 0, 0] ∧ win0_2.index t = ![t.val, 0, 0, 0]
    ∧ win0_3.index t = ![t.val, 0, 0, 0] ∧ win0_4.index t = ![t.val, 0, 0, 0] ∧ win0_5.index t = ![t.val, 0, 0, 0]
    ∧ win0_6.index t = ![t.val, 0, 0, 0] ∧ win0_7.index t = ![t.val, 0, 0, 0] ∧ win0_8.index t = ![0, 0, 0] :=
  (by decide +kernel : ∀ t : Fin grid0.N, _)

/-- A grid point as a chunk's number. -/
abbrev num (t : Fin cfg0.N) : Fin 128 := ⟨t.val, N_eq ▸ t.isLt⟩

theorem blk_state (t : Fin cfg0.N) (h : Fin 16) (i j : Fin 128) :
    iblk m c 0 t (ix3 h i j) = m ((c : Thread nD τ).loc main_arg5) (ix4 0 h i j) := by
  have e : iblk m c 0 t (ix3 h i j) = V m c main_v35 (ix3 h i j) := by blk_ext [iblk, idx t]
  rw [e, V_state]
  have r : ∀ X : FVec Ideal S1x16x128x128 .f32, shapeCast S16x128x128 X shapeCasts_S1x16x128x128_S16x128x128 (ix3 h i j) = X (ix4 0 h i j) := fun X => by pointwise
  exact r _
theorem blk_u (t : Fin cfg0.N) (h : Fin 16) (i : Fin 64) (j : Fin 128) :
    iblk m c 1 t (ix4 0 h i j) = m ((c : Thread nD τ).loc main_arg3) (ix5 (num t) 0 h i j) := by
  have e : iblk m c 1 t (ix4 0 h i j) = V m c main_v36 (ix4 (num t) h i j) := by blk_ext [iblk, idx t]
  rw [e, V_u]
  have r : ∀ X : FVec Ideal S128x1x16x64x128 .f32, shapeCast S128x16x64x128 X shapeCasts_S128x1x16x64x128_S128x16x64x128 (ix4 (num t) h i j) = X (ix5 (num t) 0 h i j) := fun X => by pointwise
  exact r _
theorem blk_w (t : Fin cfg0.N) (h : Fin 16) (i : Fin 64) (j : Fin 128) :
    iblk m c 2 t (ix4 0 h i j) = m ((c : Thread nD τ).loc main_arg4) (ix5 (num t) 0 h i j) := by
  have e : iblk m c 2 t (ix4 0 h i j) = V m c main_v37 (ix4 (num t) h i j) := by blk_ext [iblk, idx t]
  rw [e, V_w]
  have r : ∀ X : FVec Ideal S128x1x16x64x128 .f32, shapeCast S128x16x64x128 X shapeCasts_S128x1x16x64x128_S128x16x64x128 (ix4 (num t) h i j) = X (ix5 (num t) 0 h i j) := fun X => by pointwise
  exact r _
theorem blk_qg (t : Fin cfg0.N) (h : Fin 16) (i : Fin 64) (j : Fin 128) :
    iblk m c 3 t (ix4 0 h i j) = (queries m c (ix5 (num t) 0 h i j) * Ideal.exp (gates m c (ix4 (num t) 0 h i)) : EReal) := by
  have e : iblk m c 3 t (ix4 0 h i j) = V m c main_v38 (ix4 (num t) h i j) := by blk_ext [iblk, idx t]
  rw [e, V_qg]
  pointwise
  rfl
theorem blk_kg (t : Fin cfg0.N) (h : Fin 16) (i : Fin 64) (j : Fin 128) :
    iblk m c 4 t (ix4 0 h i j) = (keys m c (ix5 (num t) 0 h i j)
      * Ideal.exp (gates m c (ix4 (num t) 0 h 63) - gates m c (ix4 (num t) 0 h i)) : EReal) := by
  have e : iblk m c 4 t (ix4 0 h i j) = V m c main_v39 (ix4 (num t) h i j) := by blk_ext [iblk, idx t]
  rw [e, V_kg]
  pointwise
  rfl
theorem blk_qk (t : Fin cfg0.N) (h : Fin 16) (i : Fin 64) (j : Fin 64) :
    iblk m c 5 t (ix4 0 h i j) = scores m c (ix5 (num t) 0 h i j) := by
  have e : iblk m c 5 t (ix4 0 h i j) = V m c main_v40 (ix4 (num t) h i j) := by blk_ext [iblk, idx t]
  rw [e, V_qk]
  pointwise
theorem blk_dl (t : Fin cfg0.N) (h : Fin 16) (j : Fin 128) :
    iblk m c 6 t (ix4 0 h 0 j) = Ideal.exp (gates m c (ix4 (num t) 0 h 63)) := by
  have e : iblk m c 6 t (ix4 0 h 0 j) = V m c main_v41 (ix4 (num t) h 0 j) := by blk_ext [iblk, idx t]
  rw [e, V_dl]
  pointwise
  rfl

end Cert.ScanHost

end
-- ==== Proof.ScanRun.lean ====
/- The kernel's run over the extended reals. By induction over the grid points, the staged state after a point is the
   recurrence (`ScanMath.run`) one chunk further and the point's output block is that chunk's outputs; so the two arrays the
   run leaves are the outputs of every chunk and the state after the last. -/
module

public import proofs.«01_k».proof.Proof.ScanHost

@[expose] public section

set_option maxRecDepth 16384

noncomputable section

namespace Cert.ScanRun

open Cert.KernelIdeal Cert.KernelIdeal.Gen Idealize.ShloMosaic Idealize.ShloMosaic.TcCoe Idealize.SL.Sem
open Cert.ScanMath Cert.Scan Cert.ScanHost
open Cert.ScanKernel (chunkOf planesOf)

variable (m : (ℓ : Loc nD τ sig) → Buf (Elt Ideal) ℓ) (c : Dev nD)

/-- The chunk grid point `t` works on. -/
def chunkAt (t : Fin 128) : Chunk where
  u h i j := (m ((c : Thread nD τ).loc main_arg3) : FVec Ideal S128x1x16x64x128 .f32) (ix5 t 0 h i j)
  w h i j := (m ((c : Thread nD τ).loc main_arg4) : FVec Ideal S128x1x16x64x128 .f32) (ix5 t 0 h i j)
  qg h i j := queries m c (ix5 t 0 h i j) * Ideal.exp (gates m c (ix4 t 0 h i))
  kg h i j := keys m c (ix5 t 0 h i j) * Ideal.exp (gates m c (ix4 t 0 h 63) - gates m c (ix4 t 0 h i))
  qk h i j := scores m c (ix5 t 0 h i j)
  dl h := Ideal.exp (gates m c (ix4 t 0 h 63))

abbrev chunks (t : ℕ) : Chunk := chunkAt m c ⟨t % 128, Nat.mod_lt _ (by decide)⟩

/-- The given state. -/
def first : Planes := fun h i j => (m ((c : Thread nD τ).loc main_arg5) : FVec Ideal S1x16x128x128 .f32) (ix4 0 h i j)

theorem chunk_of_blocks (t : Fin cfg0.N) :
    chunkOf (iblk m c 1 t) (iblk m c 2 t) (iblk m c 3 t) (iblk m c 4 t) (iblk m c 5 t) (iblk m c 6 t) = chunks m c t.val := by
  have e : (⟨t.val % 128, Nat.mod_lt _ (by decide)⟩ : Fin 128) = num t := Fin.ext (Nat.mod_eq_of_lt (num t).isLt)
  unfold chunks
  rw [e]
  exact ScanKernel.chunkOf_eq _ _ _ _ _ _ (chunkAt m c (num t)) (fun h i j => blk_u m c t h i j) (fun h i j => blk_w m c t h i j)
    (fun h i j => blk_qg m c t h i j) (fun h i j => blk_kg m c t h i j) (fun h i j => blk_qk m c t h i j) (fun h => blk_dl m c t h 0)

theorem row_const (t : Fin cfg0.N) (h : Fin 16) (j : Fin 128) :
    (iblk m c 6 t : FVec Ideal S1x16x1x128 .f32) (ix4 0 h 0 j) = (iblk m c 6 t : FVec Ideal S1x16x1x128 .f32) (ix4 0 h 0 0) :=
  (blk_dl m c t h j).trans (blk_dl m c t h 0).symm

theorem state_next (t : Fin cfg0.N) (st : FVec Ideal S16x128x128 .f32) (n : ℕ) (hn : n = t.val)
    (hst : planesOf st = ScanMath.run (chunks m c) (first m c) n) :
    planesOf (nextState (F := Ideal) (iblk m c 1 t) (iblk m c 2 t) (iblk m c 3 t) (iblk m c 4 t) (iblk m c 5 t) (iblk m c 6 t) st)
      = ScanMath.run (chunks m c) (first m c) (n + 1) := by
  subst hn
  funext h i j
  refine (ScanKernel.next_eq _ _ _ _ _ _ st (row_const m c t) h i j).trans ?_
  rw [chunk_of_blocks, hst]
  rfl

theorem outs_now (t : Fin cfg0.N) (st : FVec Ideal S16x128x128 .f32)
    (hst : planesOf st = ScanMath.run (chunks m c) (first m c) t.val) (h : Fin 16) (i : Fin 64) (j : Fin 128) :
    outChunk (F := Ideal) (iblk m c 1 t) (iblk m c 2 t) (iblk m c 3 t) (iblk m c 4 t) (iblk m c 5 t) (iblk m c 6 t) st (ix4 0 h i j)
      = outs (chunks m c t.val) (ScanMath.run (chunks m c) (first m c) t.val) h i j := by
  refine (ScanKernel.outs_eq _ _ _ _ _ _ st h i j).trans ?_
  rw [chunk_of_blocks, hst]

theorem first_planes (t : Fin cfg0.N) : planesOf (iblk m c 0 t) = first m c := by
  funext h i j; exact blk_state m c t h i j

/-- What the points leave, of the state they find: the given one at the first, what the point before left at the others. -/
theorem state_first (t : Fin cfg0.N) (h0 : t.val % 128 = 0) : (outsAt0 m c t.val t.isLt).2
    = nextState (F := Ideal) (iblk m c 1 t) (iblk m c 2 t) (iblk m c 3 t) (iblk m c 4 t) (iblk m c 5 t) (iblk m c 6 t) (iblk m c 0 t) := by
  rw [outsAt0_A m c t h0]
  dsimp only
  rw [state_A]
theorem state_later (t : Fin cfg0.N) (h0 : ¬t.val % 128 = 0) : (outsAt0 m c t.val t.isLt).2
    = nextState (F := Ideal) (iblk m c 1 t) (iblk m c 2 t) (iblk m c 3 t) (iblk m c 4 t) (iblk m c 5 t) (iblk m c 6 t)
      (outsAt0 m c (t.val - 1) (Nat.lt_of_le_of_lt (Nat.sub_le _ _) t.isLt)).2 := by
  rw [outsAt0_B m c t h0]
  dsimp only
  rw [state_B]
theorem outs_first (t : Fin cfg0.N) (h0 : t.val % 128 = 0) : (outsAt0 m c t.val t.isLt).1
    = outChunk (F := Ideal) (iblk m c 1 t) (iblk m c 2 t) (iblk m c 3 t) (iblk m c 4 t) (iblk m c 5 t) (iblk m c 6 t) (iblk m c 0 t) := by
  rw [outsAt0_A m c t h0]
  dsimp only
  rw [out_A]
theorem outs_later (t : Fin cfg0.N) (h0 : ¬t.val % 128 = 0) : (outsAt0 m c t.val t.isLt).1
    = outChunk (F := Ideal) (iblk m c 1 t) (iblk m c 2 t) (iblk m c 3 t) (iblk m c 4 t) (iblk m c 5 t) (iblk m c 6 t)
      (outsAt0 m c (t.val - 1) (Nat.lt_of_le_of_lt (Nat.sub_le _ _) t.isLt)).2 := by
  rw [outsAt0_B m c t h0]
  dsimp only
  rw [out_B]

theorem not_first (t : Fin cfg0.N) (n : ℕ) (hn : t.val = n + 1) : ¬t.val % 128 = 0 := by
  have : t.val < 128 := (num t).isLt
  omega

/-- The staged state after each point. -/
theorem state_after : ∀ (n : ℕ) (t : Fin cfg0.N), t.val = n →
    planesOf (outsAt0 m c t.val t.isLt).2 = ScanMath.run (chunks m c) (first m c) (n + 1)
  | 0, t, hn => by
    rw [state_first m c t (by rw [hn])]
    exact state_next m c t _ 0 hn.symm (first_planes m c t)
  | n + 1, t, hn => by
    rw [state_later m c t (not_first t n hn)]
    exact state_next m c t _ (n + 1) hn.symm
      (state_after n ⟨t.val - 1, Nat.lt_of_le_of_lt (Nat.sub_le _ _) t.isLt⟩ (by show t.val - 1 = n; omega))

/-- The output block of each point. -/
theorem outs_after (t : Fin cfg0.N) (h : Fin 16) (i : Fin 64) (j : Fin 128) :
    (outsAt0 m c t.val t.isLt).1 (ix4 0 h i j)
      = outs (chunks m c t.val) (ScanMath.run (chunks m c) (first m c) t.val) h i j := by
  obtain e | ⟨n, e⟩ : t.val = 0 ∨ ∃ n, t.val = n + 1 := by
    rcases Nat.eq_zero_or_pos t.val with h | h
    · exact .inl h
    · exact .inr ⟨t.val - 1, by omega⟩
  · rw [outs_first m c t (by rw [e])]
    exact outs_now m c t _ (by rw [e]; exact first_planes m c t) h i j
  · rw [outs_later m c t (not_first t n e)]
    exact outs_now m c t _ ((state_after m c n ⟨t.val - 1, Nat.lt_of_le_of_lt (Nat.sub_le _ _) t.isLt⟩
      (by show t.val - 1 = n; omega)).trans (by rw [e])) h i j

/-- The array of outputs after the run. -/
theorem final_o : (dats m 0 c).arrAt 7 cfg0.N = fun y : S128x16x64x128.Idx =>
    outs (chunks m c (y 0).val) (ScanMath.run (chunks m c) (first m c) (y 0).val) (y 1) (y 2) (y 3) := by
  refine (dats m 0 c).arrAt_eq_of_covers 7 _ (by decide +kernel) fun t hf y => ?_
  rw [after0_7]
  blk_simp [idx t]
  have e1 : (win0_7.blk t).view.emb y 1 = y 1 := Fin.ext (by blk_simp [idx t])
  have e2 : (win0_7.blk t).view.emb y 2 = y 2 := Fin.ext (by blk_simp [idx t])
  have e3 : (win0_7.blk t).view.emb y 3 = y 3 := Fin.ext (by blk_simp [idx t])
  rw [e1, e2, e3]
  refine Eq.trans ?_ (outs_after m c t (y 1) (y 2) (y 3))
  exact congrArg (outsAt0 m c t.val t.isLt).1 ((eq_ix4 y).trans (by
    congr 1; exact Fin.ext (by have h0 : (y 0).val < 1 := (y 0).isLt; show (y 0).val = 0; omega)))

/-- The array of the state after the run. -/
theorem final_s : (dats m 0 c).arrAt 8 cfg0.N = fun y : S16x128x128.Idx =>
    ScanMath.run (chunks m c) (first m c) 128 (y 0) (y 1) (y 2) := by
  refine (dats m 0 c).arrAt_eq_of_covers 8 _ (by decide +kernel) fun t hf y => ?_
  rw [after0_8]
  blk_simp [idx t]
  have e0 : (win0_8.blk t).view.emb y 0 = y 0 := Fin.ext (by blk_simp [idx t])
  have e1 : (win0_8.blk t).view.emb y 1 = y 1 := Fin.ext (by blk_simp [idx t])
  have e2 : (win0_8.blk t).view.emb y 2 = y 2 := Fin.ext (by blk_simp [idx t])
  have ht : t.val = 127 := by
    have : t.val < 128 := (num t).isLt
    have := (flush0_8 t).mp hf
    omega
  rw [e0, e1, e2, ← state_after m c 127 t ht]
  exact congrArg (outsAt0 m c t.val t.isLt).2 (eq_ix3 y)

end Cert.ScanRun

end
-- ==== Proof.ScanClaim.lean ====
/- The value claim of the scan: from agreeing arguments both programs' runs leave the same outputs and the same last state,
   since both are the recurrence of the same chunks from the same first state. -/
module

public import proofs.«01_k».proof.Proof.ScanRun
public import proofs.«01_k».proof.Defs
public import Idealize.ShloMosaic.Lib.Quiescent

@[expose] public section

set_option maxRecDepth 16384

noncomputable section

namespace Cert.ScanClaim

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' arguments agree on core `c`. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m m' c}

theorem chunks_agree (h : Agree m m' c) : ScanRef.chunks m' c = ScanRun.chunks m c := by
  obtain ⟨h0, h1, h2, h3, h4, h5⟩ := h
  funext t
  unfold ScanRef.chunks ScanRefRun.start
  rw [h0, h1, h2, h3, h4, h5]
  rfl

theorem first_agree (h : Agree m m' c) : ScanRef.planesOf (ScanRefRun.start m' c) = ScanRun.first m c := by
  obtain ⟨h0, h1, h2, h3, h4, h5⟩ := h
  unfold ScanRefRun.start
  rw [h0, h1, h2, h3, h4, h5]
  rfl

theorem same_o (h : Agree m m' c) : Cert.ReferenceIdeal.Step.R_main_v23 (ScanRefRun.states m' c 128)
    = (Cert.KernelIdeal.Gen.dats m 0 c).arrAt 7 Cert.KernelIdeal.cfg0.N := by
  rw [ScanRun.final_o]
  funext y
  rw [← chunks_agree h, ← first_agree h, ← ScanRef.result_o m' c (y 0) (y 1) (y 2) (y 3)]
  exact congrArg _ (eq_ix4 y)

theorem same_s (h : Agree m m' c) : Cert.ReferenceIdeal.Step.R_main_v24 (ScanRefRun.states m' c 128)
    = (Cert.KernelIdeal.Gen.dats m 0 c).arrAt 8 Cert.KernelIdeal.cfg0.N := by
  rw [ScanRun.final_s]
  funext y
  rw [← chunks_agree h, ← first_agree h, ← ScanRef.result_s m' c (y 0) (y 1) (y 2)]
  exact congrArg _ (eq_ix3 y)

variable [hK : Cert.KernelIdeal.Facts]

theorem reference_frame [hR : Cert.ReferenceIdeal.Facts] : Cert.quiescent_ReferenceIdeal := fun m g _ =>
  (θ_run _ _ _).mono (fun r h => ⟨fun c => (h c).2.2, Idealize.ShloMosaic.sem_eq_zero_of_no_sems (by decide) r.2⟩)
    (ScanRefRun.run m g)

theorem algebraic [hR : Cert.ReferenceIdeal.Facts] : Cert.algebraic_KernelIdeal_ReferenceIdeal := by
  intro m g m' g' _ hagree
  refine ⟨fun c => (Cert.KernelIdeal.Gen.dats m 0 c).arrAt 7 Cert.KernelIdeal.cfg0.N,
    fun c => (Cert.KernelIdeal.Gen.dats m 0 c).arrAt 8 Cert.KernelIdeal.cfg0.N, Cert.KernelIdeal.Value.run_blocks m g,
    (θ_run _ _ _).mono (fun r h c => ?_) (ScanRefRun.run m' g')⟩
  exact ⟨(h c).1.trans (same_o (hagree c)), (h c).2.1.trans (same_s (hagree c)), (h c).2.2⟩

end Cert.ScanClaim

end
-- ==== Proof.ProjTiles.lean ====
/- The ten projection products of the prompt program: what each pallas call leaves in its result array. A grid point multiplies
   1024 rows of the tokens by one block of columns of a weight matrix, over the whole contraction, and stores the product once;
   so the result array holds, at (t, c), the sum over k of x[t, k] * w[k, c]. -/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.ProjTiles

open Cert.Kernel2Ideal Cert.Kernel2Ideal.Gen Idealize.ShloMosaic Idealize.ShloMosaic.TcCoe
open Idealize.ShloMosaic.Pipeline (Dat)

variable (V : (c : Dev nD) → (b : Ref sig .tc) → Buf (Elt Ideal) ((c : Thread nD τ).loc b)) (c : Dev nD)

/-- Tokens times a weight of 6144 columns: every token's row against every column. -/
def prod6144 (x : FVec Ideal S8192x4096 .bf16) (w : FVec Ideal S4096x6144 .bf16) : FVec Ideal S8192x6144 .f32 :=
  fun y => ∑ k : Fin 4096, x (ix2 (y 0) k) * w (ix2 k (y 1))
/-- The same for 2048 columns. -/
def prod2048 (x : FVec Ideal S8192x4096 .bf16) (w : FVec Ideal S4096x2048 .bf16) : FVec Ideal S8192x2048 .f32 :=
  fun y => ∑ k : Fin 4096, x (ix2 (y 0) k) * w (ix2 k (y 1))
/-- The same for 4096 columns. -/
def prod4096 (x : FVec Ideal S8192x4096 .bf16) (w : FVec Ideal S4096x4096 .bf16) : FVec Ideal S8192x4096 .f32 :=
  fun y => ∑ k : Fin 4096, x (ix2 (y 0) k) * w (ix2 k (y 1))
/-- The same for 128 columns. -/
def prod128 (x : FVec Ideal S8192x4096 .bf16) (w : FVec Ideal S4096x128 .bf16) : FVec Ideal S8192x128 .f32 :=
  fun y => ∑ k : Fin 4096, x (ix2 (y 0) k) * w (ix2 k (y 1))

theorem idx0 : ∀ t : Fin cfg0.N, win0_0.index t = ![t.val / 6, 0] ∧ win0_1.index t = ![0, t.val % 6] ∧
    win0_2.index t = ![t.val / 6, t.val % 6] := (by decide +kernel : ∀ t : Fin grid0.N, _)

/-- Call 0: the q, k, v rows. -/
theorem final0 : (dat0 V c).arrAt 2 cfg0.N = prod6144 (V c main_v33) (V c main_v7) := by
  refine (dat0 V c).arrAt_eq_of_covers 2 _ (by decide +kernel) fun t hf y => ?_
  blk_simp
  rw [after0_2]; frame_out
  pointwise [k0_pay1, prod6144]
  blk_point [iblk0, idx0 t]

theorem idx1 : ∀ t : Fin cfg1.N, win1_0.index t = ![t.val / 2, 0] ∧ win1_1.index t = ![0, t.val % 2] ∧
    win1_2.index t = ![t.val / 2, t.val % 2] := (by decide +kernel : ∀ t : Fin grid1.N, _)

/-- Call 1: z. -/
theorem final1 : (dat1 V c).arrAt 2 cfg1.N = prod2048 (V c main_v33) (V c main_v9) := by
  refine (dat1 V c).arrAt_eq_of_covers 2 _ (by decide +kernel) fun t hf y => ?_
  blk_simp
  rw [after1_2]; frame_out
  pointwise [k1_pay1, prod2048]
  blk_point [iblk1, idx1 t]

theorem idx2 : ∀ t : Fin cfg2.N, win2_0.index t = ![t.val / 2, 0] ∧ win2_1.index t = ![0, t.val % 2] ∧
    win2_2.index t = ![t.val / 2, t.val % 2] := (by decide +kernel : ∀ t : Fin grid2.N, _)

/-- Call 2: q_att. -/
theorem final2 : (dat2 V c).arrAt 2 cfg2.N = prod2048 (V c main_v33) (V c main_v15) := by
  refine (dat2 V c).arrAt_eq_of_covers 2 _ (by decide +kernel) fun t hf y => ?_
  blk_simp
  rw [after2_2]; frame_out
  pointwise [k2_pay1, prod2048]
  blk_point [iblk2, idx2 t]

theorem idx3 : ∀ t : Fin cfg3.N, win3_0.index t = ![t.val / 2, 0] ∧ win3_1.index t = ![0, t.val % 2] ∧
    win3_2.index t = ![t.val / 2, t.val % 2] := (by decide +kernel : ∀ t : Fin grid3.N, _)

/-- Call 3: k_att. -/
theorem final3 : (dat3 V c).arrAt 2 cfg3.N = prod2048 (V c main_v33) (V c main_v17) := by
  refine (dat3 V c).arrAt_eq_of_covers 2 _ (by decide +kernel) fun t hf y => ?_
  blk_simp
  rw [after3_2]; frame_out
  pointwise [k3_pay1, prod2048]
  blk_point [iblk3, idx3 t]

theorem idx4 : ∀ t : Fin cfg4.N, win4_0.index t = ![t.val / 2, 0] ∧ win4_1.index t = ![0, t.val % 2] ∧
    win4_2.index t = ![t.val / 2, t.val % 2] := (by decide +kernel : ∀ t : Fin grid4.N, _)

/-- Call 4: v_att. -/
theorem final4 : (dat4 V c).arrAt 2 cfg4.N = prod2048 (V c main_v33) (V c main_v19) := by
  refine (dat4 V c).arrAt_eq_of_covers 2 _ (by decide +kernel) fun t hf y => ?_
  blk_simp
  rw [after4_2]; frame_out
  pointwise [k4_pay1, prod2048]
  blk_point [iblk4, idx4 t]

theorem idx5 : ∀ t : Fin cfg5.N, win5_0.index t = ![t.val / 4, 0] ∧ win5_1.index t = ![0, t.val % 4] ∧
    win5_2.index t = ![t.val / 4, t.val % 4] := (by decide +kernel : ∀ t : Fin grid5.N, _)

/-- Call 5: q_idx. -/
theorem final5 : (dat5 V c).arrAt 2 cfg5.N = prod4096 (V c main_v33) (V c main_v21) := by
  refine (dat5 V c).arrAt_eq_of_covers 2 _ (by decide +kernel) fun t hf y => ?_
  blk_simp
  rw [after5_2]; frame_out
  pointwise [k5_pay1, prod4096]
  blk_point [iblk5, idx5 t]

theorem idx6 : ∀ t : Fin cfg6.N, win6_0.index t = ![t.val, 0] ∧ win6_1.index t = ![0, 0] ∧
    win6_2.index t = ![t.val, 0] := (by decide +kernel : ∀ t : Fin grid6.N, _)

/-- Call 6: k_idx. -/
theorem final6 : (dat6 V c).arrAt 2 cfg6.N = prod128 (V c main_v33) (V c main_v25) := by
  refine (dat6 V c).arrAt_eq_of_covers 2 _ (by decide +kernel) fun t hf y => ?_
  blk_simp
  rw [after6_2]; frame_out
  pointwise [k6_pay1, prod128]
  blk_point [iblk6, idx6 t]

theorem idx7 : ∀ t : Fin cfg7.N, win7_0.index t = ![t.val / 4, 0] ∧ win7_1.index t = ![0, t.val % 4] ∧
    win7_2.index t = ![t.val / 4, t.val % 4] := (by decide +kernel : ∀ t : Fin grid7.N, _)

/-- Call 7: gate_gdn. -/
theorem final7 : (dat7 V c).arrAt 2 cfg7.N = prod4096 (V c main_v33) (V c main_v27) := by
  refine (dat7 V c).arrAt_eq_of_covers 2 _ (by decide +kernel) fun t hf y => ?_
  blk_simp
  rw [after7_2]; frame_out
  pointwise [k7_pay1, prod4096]
  blk_point [iblk7, idx7 t]

theorem idx8 : ∀ t : Fin cfg8.N, win8_0.index t = ![t.val / 4, 0] ∧ win8_1.index t = ![0, t.val % 4] ∧
    win8_2.index t = ![t.val / 4, t.val % 4] := (by decide +kernel : ∀ t : Fin grid8.N, _)

/-- Call 8: gate_att. -/
theorem final8 : (dat8 V c).arrAt 2 cfg8.N = prod4096 (V c main_v33) (V c main_v29) := by
  refine (dat8 V c).arrAt_eq_of_covers 2 _ (by decide +kernel) fun t hf y => ?_
  blk_simp
  rw [after8_2]; frame_out
  pointwise [k8_pay1, prod4096]
  blk_point [iblk8, idx8 t]

theorem idx9 : ∀ t : Fin cfg9.N, win9_0.index t = ![t.val, 0] ∧ win9_1.index t = ![0, 0] ∧
    win9_2.index t = ![t.val, 0] := (by decide +kernel : ∀ t : Fin grid9.N, _)

/-- Call 9: the narrow columns. -/
theorem final9 : (dat9 V c).arrAt 2 cfg9.N = prod128 (V c main_v33) (V c main_v31) := by
  refine (dat9 V c).arrAt_eq_of_covers 2 _ (by decide +kernel) fun t hf y => ?_
  blk_simp
  rw [after9_2]; frame_out
  pointwise [k9_pay1, prod128]
  blk_point [iblk9, idx9 t]

end Cert.ProjTiles

end
-- ==== Proof.ProjArrays.lean ====
/- The prompt program's buffers after its ten calls, `W22`: no later call or host operation writes a buffer an earlier one
   reads or writes, so each call's operands and result are read there. Each result, reshaped to [1, 8192, n], is the product
   of the tokens with the columns its weight was cut from. -/
module

public import proofs.«01_k».proof.Proof.ProjTiles
public import Idealize.ShloMosaic.Lib.StableHlo.RunRead

@[expose] public section

set_option maxRecDepth 16384

noncomputable section

namespace Cert.ProjArrays

open Cert.Kernel2Ideal Cert.Kernel2Ideal.Gen Idealize.ShloMosaic Idealize.ShloMosaic.TcCoe Cert.ProjTiles

variable (m : (ℓ : Loc nD τ sig) → Buf (Elt Ideal) ℓ) (ρ : Dev nD → PrngReg) (c : Dev nD)

/-- A reference other than a call's result is none of its output arrays. -/
theorem notOut {W : ℕ} {out : Fin W → Bool} {arr : Fin W → Ref sig .tc} {o r : Ref sig .tc}
    (ho : ∀ w, arr w = o ∨ out w = false) (h : r ≠ o) (w : Fin W) (e : arr w = r) : out w = false :=
  (ho w).resolve_left fun e' => h (e.symm.trans e')

/-- The calls' results and their reshapes, in the order they are written. -/
def written : List (Ref sig .tc) := [main_v34, main_v35, main_v36, main_v37, main_v38, main_v39, main_v40, main_v41, main_v42,
  main_v43, main_v44, main_v45, main_v46, main_v47, main_v48, main_v49, main_v50, main_v51, main_v52]

theorem apart {a b r : Ref sig .tc} {L : List (Ref sig .tc)} (h : r ∉ a :: b :: L) : r ≠ a ∧ r ∉ [b] ∧ r ∉ L := by
  simpa only [List.mem_cons, not_or, List.not_mem_nil, not_false_eq_true, and_true] using h

/-! A buffer that call k and everything after it leave alone holds, at the end of the calls, what it held when call k began. -/

theorem kept9 (r : Ref sig .tc) (h : r ∉ written.drop 18) : W22 m ρ c (Proc.devRef .tc r) = W21 m ρ c (Proc.devRef .tc r) :=
  W22_of m ρ c r (notOut (o := main_v52) (by decide) (List.ne_of_not_mem_cons h))
theorem kept8 (r : Ref sig .tc) (h : r ∉ written.drop 16) : W22 m ρ c (Proc.devRef .tc r) = W19 m ρ c (Proc.devRef .tc r) :=
  have a := apart (a := main_v50) (b := main_v51) h
  (kept9 m ρ c r a.2.2).trans ((W21_of m ρ c r a.2.1).trans (W20_of m ρ c r (notOut (o := main_v50) (by decide) a.1)))
theorem kept7 (r : Ref sig .tc) (h : r ∉ written.drop 14) : W22 m ρ c (Proc.devRef .tc r) = W17 m ρ c (Proc.devRef .tc r) :=
  have a := apart (a := main_v48) (b := main_v49) h
  (kept8 m ρ c r a.2.2).trans ((W19_of m ρ c r a.2.1).trans (W18_of m ρ c r (notOut (o := main_v48) (by decide) a.1)))
theorem kept6 (r : Ref sig .tc) (h : r ∉ written.drop 12) : W22 m ρ c (Proc.devRef .tc r) = W15 m ρ c (Proc.devRef .tc r) :=
  have a := apart (a := main_v46) (b := main_v47) h
  (kept7 m ρ c r a.2.2).trans ((W17_of m ρ c r a.2.1).trans (W16_of m ρ c r (notOut (o := main_v46) (by decide) a.1)))
theorem kept5 (r : Ref sig .tc) (h : r ∉ written.drop 10) : W22 m ρ c (Proc.devRef .tc r) = W13 m ρ c (Proc.devRef .tc r) :=
  have a := apart (a := main_v44) (b := main_v45) h
  (kept6 m ρ c r a.2.2).trans ((W15_of m ρ c r a.2.1).trans (W14_of m ρ c r (notOut (o := main_v44) (by decide) a.1)))
theorem kept4 (r : Ref sig .tc) (h : r ∉ written.drop 8) : W22 m ρ c (Proc.devRef .tc r) = W11 m ρ c (Proc.devRef .tc r) :=
  have a := apart (a := main_v42) (b := main_v43) h
  (kept5 m ρ c r a.2.2).trans ((W13_of m ρ c r a.2.1).trans (W12_of m ρ c r (notOut (o := main_v42) (by decide) a.1)))
theorem kept3 (r : Ref sig .tc) (h : r ∉ written.drop 6) : W22 m ρ c (Proc.devRef .tc r) = W9 m ρ c (Proc.devRef .tc r) :=
  have a := apart (a := main_v40) (b := main_v41) h
  (kept4 m ρ c r a.2.2).trans ((W11_of m ρ c r a.2.1).trans (W10_of m ρ c r (notOut (o := main_v40) (by decide) a.1)))
theorem kept2 (r : Ref sig .tc) (h : r ∉ written.drop 4) : W22 m ρ c (Proc.devRef .tc r) = W7 m ρ c (Proc.devRef .tc r) :=
  have a := apart (a := main_v38) (b := main_v39) h
  (kept3 m ρ c r a.2.2).trans ((W9_of m ρ c r a.2.1).trans (W8_of m ρ c r (notOut (o := main_v38) (by decide) a.1)))
theorem kept1 (r : Ref sig .tc) (h : r ∉ written.drop 2) : W22 m ρ c (Proc.devRef .tc r) = W5 m ρ c (Proc.devRef .tc r) :=
  have a := apart (a := main_v36) (b := main_v37) h
  (kept2 m ρ c r a.2.2).trans ((W7_of m ρ c r a.2.1).trans (W6_of m ρ c r (notOut (o := main_v36) (by decide) a.1)))
theorem kept0 (r : Ref sig .tc) (h : r ∉ written.drop 0) : W22 m ρ c (Proc.devRef .tc r) = W3 m ρ c (Proc.devRef .tc r) :=
  have a := apart (a := main_v34) (b := main_v35) h
  (kept1 m ρ c r a.2.2).trans ((W5_of m ρ c r a.2.1).trans (W4_of m ρ c r (notOut (o := main_v34) (by decide) a.1)))

/-! Each call's result, read at the end of the calls, is the product of its operands, read there too. -/

theorem out0 : W22 m ρ c (Proc.devRef .tc main_v35) = shapeCast S1x8192x6144
    (prod6144 (W22 m ρ c (Proc.devRef .tc main_v33)) (W22 m ρ c (Proc.devRef .tc main_v7))) shapeCasts_S8192x6144_S1x8192x6144 := by
  rw [kept1 m ρ c main_v35 (by decide), kept0 m ρ c main_v33 (by decide), kept0 m ρ c main_v7 (by decide)]
  unfold W5; after_reads_simp
  exact congrArg (shapeCast _ · _) ((W4_arr m ρ c 2).trans (final0 (V3 m ρ) c))
theorem out1 : W22 m ρ c (Proc.devRef .tc main_v37) = shapeCast S1x8192x2048
    (prod2048 (W22 m ρ c (Proc.devRef .tc main_v33)) (W22 m ρ c (Proc.devRef .tc main_v9))) shapeCasts_S8192x2048_S1x8192x2048 := by
  rw [kept2 m ρ c main_v37 (by decide), kept1 m ρ c main_v33 (by decide), kept1 m ρ c main_v9 (by decide)]
  unfold W7; after_reads_simp
  exact congrArg (shapeCast _ · _) ((W6_arr m ρ c 2).trans (final1 (V5 m ρ) c))
theorem out2 : W22 m ρ c (Proc.devRef .tc main_v39) = shapeCast S1x8192x2048
    (prod2048 (W22 m ρ c (Proc.devRef .tc main_v33)) (W22 m ρ c (Proc.devRef .tc main_v15))) shapeCasts_S8192x2048_S1x8192x2048 := by
  rw [kept3 m ρ c main_v39 (by decide), kept2 m ρ c main_v33 (by decide), kept2 m ρ c main_v15 (by decide)]
  unfold W9; after_reads_simp
  exact congrArg (shapeCast _ · _) ((W8_arr m ρ c 2).trans (final2 (V7 m ρ) c))
theorem out3 : W22 m ρ c (Proc.devRef .tc main_v41) = shapeCast S1x8192x2048
    (prod2048 (W22 m ρ c (Proc.devRef .tc main_v33)) (W22 m ρ c (Proc.devRef .tc main_v17))) shapeCasts_S8192x2048_S1x8192x2048 := by
  rw [kept4 m ρ c main_v41 (by decide), kept3 m ρ c main_v33 (by decide), kept3 m ρ c main_v17 (by decide)]
  unfold W11; after_reads_simp
  exact congrArg (shapeCast _ · _) ((W10_arr m ρ c 2).trans (final3 (V9 m ρ) c))
theorem out4 : W22 m ρ c (Proc.devRef .tc main_v43) = shapeCast S1x8192x2048
    (prod2048 (W22 m ρ c (Proc.devRef .tc main_v33)) (W22 m ρ c (Proc.devRef .tc main_v19))) shapeCasts_S8192x2048_S1x8192x2048 := by
  rw [kept5 m ρ c main_v43 (by decide), kept4 m ρ c main_v33 (by decide), kept4 m ρ c main_v19 (by decide)]
  unfold W13; after_reads_simp
  exact congrArg (shapeCast _ · _) ((W12_arr m ρ c 2).trans (final4 (V11 m ρ) c))
theorem out5 : W22 m ρ c (Proc.devRef .tc main_v45) = shapeCast S1x8192x4096
    (prod4096 (W22 m ρ c (Proc.devRef .tc main_v33)) (W22 m ρ c (Proc.devRef .tc main_v21))) shapeCasts_S8192x4096_S1x8192x4096 := by
  rw [kept6 m ρ c main_v45 (by decide), kept5 m ρ c main_v33 (by decide), kept5 m ρ c main_v21 (by decide)]
  unfold W15; after_reads_simp
  exact congrArg (shapeCast _ · _) ((W14_arr m ρ c 2).trans (final5 (V13 m ρ) c))
theorem out6 : W22 m ρ c (Proc.devRef .tc main_v47) = shapeCast S1x8192x128
    (prod128 (W22 m ρ c (Proc.devRef .tc main_v33)) (W22 m ρ c (Proc.devRef .tc main_v25))) shapeCasts_S8192x128_S1x8192x128 := by
  rw [kept7 m ρ c main_v47 (by decide), kept6 m ρ c main_v33 (by decide), kept6 m ρ c main_v25 (by decide)]
  unfold W17; after_reads_simp
  exact congrArg (shapeCast _ · _) ((W16_arr m ρ c 2).trans (final6 (V15 m ρ) c))
theorem out7 : W22 m ρ c (Proc.devRef .tc main_v49) = shapeCast S1x8192x4096
    (prod4096 (W22 m ρ c (Proc.devRef .tc main_v33)) (W22 m ρ c (Proc.devRef .tc main_v27))) shapeCasts_S8192x4096_S1x8192x4096 := by
  rw [kept8 m ρ c main_v49 (by decide), kept7 m ρ c main_v33 (by decide), kept7 m ρ c main_v27 (by decide)]
  unfold W19; after_reads_simp
  exact congrArg (shapeCast _ · _) ((W18_arr m ρ c 2).trans (final7 (V17 m ρ) c))
theorem out8 : W22 m ρ c (Proc.devRef .tc main_v51) = shapeCast S1x8192x4096
    (prod4096 (W22 m ρ c (Proc.devRef .tc main_v33)) (W22 m ρ c (Proc.devRef .tc main_v29))) shapeCasts_S8192x4096_S1x8192x4096 := by
  rw [kept9 m ρ c main_v51 (by decide), kept8 m ρ c main_v33 (by decide), kept8 m ρ c main_v29 (by decide)]
  unfold W21; after_reads_simp
  exact congrArg (shapeCast _ · _) ((W20_arr m ρ c 2).trans (final8 (V19 m ρ) c))
theorem out9 : W22 m ρ c (Proc.devRef .tc main_v52) =
    prod128 (W22 m ρ c (Proc.devRef .tc main_v33)) (W22 m ρ c (Proc.devRef .tc main_v31)) := by
  rw [kept9 m ρ c main_v33 (by decide), kept9 m ρ c main_v31 (by decide)]
  exact (W22_arr m ρ c 2).trans (final9 (V21 m ρ) c)

end Cert.ProjArrays

end
-- ==== Proof.ProjColumns.lean ====
/- The columns of the prompt program: what its ten calls leave, reshaped, are the columns the reference splits x @ w_in into. -/
module

public import proofs.«01_k».proof.Proof.ProjArrays
public import proofs.«01_k».proof.Proof.Gen.Reference2Ideal.Read

@[expose] public section

set_option maxRecDepth 16384

noncomputable section

namespace Cert.ProjColumns

open Cert.Kernel2Ideal Cert.Kernel2Ideal.Gen Idealize.ShloMosaic Idealize.ShloMosaic.TcCoe Cert.ProjTiles Cert.ProjArrays
open Cert.Reference2Ideal.Read

variable (m : (ℓ : Loc nD τ sig) → Buf (Elt Ideal) ℓ) (ρ : Dev nD → PrngReg) (c : Dev nD)

abbrev tokens : FVec Ideal S1x8192x4096 .f32 := m ((c : Thread nD τ).loc main_arg0)
abbrev weight : FVec Ideal S1x4096x26816 .f32 := m ((c : Thread nD τ).loc main_arg1)

/-- The calls' left operand. -/
theorem left : W22 m ρ c (Proc.devRef .tc main_v33) =
    truncf .bf16 (shapeCast S8192x4096 (tokens m c) shapeCasts_S1x8192x4096_S8192x4096) bitsLt_bf16_f32 := by
  rw [kept0 m ρ c main_v33 (by decide)]
  unfold W3 W2 W1
  after_reads_simp
  rfl

theorem qkv : W22 m ρ c (Proc.devRef .tc main_v35) = val_main_v7 (tokens m c) (weight m c) := by
  rw [out0, left, kept0 m ρ c main_v7 (by decide)]
  unfold W3 W2 W1
  after_reads_simp
  rw [show W0 m ρ c (Proc.devRef .tc main_arg1) = weight m c from rfl]
  generalize tokens m c = x
  generalize weight m c = w
  funext y
  pointwise [val_main_v7, val_main_v6, val_main_v2, prod6144]
theorem z : W22 m ρ c (Proc.devRef .tc main_v37) = val_main_v8 (tokens m c) (weight m c) := by
  rw [out1, left, kept0 m ρ c main_v9 (by decide)]
  unfold W3 W2 W1
  after_reads_simp
  rw [show W0 m ρ c (Proc.devRef .tc main_arg1) = weight m c from rfl]
  generalize tokens m c = x
  generalize weight m c = w
  funext y
  pointwise [val_main_v8, val_main_v6, val_main_v2, prod2048]
theorem q_att : W22 m ρ c (Proc.devRef .tc main_v39) = val_main_v11 (tokens m c) (weight m c) := by
  rw [out2, left, kept0 m ρ c main_v15 (by decide)]
  unfold W3 W2 W1
  after_reads_simp
  rw [show W0 m ρ c (Proc.devRef .tc main_arg1) = weight m c from rfl]
  generalize tokens m c = x
  generalize weight m c = w
  funext y
  pointwise [val_main_v11, val_main_v6, val_main_v2, prod2048]
theorem k_att : W22 m ρ c (Proc.devRef .tc main_v41) = val_main_v12 (tokens m c) (weight m c) := by
  rw [out3, left, kept0 m ρ c main_v17 (by decide)]
  unfold W3 W2 W1
  after_reads_simp
  rw [show W0 m ρ c (Proc.devRef .tc main_arg1) = weight m c from rfl]
  generalize tokens m c = x
  generalize weight m c = w
  funext y
  pointwise [val_main_v12, val_main_v6, val_main_v2, prod2048]
theorem v_att : W22 m ρ c (Proc.devRef .tc main_v43) = val_main_v13 (tokens m c) (weight m c) := by
  rw [out4, left, kept0 m ρ c main_v19 (by decide)]
  unfold W3 W2 W1
  after_reads_simp
  rw [show W0 m ρ c (Proc.devRef .tc main_arg1) = weight m c from rfl]
  generalize tokens m c = x
  generalize weight m c = w
  funext y
  pointwise [val_main_v13, val_main_v6, val_main_v2, prod2048]
theorem q_idx : W22 m ρ c (Proc.devRef .tc main_v45) = val_main_v14 (tokens m c) (weight m c) := by
  rw [out5, left, kept0 m ρ c main_v21 (by decide)]
  unfold W3 W2 W1
  after_reads_simp
  rw [show W0 m ρ c (Proc.devRef .tc main_arg1) = weight m c from rfl]
  generalize tokens m c = x
  generalize weight m c = w
  funext y
  pointwise [val_main_v14, val_main_v6, val_main_v2, prod4096]
theorem k_idx : W22 m ρ c (Proc.devRef .tc main_v47) = val_main_v16 (tokens m c) (weight m c) := by
  rw [out6, left, kept0 m ρ c main_v25 (by decide)]
  unfold W3 W2 W1
  after_reads_simp
  rw [show W0 m ρ c (Proc.devRef .tc main_arg1) = weight m c from rfl]
  generalize tokens m c = x
  generalize weight m c = w
  funext y
  pointwise [val_main_v16, val_main_v6, val_main_v2, prod128]
theorem gate_gdn : W22 m ρ c (Proc.devRef .tc main_v49) = val_main_v17 (tokens m c) (weight m c) := by
  rw [out7, left, kept0 m ρ c main_v27 (by decide)]
  unfold W3 W2 W1
  after_reads_simp
  rw [show W0 m ρ c (Proc.devRef .tc main_arg1) = weight m c from rfl]
  generalize tokens m c = x
  generalize weight m c = w
  funext y
  pointwise [val_main_v17, val_main_v6, val_main_v2, prod4096]
theorem gate_att : W22 m ρ c (Proc.devRef .tc main_v51) = val_main_v18 (tokens m c) (weight m c) := by
  rw [out8, left, kept0 m ρ c main_v29 (by decide)]
  unfold W3 W2 W1
  after_reads_simp
  rw [show W0 m ρ c (Proc.devRef .tc main_arg1) = weight m c from rfl]
  generalize tokens m c = x
  generalize weight m c = w
  funext y
  pointwise [val_main_v18, val_main_v6, val_main_v2, prod4096]

/-- The narrow columns' weight: those of b_raw, a_raw and w_idx side by side, and 64 columns of zeros. -/
def narrow (w : FVec Ideal S1x4096x26816 .f32) : FVec Ideal S4096x128 .bf16 :=
  have a : FVec Ideal S4096x26816 .f32 := shapeCast S4096x26816 w shapeCasts_S1x4096x26816_S4096x26816
  pad S4096x128 ![0, 0] ![0, 64] ![0, 0]
    (concatenate S4096x64 1
      [⟨S4096x16, truncf .bf16 (extractStridedSlice S4096x16 ![0, 8192] a slices_S4096x26816_S4096x16_0_8192) bitsLt_bf16_f32⟩,
        ⟨S4096x16, truncf .bf16 (extractStridedSlice S4096x16 ![0, 8208] a slices_S4096x26816_S4096x16_0_8208) bitsLt_bf16_f32⟩,
        ⟨S4096x32, truncf .bf16 (extractStridedSlice S4096x32 ![0, 18464] a slices_S4096x26816_S4096x32_0_18464) bitsLt_bf16_f32⟩]
      concatenates_S4096x16_S4096x16_S4096x32_S4096x64_d1)
    (sitofp .bf16 (constantI S_ 32 0#32)) pads_S4096x64_S4096x128_000_0640 h_S_

theorem narrow_weight : W22 m ρ c (Proc.devRef .tc main_v31) = narrow (weight m c) := by
  rw [kept0 m ρ c main_v31 (by decide)]
  have e1 : StableHlo.upto hostOps0 (W0 m ρ c) 31 (Proc.devRef .tc main_v11) = truncf .bf16 (extractStridedSlice S4096x16 ![0, 8192]
      (shapeCast S4096x26816 (weight m c) shapeCasts_S1x4096x26816_S4096x26816) slices_S4096x26816_S4096x16_0_8192) bitsLt_bf16_f32 := by
    after_reads_simp; rfl
  have e2 : StableHlo.upto hostOps0 (W0 m ρ c) 31 (Proc.devRef .tc main_v13) = truncf .bf16 (extractStridedSlice S4096x16 ![0, 8208]
      (shapeCast S4096x26816 (weight m c) shapeCasts_S1x4096x26816_S4096x26816) slices_S4096x26816_S4096x16_0_8208) bitsLt_bf16_f32 := by
    after_reads_simp; rfl
  have e3 : StableHlo.upto hostOps0 (W0 m ρ c) 31 (Proc.devRef .tc main_v23) = truncf .bf16 (extractStridedSlice S4096x32 ![0, 18464]
      (shapeCast S4096x26816 (weight m c) shapeCasts_S1x4096x26816_S4096x26816) slices_S4096x26816_S4096x32_0_18464) bitsLt_bf16_f32 := by
    after_reads_simp; rfl
  unfold W3 W2 W1
  after_reads_simp
  simp only [Matrix.cons_val_zero, Matrix.cons_val_one, Matrix.cons_val]
  rw [e1, e2, e3]
  rfl

/-- What the narrow columns' product holds, reshaped. -/
def narrowCols (x : FVec Ideal S1x8192x4096 .f32) (w : FVec Ideal S1x4096x26816 .f32) : FVec Ideal S1x8192x128 .f32 :=
  shapeCast S1x8192x128 (prod128 (truncf .bf16 (shapeCast S8192x4096 x shapeCasts_S1x8192x4096_S8192x4096) bitsLt_bf16_f32) (narrow w))
    shapeCasts_S8192x128_S1x8192x128

theorem b_raw (x : FVec Ideal S1x8192x4096 .f32) (w : FVec Ideal S1x4096x26816 .f32) :
    extractStridedSlice S1x8192x16 ![0, 0, 0] (narrowCols x w) slices_S1x8192x128_S1x8192x16_0_0_0 = val_main_v9 (F := Ideal) x w := by
  funext y
  pointwise [val_main_v9, val_main_v6, val_main_v2, narrowCols, narrow, prod128]
  have b : (y 2).val < 16 := (y 2).isLt
  exact Finset.sum_congr rfl fun k _ => by rw [dif_pos (by omega)]
theorem a_raw (x : FVec Ideal S1x8192x4096 .f32) (w : FVec Ideal S1x4096x26816 .f32) :
    extractStridedSlice S1x8192x16 ![0, 0, 16] (narrowCols x w) slices_S1x8192x128_S1x8192x16_0_0_16 = val_main_v10 (F := Ideal) x w := by
  funext y
  pointwise [val_main_v10, val_main_v6, val_main_v2, narrowCols, narrow, prod128]
  have b : (y 2).val < 16 := (y 2).isLt
  exact Finset.sum_congr rfl fun k _ => by rw [dif_pos (by omega)]
theorem w_idx (x : FVec Ideal S1x8192x4096 .f32) (w : FVec Ideal S1x4096x26816 .f32) :
    extractStridedSlice S1x8192x32 ![0, 0, 32] (narrowCols x w) slices_S1x8192x128_S1x8192x32_0_0_32 = val_main_v15 (F := Ideal) x w := by
  funext y
  pointwise [val_main_v15, val_main_v6, val_main_v2, narrowCols, narrow, prod128]
  have b : (y 2).val < 32 := (y 2).isLt
  refine Finset.sum_congr rfl fun k _ => ?_
  rw [dif_pos (by omega), dif_neg (by omega), dif_neg (by omega)]
  exact congrArg (fun i => x (ix3 0 (y 1) k) * w (ix3 0 k i)) (Fin.ext (by show 18464 + (32 + (y 2).val - 16 - 16) = 18464 + (y 2).val; omega))

end Cert.ProjColumns

end
-- ==== Proof.ProjTail.lean ====
/- The prompt program's host operations after its calls are the reference's own, one for one: each stage, over any buffer
   contents `U`, leaves the reference's stage of the reference's columns when `U` holds those columns. -/
module

public import proofs.«01_k».proof.Proof.Gen.Kernel2Ideal.Frame
public import proofs.«01_k».proof.Proof.Gen.Reference2Ideal.Read
public import Idealize.ShloMosaic.Lib.StableHlo.RunRead

@[expose] public section

set_option maxRecDepth 16384

noncomputable section

namespace Cert.ProjTail

open Cert.Kernel2Ideal Cert.Kernel2Ideal.Gen Idealize.ShloMosaic Idealize.ShloMosaic.TcCoe
open Cert.Reference2Ideal.Read
open Cert.Reference2Ideal.Value (fn_main_v19)

variable (U : Valuation τ sig (Elt Ideal)) (x0 : FVec Ideal S1x8192x4096 .f32) (x1 : FVec Ideal S1x4096x26816 .f32)
  (x2 : FVec Ideal S1x4x6144 .f32) (x3 x4 : FVec Ideal S1x16 .f32)

/-! The short convolution. -/

theorem rows (h : U (Proc.devRef .tc main_v35) = val_main_v7 x0 x1) (h1 : U (Proc.devRef .tc main_v1) = val_main_v1) :
    StableHlo.after hostOps10 U (Proc.devRef .tc main_v57) = val_main_v19 x0 x1 := by
  after_reads_simp
  exact congrArg₂ fn_main_v19 ((by after_reads_simp; exact h1 : _ = val_main_v1)) (by after_reads_simp; exact h)

theorem conv (h : U (Proc.devRef .tc main_v35) = val_main_v7 x0 x1) (h1 : U (Proc.devRef .tc main_v1) = val_main_v1)
    (h3 : U (Proc.devRef .tc main_v3) = val_main_v3 x2) :
    StableHlo.after hostOps10 U (Proc.devRef .tc main_v86) = val_main_v48 x0 x1 x2 := by
  have e : StableHlo.upto hostOps10 U 4 (Proc.devRef .tc main_v35) = val_main_v7 x0 x1 := by after_reads_simp; exact h
  have e1 : StableHlo.upto hostOps10 U 4 (Proc.devRef .tc main_v1) = val_main_v1 := by after_reads_simp; exact h1
  after_reads_simp
  rw [e, e1, h3]
  rfl

theorem silu (h : U (Proc.devRef .tc main_v86) = val_main_v48 x0 x1 x2) :
    StableHlo.after hostOps10_1 U (Proc.devRef .tc main_v87) = val_main_v49 x0 x1 x2 := by
  after_reads_simp
  rw [h]
  rfl

/-! Queries, keys and values of the recurrence, its gates. -/

theorem conv_new (h : U (Proc.devRef .tc main_v57) = val_main_v19 x0 x1) :
    StableHlo.after hostOps10_2 U (Proc.devRef .tc main_v88) = val_main_v50 x0 x1 := by
  after_reads_simp; rw [h]; rfl
theorem q (h : U (Proc.devRef .tc main_v87) = val_main_v49 x0 x1 x2) :
    StableHlo.after hostOps10_2 U (Proc.devRef .tc main_v104) = val_main_v66 x0 x1 x2 := by
  after_reads_simp; rw [h]; rfl
theorem k (h : U (Proc.devRef .tc main_v87) = val_main_v49 x0 x1 x2) :
    StableHlo.after hostOps10_2 U (Proc.devRef .tc main_v112) = val_main_v74 x0 x1 x2 := by
  after_reads_simp; rw [h]; rfl
theorem v (h : U (Proc.devRef .tc main_v87) = val_main_v49 x0 x1 x2) :
    StableHlo.after hostOps10_2 U (Proc.devRef .tc main_v94) = val_main_v56 x0 x1 x2 := by
  after_reads_simp; rw [h]; rfl
theorem beta (h : U (Proc.devRef .tc main_v54) = val_main_v9 x0 x1) :
    StableHlo.after hostOps10_2 U (Proc.devRef .tc main_v118) = val_main_v80 x0 x1 := by
  after_reads_simp; rw [h]; rfl
theorem rate (h : U (Proc.devRef .tc main_v4) = val_main_v4 x3) :
    StableHlo.after hostOps10_2 U (Proc.devRef .tc main_v120) = val_main_v82 x3 := by
  after_reads_simp; rw [h]; rfl
theorem shifted (h : U (Proc.devRef .tc main_v55) = val_main_v10 x0 x1) (h5 : U (Proc.devRef .tc main_v5) = val_main_v5 x4) :
    StableHlo.after hostOps10_2 U (Proc.devRef .tc main_v123) = val_main_v85 x0 x1 x4 := by
  after_reads_simp; rw [h, h5]; rfl
theorem softplus (h : U (Proc.devRef .tc main_v123) = val_main_v85 x0 x1 x4) :
    StableHlo.after hostOps10_3 U (Proc.devRef .tc main_v124) = val_main_v86 x0 x1 x4 := by
  after_reads_simp; rw [h]; rfl
theorem g (h : U (Proc.devRef .tc main_v120) = val_main_v82 x3) (h' : U (Proc.devRef .tc main_v124) = val_main_v86 x0 x1 x4) :
    StableHlo.after hostOps10_4 U (Proc.devRef .tc main_v127) = val_main_v89 x0 x1 x3 x4 := by
  after_reads_simp; rw [h, h']; rfl

/-! The attention's heads: rotated queries and keys, values, the indexer's. -/

theorem qa (h : U (Proc.devRef .tc main_v39) = val_main_v11 x0 x1) (h0 : U (Proc.devRef .tc main_v0) = val_main_v0) :
    StableHlo.after hostOps10_4 U (Proc.devRef .tc main_v157) = val_main_v119 x0 x1 := by
  have e : StableHlo.upto hostOps10_4 U 34 (Proc.devRef .tc main_v151) = val_main_v113 x0 x1 := by
    after_reads_simp; rw [h, h0]; rfl
  have e' : StableHlo.upto hostOps10_4 U 34 (Proc.devRef .tc main_v156) = val_main_v118 x0 x1 := by
    after_reads_simp; rw [h, h0]; rfl
  after_reads_simp; rw [e, e']; rfl
theorem ka (h : U (Proc.devRef .tc main_v41) = val_main_v12 x0 x1) (h0 : U (Proc.devRef .tc main_v0) = val_main_v0) :
    StableHlo.after hostOps10_4 U (Proc.devRef .tc main_v187) = val_main_v149 x0 x1 := by
  have e : StableHlo.upto hostOps10_4 U 66 (Proc.devRef .tc main_v181) = val_main_v143 x0 x1 := by
    after_reads_simp; rw [h, h0]; rfl
  have e' : StableHlo.upto hostOps10_4 U 66 (Proc.devRef .tc main_v186) = val_main_v148 x0 x1 := by
    after_reads_simp; rw [h, h0]; rfl
  after_reads_simp; rw [e, e']; rfl
theorem va (h : U (Proc.devRef .tc main_v43) = val_main_v13 x0 x1) :
    StableHlo.after hostOps10_4 U (Proc.devRef .tc main_v188) = val_main_v150 x0 x1 := by
  after_reads_simp; rw [h]; rfl
theorem qi (h : U (Proc.devRef .tc main_v45) = val_main_v14 x0 x1) (h0 : U (Proc.devRef .tc main_v0) = val_main_v0) :
    StableHlo.after hostOps10_4 U (Proc.devRef .tc main_v218) = val_main_v180 x0 x1 := by
  have e : StableHlo.upto hostOps10_4 U 99 (Proc.devRef .tc main_v212) = val_main_v174 x0 x1 := by
    after_reads_simp; rw [h, h0]; rfl
  have e' : StableHlo.upto hostOps10_4 U 99 (Proc.devRef .tc main_v217) = val_main_v179 x0 x1 := by
    after_reads_simp; rw [h, h0]; rfl
  after_reads_simp; rw [e, e']; rfl
theorem ki (h : U (Proc.devRef .tc main_v47) = val_main_v16 x0 x1) (h0 : U (Proc.devRef .tc main_v0) = val_main_v0) :
    StableHlo.after hostOps10_4 U (Proc.devRef .tc main_v245) = val_main_v207 x0 x1 := by
  have e : StableHlo.upto hostOps10_4 U 127 (Proc.devRef .tc main_v240) = val_main_v202 x0 x1 := by
    after_reads_simp; rw [h, h0]; rfl
  have e' : StableHlo.upto hostOps10_4 U 127 (Proc.devRef .tc main_v243) = val_main_v205 x0 x1 := by
    after_reads_simp; rw [h, h0]; rfl
  after_reads_simp; rw [e, e']; rfl
theorem wi (h : U (Proc.devRef .tc main_v56) = val_main_v15 x0 x1) :
    StableHlo.after hostOps10_4 U (Proc.devRef .tc main_v247) = val_main_v209 x0 x1 := by
  after_reads_simp; rw [h]; rfl

end Cert.ProjTail

end
-- ==== Proof.ProjResults.lean ====
/- The prompt program's results, read at its end, are the reference's stages of the same arguments. -/
module

public import proofs.«01_k».proof.Proof.ProjColumns
public import proofs.«01_k».proof.Proof.ProjTail

@[expose] public section

set_option maxRecDepth 16384

noncomputable section

namespace Cert.ProjResults

open Cert.Kernel2Ideal Cert.Kernel2Ideal.Gen Idealize.ShloMosaic Idealize.ShloMosaic.TcCoe Cert.ProjTiles Cert.ProjArrays
open Cert.ProjColumns (tokens weight narrowCols)
open Cert.Reference2Ideal.Read

variable (m : (ℓ : Loc nD τ sig) → Buf (Elt Ideal) ℓ) (ρ : Dev nD → PrngReg) (c : Dev nD)

abbrev filter : FVec Ideal S1x4x6144 .f32 := m ((c : Thread nD τ).loc main_arg2)
abbrev aLog : FVec Ideal S1x16 .f32 := m ((c : Thread nD τ).loc main_arg3)
abbrev dtBias : FVec Ideal S1x16 .f32 := m ((c : Thread nD τ).loc main_arg4)

/-! What the calls and the stages after them leave alone. -/

theorem early (r : Ref sig .tc) (h : r ∉ written) (h1 : r ∉ hostOps0_1_W) (h2 : r ∉ hostOps0_2_W) :
    W22 m ρ c (Proc.devRef .tc r) = W1 m ρ c (Proc.devRef .tc r) :=
  (kept0 m ρ c r h).trans ((W3_of m ρ c r h2).trans (W2_of m ρ c r h1))

theorem past (r : Ref sig .tc) (h : r ∉ hostOps10_W) (h1 : r ∉ hostOps10_1_W) (h2 : r ∉ hostOps10_2_W) (h3 : r ∉ hostOps10_3_W) :
    W26 m ρ c (Proc.devRef .tc r) = W22 m ρ c (Proc.devRef .tc r) :=
  (W26_of m ρ c r h3).trans ((W25_of m ρ c r h2).trans ((W24_of m ρ c r h1).trans (W23_of m ρ c r h)))

theorem end_of_25 (r : Ref sig .tc) (h3 : r ∉ hostOps10_3_W) (h4 : r ∉ hostOps10_4_W) :
    W27 m ρ c (Proc.devRef .tc r) = W25 m ρ c (Proc.devRef .tc r) :=
  (W27_of m ρ c r h4).trans (W26_of m ρ c r h3)

theorem positions : W22 m ρ c (Proc.devRef .tc main_v0) = val_main_v0 := by
  rw [early m ρ c main_v0 (by decide) (by decide) (by decide)]; unfold W1; after_reads_simp; rfl
theorem zeros : W22 m ρ c (Proc.devRef .tc main_v1) = val_main_v1 := by
  rw [early m ρ c main_v1 (by decide) (by decide) (by decide)]; unfold W1; after_reads_simp; rfl
theorem filter_at : W22 m ρ c (Proc.devRef .tc main_v3) = val_main_v3 (filter m c) := by
  rw [early m ρ c main_v3 (by decide) (by decide) (by decide)]; unfold W1; after_reads_simp; rfl
theorem a_log_at : W24 m ρ c (Proc.devRef .tc main_v4) = val_main_v4 (aLog m c) := by
  rw [W24_of m ρ c main_v4 (by decide), W23_of m ρ c main_v4 (by decide), early m ρ c main_v4 (by decide) (by decide) (by decide)]
  unfold W1; after_reads_simp; rfl
theorem dt_bias_at : W24 m ρ c (Proc.devRef .tc main_v5) = val_main_v5 (dtBias m c) := by
  rw [W24_of m ρ c main_v5 (by decide), W23_of m ρ c main_v5 (by decide), early m ρ c main_v5 (by decide) (by decide) (by decide)]
  unfold W1; after_reads_simp; rfl

/-! The narrow columns, cut from their product. -/

theorem narrow_product : shapeCast S1x8192x128 (W22 m ρ c (Proc.devRef .tc main_v52)) shapeCasts_S8192x128_S1x8192x128
    = narrowCols (tokens m c) (weight m c) := by
  rw [out9, ProjColumns.left, ProjColumns.narrow_weight]; rfl

theorem b_raw_at : W24 m ρ c (Proc.devRef .tc main_v54) = val_main_v9 (tokens m c) (weight m c) := by
  rw [W24_of m ρ c main_v54 (by decide)]
  refine Eq.trans ?_ (ProjColumns.b_raw (tokens m c) (weight m c))
  rw [← narrow_product m ρ c]; unfold W23; after_reads_simp; rfl
theorem a_raw_at : W24 m ρ c (Proc.devRef .tc main_v55) = val_main_v10 (tokens m c) (weight m c) := by
  rw [W24_of m ρ c main_v55 (by decide)]
  refine Eq.trans ?_ (ProjColumns.a_raw (tokens m c) (weight m c))
  rw [← narrow_product m ρ c]; unfold W23; after_reads_simp; rfl
theorem w_idx_at : W26 m ρ c (Proc.devRef .tc main_v56) = val_main_v15 (tokens m c) (weight m c) := by
  rw [W26_of m ρ c main_v56 (by decide), W25_of m ρ c main_v56 (by decide), W24_of m ρ c main_v56 (by decide)]
  refine Eq.trans ?_ (ProjColumns.w_idx (tokens m c) (weight m c))
  rw [← narrow_product m ρ c]; unfold W23; after_reads_simp; rfl

/-! The results. -/

theorem conv_out : W24 m ρ c (Proc.devRef .tc main_v87) = val_main_v49 (tokens m c) (weight m c) (filter m c) :=
  ProjTail.silu _ _ _ _ (ProjTail.conv _ _ _ _ (ProjColumns.qkv m ρ c) (zeros m ρ c) (filter_at m ρ c))

theorem conv_new : W27 m ρ c (Proc.devRef .tc main_v88) = val_main_v50 (tokens m c) (weight m c) :=
  (end_of_25 m ρ c main_v88 (by decide) (by decide)).trans (ProjTail.conv_new _ _ _
    ((W24_of m ρ c main_v57 (by decide)).trans (ProjTail.rows _ _ _ (ProjColumns.qkv m ρ c) (zeros m ρ c))))
theorem q : W27 m ρ c (Proc.devRef .tc main_v104) = val_main_v66 (tokens m c) (weight m c) (filter m c) :=
  (end_of_25 m ρ c main_v104 (by decide) (by decide)).trans (ProjTail.q _ _ _ _ (conv_out m ρ c))
theorem k : W27 m ρ c (Proc.devRef .tc main_v112) = val_main_v74 (tokens m c) (weight m c) (filter m c) :=
  (end_of_25 m ρ c main_v112 (by decide) (by decide)).trans (ProjTail.k _ _ _ _ (conv_out m ρ c))
theorem v : W27 m ρ c (Proc.devRef .tc main_v94) = val_main_v56 (tokens m c) (weight m c) (filter m c) :=
  (end_of_25 m ρ c main_v94 (by decide) (by decide)).trans (ProjTail.v _ _ _ _ (conv_out m ρ c))
theorem beta : W27 m ρ c (Proc.devRef .tc main_v118) = val_main_v80 (tokens m c) (weight m c) :=
  (end_of_25 m ρ c main_v118 (by decide) (by decide)).trans (ProjTail.beta _ _ _ (b_raw_at m ρ c))
theorem g : W27 m ρ c (Proc.devRef .tc main_v127) = val_main_v89 (tokens m c) (weight m c) (aLog m c) (dtBias m c) :=
  ProjTail.g _ _ _ _ _ ((W26_of m ρ c main_v120 (by decide)).trans (ProjTail.rate _ _ (a_log_at m ρ c)))
    (ProjTail.softplus _ _ _ _ (ProjTail.shifted _ _ _ _ (a_raw_at m ρ c) (dt_bias_at m ρ c)))
theorem z : W27 m ρ c (Proc.devRef .tc main_v37) = val_main_v8 (tokens m c) (weight m c) :=
  (W27_of m ρ c main_v37 (by decide)).trans ((past m ρ c main_v37 (by decide) (by decide) (by decide) (by decide)).trans (ProjColumns.z m ρ c))
theorem gate_gdn : W27 m ρ c (Proc.devRef .tc main_v49) = val_main_v17 (tokens m c) (weight m c) :=
  (W27_of m ρ c main_v49 (by decide)).trans ((past m ρ c main_v49 (by decide) (by decide) (by decide) (by decide)).trans (ProjColumns.gate_gdn m ρ c))
theorem gate_att : W27 m ρ c (Proc.devRef .tc main_v51) = val_main_v18 (tokens m c) (weight m c) :=
  (W27_of m ρ c main_v51 (by decide)).trans ((past m ρ c main_v51 (by decide) (by decide) (by decide) (by decide)).trans (ProjColumns.gate_att m ρ c))

theorem positions_past : W26 m ρ c (Proc.devRef .tc main_v0) = val_main_v0 :=
  (past m ρ c main_v0 (by decide) (by decide) (by decide) (by decide)).trans (positions m ρ c)
theorem qa : W27 m ρ c (Proc.devRef .tc main_v157) = val_main_v119 (tokens m c) (weight m c) :=
  ProjTail.qa _ _ _ ((past m ρ c main_v39 (by decide) (by decide) (by decide) (by decide)).trans (ProjColumns.q_att m ρ c)) (positions_past m ρ c)
theorem ka : W27 m ρ c (Proc.devRef .tc main_v187) = val_main_v149 (tokens m c) (weight m c) :=
  ProjTail.ka _ _ _ ((past m ρ c main_v41 (by decide) (by decide) (by decide) (by decide)).trans (ProjColumns.k_att m ρ c)) (positions_past m ρ c)
theorem va : W27 m ρ c (Proc.devRef .tc main_v188) = val_main_v150 (tokens m c) (weight m c) :=
  ProjTail.va _ _ _ ((past m ρ c main_v43 (by decide) (by decide) (by decide) (by decide)).trans (ProjColumns.v_att m ρ c))
theorem qi : W27 m ρ c (Proc.devRef .tc main_v218) = val_main_v180 (tokens m c) (weight m c) :=
  ProjTail.qi _ _ _ ((past m ρ c main_v45 (by decide) (by decide) (by decide) (by decide)).trans (ProjColumns.q_idx m ρ c)) (positions_past m ρ c)
theorem ki : W27 m ρ c (Proc.devRef .tc main_v245) = val_main_v207 (tokens m c) (weight m c) :=
  ProjTail.ki _ _ _ ((past m ρ c main_v47 (by decide) (by decide) (by decide) (by decide)).trans (ProjColumns.k_idx m ρ c)) (positions_past m ρ c)
theorem wi : W27 m ρ c (Proc.devRef .tc main_v247) = val_main_v209 (tokens m c) (weight m c) :=
  ProjTail.wi _ _ _ (w_idx_at m ρ c)

end Cert.ProjResults

end
-- ==== Proof.ProjRun.lean ====
/- The prompt program's run: every buffer the run leaves holds what the last boundary of the program says, `W27`. The launch is the frame's. -/
module

public import proofs.«01_k».proof.Proof.Gen.Kernel2Ideal.Frame

@[expose] public section

set_option maxRecDepth 16384

noncomputable section

namespace Cert.ProjRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run (defs (F := F)) (onTc (τ := τ) (main (F := F))) ⟨m, fun _ => 0, ρ⟩ (fun r => ∀ c : Dev nD,
      ∀ b ∈ Pipeline.ucRefs τ sig, r.2.mem (((c : Thread nD τ)).1, b) = W27 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h hz => h)

end Cert.ProjRun

end
-- ==== Proof.ProjClaim.lean ====
/- The value claim of the prompt program: every result of its run is the stage of the reference it stands for, of the same
   arguments; the reference's run leaves those stages of its own arguments, and the arguments agree. -/
module

public import proofs.«01_k».proof.Proof.ProjResults
public import proofs.«01_k».proof.Proof.ProjRun
public import proofs.«01_k».proof.Proof.Gen.Reference2Ideal.Run
public import proofs.«01_k».proof.Proof.Gen.Reference2Ideal.Read
public import proofs.«01_k».proof.Defs
public import Idealize.ShloMosaic.Lib.Quiescent

@[expose] public section

set_option maxRecDepth 16384

noncomputable section

namespace Cert.ProjClaim

open Idealize.ShloMosaic Idealize.ShloMosaic.TcCoe Idealize.SL.Sem
open Idealize.ShloMosaic.StableHlo
open Cert.Reference2Ideal.Read
open Cert.ProjColumns (tokens weight)
open Cert.ProjResults (filter aLog dtBias)

section ReferenceRun
open Cert.Reference2Ideal

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v149) = val_main_v149 (m ((c : Thread nD τ).loc main_arg0)) (m ((c : Thread nD τ).loc main_arg1))
      ∧ r.2.mem ((c.tc : Thread nD τ).loc main_v150) = val_main_v150 (m ((c : Thread nD τ).loc main_arg0)) (m ((c : Thread nD τ).loc main_arg1))
      ∧ r.2.mem ((c.tc : Thread nD τ).loc main_v207) = val_main_v207 (m ((c : Thread nD τ).loc main_arg0)) (m ((c : Thread nD τ).loc main_arg1))
      ∧ r.2.mem ((c.tc : Thread nD τ).loc main_v50) = val_main_v50 (m ((c : Thread nD τ).loc main_arg0)) (m ((c : Thread nD τ).loc main_arg1))
      ∧ r.2.mem ((c.tc : Thread nD τ).loc main_v66) = val_main_v66 (m ((c : Thread nD τ).loc main_arg0)) (m ((c : Thread nD τ).loc main_arg1)) (m ((c : Thread nD τ).loc main_arg2))
      ∧ r.2.mem ((c.tc : Thread nD τ).loc main_v74) = val_main_v74 (m ((c : Thread nD τ).loc main_arg0)) (m ((c : Thread nD τ).loc main_arg1)) (m ((c : Thread nD τ).loc main_arg2))
      ∧ r.2.mem ((c.tc : Thread nD τ).loc main_v56) = val_main_v56 (m ((c : Thread nD τ).loc main_arg0)) (m ((c : Thread nD τ).loc main_arg1)) (m ((c : Thread nD τ).loc main_arg2))
      ∧ r.2.mem ((c.tc : Thread nD τ).loc main_v89) = val_main_v89 (m ((c : Thread nD τ).loc main_arg0)) (m ((c : Thread nD τ).loc main_arg1)) (m ((c : Thread nD τ).loc main_arg3)) (m ((c : Thread nD τ).loc main_arg4))
      ∧ r.2.mem ((c.tc : Thread nD τ).loc main_v80) = val_main_v80 (m ((c : Thread nD τ).loc main_arg0)) (m ((c : Thread nD τ).loc main_arg1))
      ∧ r.2.mem ((c.tc : Thread nD τ).loc main_v8) = val_main_v8 (m ((c : Thread nD τ).loc main_arg0)) (m ((c : Thread nD τ).loc main_arg1))
      ∧ r.2.mem ((c.tc : Thread nD τ).loc main_v119) = val_main_v119 (m ((c : Thread nD τ).loc main_arg0)) (m ((c : Thread nD τ).loc main_arg1))
      ∧ r.2.mem ((c.tc : Thread nD τ).loc main_v180) = val_main_v180 (m ((c : Thread nD τ).loc main_arg0)) (m ((c : Thread nD τ).loc main_arg1))
      ∧ r.2.mem ((c.tc : Thread nD τ).loc main_v209) = val_main_v209 (m ((c : Thread nD τ).loc main_arg0)) (m ((c : Thread nD τ).loc main_arg1))
      ∧ r.2.mem ((c.tc : Thread nD τ).loc main_v17) = val_main_v17 (m ((c : Thread nD τ).loc main_arg0)) (m ((c : Thread nD τ).loc main_arg1))
      ∧ r.2.mem ((c.tc : Thread nD τ).loc main_v18) = val_main_v18 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => by
    obtain ⟨h0, h1, h2, h3, h4, h5, h6, h7, h8, h9, h10, h11, h12, h13, h14, h⟩ := h c
    exact ⟨h0.trans (val_main_v149_eq _),
      h1.trans (val_main_v150_eq _),
      h2.trans (val_main_v207_eq _),
      h3.trans (val_main_v50_eq _),
      h4.trans (val_main_v66_eq _),
      h5.trans (val_main_v74_eq _),
      h6.trans (val_main_v56_eq _),
      h7.trans (val_main_v89_eq _),
      h8.trans (val_main_v80_eq _),
      h9.trans (val_main_v8_eq _),
      h10.trans (val_main_v119_eq _),
      h11.trans (val_main_v180_eq _),
      h12.trans (val_main_v209_eq _),
      h13.trans (val_main_v17_eq _),
      h14.trans (val_main_v18_eq _), h⟩) (Cert.Reference2Ideal.Value.run m ρ)

end ReferenceRun

theorem reference_frame [hR : Cert.Reference2Ideal.Facts] : Cert.quiescent_Reference2Ideal := fun m g _ =>
  (θ_run _ _ _).mono (fun r h => ⟨fun c => (h c).2.2.2.2.2.2.2.2.2.2.2.2.2.2.2, Idealize.ShloMosaic.sem_eq_zero_of_no_sems (by decide) r.2⟩)
    (Cert.Reference2Ideal.Value.run m g)

section KernelRun
open Cert.Kernel2Ideal Cert.Kernel2Ideal.Gen

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v187) = val_main_v149 (tokens m c) (weight m c)
      ∧ r.2.mem ((c.tc : Thread nD τ).loc main_v188) = val_main_v150 (tokens m c) (weight m c)
      ∧ r.2.mem ((c.tc : Thread nD τ).loc main_v245) = val_main_v207 (tokens m c) (weight m c)
      ∧ r.2.mem ((c.tc : Thread nD τ).loc main_v88) = val_main_v50 (tokens m c) (weight m c)
      ∧ r.2.mem ((c.tc : Thread nD τ).loc main_v104) = val_main_v66 (tokens m c) (weight m c) (filter m c)
      ∧ r.2.mem ((c.tc : Thread nD τ).loc main_v112) = val_main_v74 (tokens m c) (weight m c) (filter m c)
      ∧ r.2.mem ((c.tc : Thread nD τ).loc main_v94) = val_main_v56 (tokens m c) (weight m c) (filter m c)
      ∧ r.2.mem ((c.tc : Thread nD τ).loc main_v127) = val_main_v89 (tokens m c) (weight m c) (aLog m c) (dtBias m c)
      ∧ r.2.mem ((c.tc : Thread nD τ).loc main_v118) = val_main_v80 (tokens m c) (weight m c)
      ∧ r.2.mem ((c.tc : Thread nD τ).loc main_v37) = val_main_v8 (tokens m c) (weight m c)
      ∧ r.2.mem ((c.tc : Thread nD τ).loc main_v157) = val_main_v119 (tokens m c) (weight m c)
      ∧ r.2.mem ((c.tc : Thread nD τ).loc main_v218) = val_main_v180 (tokens m c) (weight m c)
      ∧ r.2.mem ((c.tc : Thread nD τ).loc main_v247) = val_main_v209 (tokens m c) (weight m c)
      ∧ r.2.mem ((c.tc : Thread nD τ).loc main_v49) = val_main_v17 (tokens m c) (weight m c)
      ∧ r.2.mem ((c.tc : Thread nD τ).loc main_v51) = val_main_v18 (tokens m c) (weight m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c _ (mem_uc main_v187 (by decide))).trans (ProjResults.ka m ρ c),
      (h c _ (mem_uc main_v188 (by decide))).trans (ProjResults.va m ρ c),
      (h c _ (mem_uc main_v245 (by decide))).trans (ProjResults.ki m ρ c),
      (h c _ (mem_uc main_v88 (by decide))).trans (ProjResults.conv_new m ρ c),
      (h c _ (mem_uc main_v104 (by decide))).trans (ProjResults.q m ρ c),
      (h c _ (mem_uc main_v112 (by decide))).trans (ProjResults.k m ρ c),
      (h c _ (mem_uc main_v94 (by decide))).trans (ProjResults.v m ρ c),
      (h c _ (mem_uc main_v127 (by decide))).trans (ProjResults.g m ρ c),
      (h c _ (mem_uc main_v118 (by decide))).trans (ProjResults.beta m ρ c),
      (h c _ (mem_uc main_v37 (by decide))).trans (ProjResults.z m ρ c),
      (h c _ (mem_uc main_v157 (by decide))).trans (ProjResults.qa m ρ c),
      (h c _ (mem_uc main_v218 (by decide))).trans (ProjResults.qi m ρ c),
      (h c _ (mem_uc main_v247 (by decide))).trans (ProjResults.wi m ρ c),
      (h c _ (mem_uc main_v49 (by decide))).trans (ProjResults.gate_gdn m ρ c),
      (h c _ (mem_uc main_v51 (by decide))).trans (ProjResults.gate_att m ρ c),
      (h c _ (mem_uc main_arg0 (by decide))).trans (W27_main_arg0 m ρ c),
      (h c _ (mem_uc main_arg1 (by decide))).trans (W27_main_arg1 m ρ c),
      (h c _ (mem_uc main_arg2 (by decide))).trans (W27_main_arg2 m ρ c),
      (h c _ (mem_uc main_arg3 (by decide))).trans (W27_main_arg3 m ρ c),
      (h c _ (mem_uc main_arg4 (by decide))).trans (W27_main_arg4 m ρ c)⟩) (ProjRun.run m ρ)

end KernelRun

theorem algebraic [hK : Cert.Kernel2Ideal.Facts] [hR : Cert.Reference2Ideal.Facts] : Cert.algebraic_Kernel2Ideal_Reference2Ideal := by
  intro m g m' g' _ hagree
  refine ⟨fun c => val_main_v149 (tokens m c) (weight m c), fun c => val_main_v150 (tokens m c) (weight m c), fun c => val_main_v207 (tokens m c) (weight m c), fun c => val_main_v50 (tokens m c) (weight m c), fun c => val_main_v66 (tokens m c) (weight m c) (filter m c), fun c => val_main_v74 (tokens m c) (weight m c) (filter m c), fun c => val_main_v56 (tokens m c) (weight m c) (filter m c), fun c => val_main_v89 (tokens m c) (weight m c) (aLog m c) (dtBias m c), fun c => val_main_v80 (tokens m c) (weight m c), fun c => val_main_v8 (tokens m c) (weight m c), fun c => val_main_v119 (tokens m c) (weight m c), fun c => val_main_v180 (tokens m c) (weight m c), fun c => val_main_v209 (tokens m c) (weight m c), fun c => val_main_v17 (tokens m c) (weight m c), fun c => val_main_v18 (tokens m c) (weight m c),
    kernel_run m g, (θ_run _ _ _).mono (fun r h c => ?_) (reference_run m' g')⟩
  obtain ⟨a0, a1, a2, a3, a4⟩ := hagree c
  obtain ⟨h0, h1, h2, h3, h4, h5, h6, h7, h8, h9, h10, h11, h12, h13, h14, h⟩ := h c
  exact ⟨h0.trans (by rw [a0, a1]),
    h1.trans (by rw [a0, a1]),
    h2.trans (by rw [a0, a1]),
    h3.trans (by rw [a0, a1]),
    h4.trans (by rw [a0, a1, a2]),
    h5.trans (by rw [a0, a1, a2]),
    h6.trans (by rw [a0, a1, a2]),
    h7.trans (by rw [a0, a1, a3, a4]),
    h8.trans (by rw [a0, a1]),
    h9.trans (by rw [a0, a1]),
    h10.trans (by rw [a0, a1]),
    h11.trans (by rw [a0, a1]),
    h12.trans (by rw [a0, a1]),
    h13.trans (by rw [a0, a1]),
    h14.trans (by rw [a0, a1]), h⟩

end Cert.ProjClaim

end
-- ==== Proof.SampleTiles.lean ====
/- The ten projection products of the sample program: what each pallas call leaves in its result array. A grid point multiplies
   all 128 rows of the tokens by one block of columns of a weight matrix, over the whole contraction, and stores the product once;
   so the result array holds, at (t, c), the sum over k of x[t, k] * w[k, c]. -/
module

public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.SampleTiles

open Cert.Kernel3Ideal Cert.Kernel3Ideal.Gen Idealize.ShloMosaic Idealize.ShloMosaic.TcCoe
open Idealize.ShloMosaic.Pipeline (Dat)

variable (V : (c : Dev nD) → (b : Ref sig .tc) → Buf (Elt Ideal) ((c : Thread nD τ).loc b)) (c : Dev nD)

/-- Tokens times a weight of 6144 columns: every token's row against every column. -/
def prod6144 (x : FVec Ideal S128x4096 .bf16) (w : FVec Ideal S4096x6144 .bf16) : FVec Ideal S128x6144 .f32 :=
  fun y => ∑ k : Fin 4096, x (ix2 (y 0) k) * w (ix2 k (y 1))
/-- The same for 2048 columns. -/
def prod2048 (x : FVec Ideal S128x4096 .bf16) (w : FVec Ideal S4096x2048 .bf16) : FVec Ideal S128x2048 .f32 :=
  fun y => ∑ k : Fin 4096, x (ix2 (y 0) k) * w (ix2 k (y 1))
/-- The same for 4096 columns. -/
def prod4096 (x : FVec Ideal S128x4096 .bf16) (w : FVec Ideal S4096x4096 .bf16) : FVec Ideal S128x4096 .f32 :=
  fun y => ∑ k : Fin 4096, x (ix2 (y 0) k) * w (ix2 k (y 1))
/-- The same for 128 columns. -/
def prod128 (x : FVec Ideal S128x4096 .bf16) (w : FVec Ideal S4096x128 .bf16) : FVec Ideal S128x128 .f32 :=
  fun y => ∑ k : Fin 4096, x (ix2 (y 0) k) * w (ix2 k (y 1))

theorem idx0 : ∀ t : Fin cfg0.N, win0_0.index t = ![0, 0] ∧ win0_1.index t = ![0, t.val] ∧
    win0_2.index t = ![0, t.val] := (by decide +kernel : ∀ t : Fin grid0.N, _)

/-- Call 0: the q, k, v rows. -/
theorem final0 : (dat0 V c).arrAt 2 cfg0.N = prod6144 (V c main_v35) (V c main_v9) := by
  refine (dat0 V c).arrAt_eq_of_covers 2 _ (by decide +kernel) fun t hf y => ?_
  blk_simp
  rw [after0_2]; frame_out
  pointwise [k0_pay1, prod6144]
  blk_point [iblk0, idx0 t]

theorem idx1 : ∀ t : Fin cfg1.N, win1_0.index t = ![0, 0] ∧ win1_1.index t = ![0, t.val] ∧
    win1_2.index t = ![0, t.val] := (by decide +kernel : ∀ t : Fin grid1.N, _)

/-- Call 1: z. -/
theorem final1 : (dat1 V c).arrAt 2 cfg1.N = prod2048 (V c main_v35) (V c main_v11) := by
  refine (dat1 V c).arrAt_eq_of_covers 2 _ (by decide +kernel) fun t hf y => ?_
  blk_simp
  rw [after1_2]; frame_out
  pointwise [k1_pay1, prod2048]
  blk_point [iblk1, idx1 t]

theorem idx2 : ∀ t : Fin cfg2.N, win2_0.index t = ![0, 0] ∧ win2_1.index t = ![0, t.val] ∧
    win2_2.index t = ![0, t.val] := (by decide +kernel : ∀ t : Fin grid2.N, _)

/-- Call 2: q_att. -/
theorem final2 : (dat2 V c).arrAt 2 cfg2.N = prod2048 (V c main_v35) (V c main_v17) := by
  refine (dat2 V c).arrAt_eq_of_covers 2 _ (by decide +kernel) fun t hf y => ?_
  blk_simp
  rw [after2_2]; frame_out
  pointwise [k2_pay1, prod2048]
  blk_point [iblk2, idx2 t]

theorem idx3 : ∀ t : Fin cfg3.N, win3_0.index t = ![0, 0] ∧ win3_1.index t = ![0, t.val] ∧
    win3_2.index t = ![0, t.val] := (by decide +kernel : ∀ t : Fin grid3.N, _)

/-- Call 3: k_att. -/
theorem final3 : (dat3 V c).arrAt 2 cfg3.N = prod2048 (V c main_v35) (V c main_v19) := by
  refine (dat3 V c).arrAt_eq_of_covers 2 _ (by decide +kernel) fun t hf y => ?_
  blk_simp
  rw [after3_2]; frame_out
  pointwise [k3_pay1, prod2048]
  blk_point [iblk3, idx3 t]

theorem idx4 : ∀ t : Fin cfg4.N, win4_0.index t = ![0, 0] ∧ win4_1.index t = ![0, t.val] ∧
    win4_2.index t = ![0, t.val] := (by decide +kernel : ∀ t : Fin grid4.N, _)

/-- Call 4: v_att. -/
theorem final4 : (dat4 V c).arrAt 2 cfg4.N = prod2048 (V c main_v35) (V c main_v21) := by
  refine (dat4 V c).arrAt_eq_of_covers 2 _ (by decide +kernel) fun t hf y => ?_
  blk_simp
  rw [after4_2]; frame_out
  pointwise [k4_pay1, prod2048]
  blk_point [iblk4, idx4 t]

theorem idx5 : ∀ t : Fin cfg5.N, win5_0.index t = ![0, 0] ∧ win5_1.index t = ![0, t.val] ∧
    win5_2.index t = ![0, t.val] := (by decide +kernel : ∀ t : Fin grid5.N, _)

/-- Call 5: q_idx. -/
theorem final5 : (dat5 V c).arrAt 2 cfg5.N = prod4096 (V c main_v35) (V c main_v23) := by
  refine (dat5 V c).arrAt_eq_of_covers 2 _ (by decide +kernel) fun t hf y => ?_
  blk_simp
  rw [after5_2]; frame_out
  pointwise [k5_pay1, prod4096]
  blk_point [iblk5, idx5 t]

theorem idx6 : ∀ t : Fin cfg6.N, win6_0.index t = ![0, 0] ∧ win6_1.index t = ![0, t.val] ∧
    win6_2.index t = ![0, t.val] := (by decide +kernel : ∀ t : Fin grid6.N, _)

/-- Call 6: k_idx. -/
theorem final6 : (dat6 V c).arrAt 2 cfg6.N = prod128 (V c main_v35) (V c main_v27) := by
  refine (dat6 V c).arrAt_eq_of_covers 2 _ (by decide +kernel) fun t hf y => ?_
  blk_simp
  rw [after6_2]; frame_out
  pointwise [k6_pay1, prod128]
  blk_point [iblk6, idx6 t]

theorem idx7 : ∀ t : Fin cfg7.N, win7_0.index t = ![0, 0] ∧ win7_1.index t = ![0, t.val] ∧
    win7_2.index t = ![0, t.val] := (by decide +kernel : ∀ t : Fin grid7.N, _)

/-- Call 7: gate_gdn. -/
theorem final7 : (dat7 V c).arrAt 2 cfg7.N = prod4096 (V c main_v35) (V c main_v29) := by
  refine (dat7 V c).arrAt_eq_of_covers 2 _ (by decide +kernel) fun t hf y => ?_
  blk_simp
  rw [after7_2]; frame_out
  pointwise [k7_pay1, prod4096]
  blk_point [iblk7, idx7 t]

theorem idx8 : ∀ t : Fin cfg8.N, win8_0.index t = ![0, 0] ∧ win8_1.index t = ![0, t.val] ∧
    win8_2.index t = ![0, t.val] := (by decide +kernel : ∀ t : Fin grid8.N, _)

/-- Call 8: gate_att. -/
theorem final8 : (dat8 V c).arrAt 2 cfg8.N = prod4096 (V c main_v35) (V c main_v31) := by
  refine (dat8 V c).arrAt_eq_of_covers 2 _ (by decide +kernel) fun t hf y => ?_
  blk_simp
  rw [after8_2]; frame_out
  pointwise [k8_pay1, prod4096]
  blk_point [iblk8, idx8 t]

theorem idx9 : ∀ t : Fin cfg9.N, win9_0.index t = ![0, 0] ∧ win9_1.index t = ![0, t.val] ∧
    win9_2.index t = ![0, t.val] := (by decide +kernel : ∀ t : Fin grid9.N, _)

/-- Call 9: the narrow columns. -/
theorem final9 : (dat9 V c).arrAt 2 cfg9.N = prod128 (V c main_v35) (V c main_v33) := by
  refine (dat9 V c).arrAt_eq_of_covers 2 _ (by decide +kernel) fun t hf y => ?_
  blk_simp
  rw [after9_2]; frame_out
  pointwise [k9_pay1, prod128]
  blk_point [iblk9, idx9 t]

end Cert.SampleTiles

end
-- ==== Proof.SampleArrays.lean ====
/- The sample program's buffers after its ten calls, `W22`: no later call or host operation writes a buffer an earlier one
   reads or writes, so each call's operands and result are read there. Each result, reshaped to [32, 4, n], is the product
   of the tokens with the columns its weight was cut from. -/
module

public import proofs.«01_k».proof.Proof.SampleTiles
public import Idealize.ShloMosaic.Lib.StableHlo.RunRead

@[expose] public section

set_option maxRecDepth 16384

noncomputable section

namespace Cert.SampleArrays

open Cert.Kernel3Ideal Cert.Kernel3Ideal.Gen Idealize.ShloMosaic Idealize.ShloMosaic.TcCoe Cert.SampleTiles

variable (m : (ℓ : Loc nD τ sig) → Buf (Elt Ideal) ℓ) (ρ : Dev nD → PrngReg) (c : Dev nD)

/-- A reference other than a call's result is none of its output arrays. -/
theorem notOut {W : ℕ} {out : Fin W → Bool} {arr : Fin W → Ref sig .tc} {o r : Ref sig .tc}
    (ho : ∀ w, arr w = o ∨ out w = false) (h : r ≠ o) (w : Fin W) (e : arr w = r) : out w = false :=
  (ho w).resolve_left fun e' => h (e.symm.trans e')

/-- The calls' results and their reshapes, in the order they are written. -/
def written : List (Ref sig .tc) := [main_v36, main_v37, main_v38, main_v39, main_v40, main_v41, main_v42, main_v43, main_v44,
  main_v45, main_v46, main_v47, main_v48, main_v49, main_v50, main_v51, main_v52, main_v53, main_v54]

theorem apart {a b r : Ref sig .tc} {L : List (Ref sig .tc)} (h : r ∉ a :: b :: L) : r ≠ a ∧ r ∉ [b] ∧ r ∉ L := by
  simpa only [List.mem_cons, not_or, List.not_mem_nil, not_false_eq_true, and_true] using h

/-! A buffer that call k and everything after it leave alone holds, at the end of the calls, what it held when call k began. -/

theorem kept9 (r : Ref sig .tc) (h : r ∉ written.drop 18) : W22 m ρ c (Proc.devRef .tc r) = W21 m ρ c (Proc.devRef .tc r) :=
  W22_of m ρ c r (notOut (o := main_v54) (by decide) (List.ne_of_not_mem_cons h))
theorem kept8 (r : Ref sig .tc) (h : r ∉ written.drop 16) : W22 m ρ c (Proc.devRef .tc r) = W19 m ρ c (Proc.devRef .tc r) :=
  have a := apart (a := main_v52) (b := main_v53) h
  (kept9 m ρ c r a.2.2).trans ((W21_of m ρ c r a.2.1).trans (W20_of m ρ c r (notOut (o := main_v52) (by decide) a.1)))
theorem kept7 (r : Ref sig .tc) (h : r ∉ written.drop 14) : W22 m ρ c (Proc.devRef .tc r) = W17 m ρ c (Proc.devRef .tc r) :=
  have a := apart (a := main_v50) (b := main_v51) h
  (kept8 m ρ c r a.2.2).trans ((W19_of m ρ c r a.2.1).trans (W18_of m ρ c r (notOut (o := main_v50) (by decide) a.1)))
theorem kept6 (r : Ref sig .tc) (h : r ∉ written.drop 12) : W22 m ρ c (Proc.devRef .tc r) = W15 m ρ c (Proc.devRef .tc r) :=
  have a := apart (a := main_v48) (b := main_v49) h
  (kept7 m ρ c r a.2.2).trans ((W17_of m ρ c r a.2.1).trans (W16_of m ρ c r (notOut (o := main_v48) (by decide) a.1)))
theorem kept5 (r : Ref sig .tc) (h : r ∉ written.drop 10) : W22 m ρ c (Proc.devRef .tc r) = W13 m ρ c (Proc.devRef .tc r) :=
  have a := apart (a := main_v46) (b := main_v47) h
  (kept6 m ρ c r a.2.2).trans ((W15_of m ρ c r a.2.1).trans (W14_of m ρ c r (notOut (o := main_v46) (by decide) a.1)))
theorem kept4 (r : Ref sig .tc) (h : r ∉ written.drop 8) : W22 m ρ c (Proc.devRef .tc r) = W11 m ρ c (Proc.devRef .tc r) :=
  have a := apart (a := main_v44) (b := main_v45) h
  (kept5 m ρ c r a.2.2).trans ((W13_of m ρ c r a.2.1).trans (W12_of m ρ c r (notOut (o := main_v44) (by decide) a.1)))
theorem kept3 (r : Ref sig .tc) (h : r ∉ written.drop 6) : W22 m ρ c (Proc.devRef .tc r) = W9 m ρ c (Proc.devRef .tc r) :=
  have a := apart (a := main_v42) (b := main_v43) h
  (kept4 m ρ c r a.2.2).trans ((W11_of m ρ c r a.2.1).trans (W10_of m ρ c r (notOut (o := main_v42) (by decide) a.1)))
theorem kept2 (r : Ref sig .tc) (h : r ∉ written.drop 4) : W22 m ρ c (Proc.devRef .tc r) = W7 m ρ c (Proc.devRef .tc r) :=
  have a := apart (a := main_v40) (b := main_v41) h
  (kept3 m ρ c r a.2.2).trans ((W9_of m ρ c r a.2.1).trans (W8_of m ρ c r (notOut (o := main_v40) (by decide) a.1)))
theorem kept1 (r : Ref sig .tc) (h : r ∉ written.drop 2) : W22 m ρ c (Proc.devRef .tc r) = W5 m ρ c (Proc.devRef .tc r) :=
  have a := apart (a := main_v38) (b := main_v39) h
  (kept2 m ρ c r a.2.2).trans ((W7_of m ρ c r a.2.1).trans (W6_of m ρ c r (notOut (o := main_v38) (by decide) a.1)))
theorem kept0 (r : Ref sig .tc) (h : r ∉ written.drop 0) : W22 m ρ c (Proc.devRef .tc r) = W3 m ρ c (Proc.devRef .tc r) :=
  have a := apart (a := main_v36) (b := main_v37) h
  (kept1 m ρ c r a.2.2).trans ((W5_of m ρ c r a.2.1).trans (W4_of m ρ c r (notOut (o := main_v36) (by decide) a.1)))

/-! Each call's result, read at the end of the calls, is the product of its operands, read there too. -/

theorem out0 : W22 m ρ c (Proc.devRef .tc main_v37) = shapeCast S32x4x6144
    (prod6144 (W22 m ρ c (Proc.devRef .tc main_v35)) (W22 m ρ c (Proc.devRef .tc main_v9))) shapeCasts_S128x6144_S32x4x6144 := by
  rw [kept1 m ρ c main_v37 (by decide), kept0 m ρ c main_v35 (by decide), kept0 m ρ c main_v9 (by decide)]
  unfold W5; after_reads_simp
  exact congrArg (shapeCast _ · _) ((W4_arr m ρ c 2).trans (final0 (V3 m ρ) c))
theorem out1 : W22 m ρ c (Proc.devRef .tc main_v39) = shapeCast S32x4x2048
    (prod2048 (W22 m ρ c (Proc.devRef .tc main_v35)) (W22 m ρ c (Proc.devRef .tc main_v11))) shapeCasts_S128x2048_S32x4x2048 := by
  rw [kept2 m ρ c main_v39 (by decide), kept1 m ρ c main_v35 (by decide), kept1 m ρ c main_v11 (by decide)]
  unfold W7; after_reads_simp
  exact congrArg (shapeCast _ · _) ((W6_arr m ρ c 2).trans (final1 (V5 m ρ) c))
theorem out2 : W22 m ρ c (Proc.devRef .tc main_v41) = shapeCast S32x4x2048
    (prod2048 (W22 m ρ c (Proc.devRef .tc main_v35)) (W22 m ρ c (Proc.devRef .tc main_v17))) shapeCasts_S128x2048_S32x4x2048 := by
  rw [kept3 m ρ c main_v41 (by decide), kept2 m ρ c main_v35 (by decide), kept2 m ρ c main_v17 (by decide)]
  unfold W9; after_reads_simp
  exact congrArg (shapeCast _ · _) ((W8_arr m ρ c 2).trans (final2 (V7 m ρ) c))
theorem out3 : W22 m ρ c (Proc.devRef .tc main_v43) = shapeCast S32x4x2048
    (prod2048 (W22 m ρ c (Proc.devRef .tc main_v35)) (W22 m ρ c (Proc.devRef .tc main_v19))) shapeCasts_S128x2048_S32x4x2048 := by
  rw [kept4 m ρ c main_v43 (by decide), kept3 m ρ c main_v35 (by decide), kept3 m ρ c main_v19 (by decide)]
  unfold W11; after_reads_simp
  exact congrArg (shapeCast _ · _) ((W10_arr m ρ c 2).trans (final3 (V9 m ρ) c))
theorem out4 : W22 m ρ c (Proc.devRef .tc main_v45) = shapeCast S32x4x2048
    (prod2048 (W22 m ρ c (Proc.devRef .tc main_v35)) (W22 m ρ c (Proc.devRef .tc main_v21))) shapeCasts_S128x2048_S32x4x2048 := by
  rw [kept5 m ρ c main_v45 (by decide), kept4 m ρ c main_v35 (by decide), kept4 m ρ c main_v21 (by decide)]
  unfold W13; after_reads_simp
  exact congrArg (shapeCast _ · _) ((W12_arr m ρ c 2).trans (final4 (V11 m ρ) c))
theorem out5 : W22 m ρ c (Proc.devRef .tc main_v47) = shapeCast S32x4x4096
    (prod4096 (W22 m ρ c (Proc.devRef .tc main_v35)) (W22 m ρ c (Proc.devRef .tc main_v23))) shapeCasts_S128x4096_S32x4x4096 := by
  rw [kept6 m ρ c main_v47 (by decide), kept5 m ρ c main_v35 (by decide), kept5 m ρ c main_v23 (by decide)]
  unfold W15; after_reads_simp
  exact congrArg (shapeCast _ · _) ((W14_arr m ρ c 2).trans (final5 (V13 m ρ) c))
theorem out6 : W22 m ρ c (Proc.devRef .tc main_v49) = shapeCast S32x4x128
    (prod128 (W22 m ρ c (Proc.devRef .tc main_v35)) (W22 m ρ c (Proc.devRef .tc main_v27))) shapeCasts_S128x128_S32x4x128 := by
  rw [kept7 m ρ c main_v49 (by decide), kept6 m ρ c main_v35 (by decide), kept6 m ρ c main_v27 (by decide)]
  unfold W17; after_reads_simp
  exact congrArg (shapeCast _ · _) ((W16_arr m ρ c 2).trans (final6 (V15 m ρ) c))
theorem out7 : W22 m ρ c (Proc.devRef .tc main_v51) = shapeCast S32x4x4096
    (prod4096 (W22 m ρ c (Proc.devRef .tc main_v35)) (W22 m ρ c (Proc.devRef .tc main_v29))) shapeCasts_S128x4096_S32x4x4096 := by
  rw [kept8 m ρ c main_v51 (by decide), kept7 m ρ c main_v35 (by decide), kept7 m ρ c main_v29 (by decide)]
  unfold W19; after_reads_simp
  exact congrArg (shapeCast _ · _) ((W18_arr m ρ c 2).trans (final7 (V17 m ρ) c))
theorem out8 : W22 m ρ c (Proc.devRef .tc main_v53) = shapeCast S32x4x4096
    (prod4096 (W22 m ρ c (Proc.devRef .tc main_v35)) (W22 m ρ c (Proc.devRef .tc main_v31))) shapeCasts_S128x4096_S32x4x4096 := by
  rw [kept9 m ρ c main_v53 (by decide), kept8 m ρ c main_v35 (by decide), kept8 m ρ c main_v31 (by decide)]
  unfold W21; after_reads_simp
  exact congrArg (shapeCast _ · _) ((W20_arr m ρ c 2).trans (final8 (V19 m ρ) c))
theorem out9 : W22 m ρ c (Proc.devRef .tc main_v54) =
    prod128 (W22 m ρ c (Proc.devRef .tc main_v35)) (W22 m ρ c (Proc.devRef .tc main_v33)) := by
  rw [kept9 m ρ c main_v35 (by decide), kept9 m ρ c main_v33 (by decide)]
  exact (W22_arr m ρ c 2).trans (final9 (V21 m ρ) c)

end Cert.SampleArrays

end
-- ==== Proof.SampleColumns.lean ====
/- The columns of the sample program: what its ten calls leave, reshaped, are the columns the reference splits x @ w_in into. -/
module

public import proofs.«01_k».proof.Proof.SampleArrays
public import proofs.«01_k».proof.Proof.Gen.Reference3Ideal.Read

@[expose] public section

set_option maxRecDepth 16384

noncomputable section

namespace Cert.SampleColumns

open Cert.Kernel3Ideal Cert.Kernel3Ideal.Gen Idealize.ShloMosaic Idealize.ShloMosaic.TcCoe Cert.SampleTiles Cert.SampleArrays
open Cert.Reference3Ideal.Read

variable (m : (ℓ : Loc nD τ sig) → Buf (Elt Ideal) ℓ) (ρ : Dev nD → PrngReg) (c : Dev nD)

abbrev tokens : FVec Ideal S32x4x4096 .f32 := m ((c : Thread nD τ).loc main_arg0)
abbrev weight : FVec Ideal S1x4096x26816 .f32 := m ((c : Thread nD τ).loc main_arg3)

/-- The calls' left operand. -/
theorem left : W22 m ρ c (Proc.devRef .tc main_v35) =
    truncf .bf16 (shapeCast S128x4096 (tokens m c) shapeCasts_S32x4x4096_S128x4096) bitsLt_bf16_f32 := by
  rw [kept0 m ρ c main_v35 (by decide)]
  unfold W3 W2 W1
  after_reads_simp
  rfl

theorem qkv : W22 m ρ c (Proc.devRef .tc main_v37) = val_main_v9 (tokens m c) (weight m c) := by
  rw [out0, left, kept0 m ρ c main_v9 (by decide)]
  unfold W3 W2 W1
  after_reads_simp
  rw [show W0 m ρ c (Proc.devRef .tc main_arg3) = weight m c from rfl]
  generalize tokens m c = x
  generalize weight m c = w
  funext y
  pointwise [val_main_v9, val_main_v8, val_main_v4, prod6144]
theorem z : W22 m ρ c (Proc.devRef .tc main_v39) = val_main_v10 (tokens m c) (weight m c) := by
  rw [out1, left, kept0 m ρ c main_v11 (by decide)]
  unfold W3 W2 W1
  after_reads_simp
  rw [show W0 m ρ c (Proc.devRef .tc main_arg3) = weight m c from rfl]
  generalize tokens m c = x
  generalize weight m c = w
  funext y
  pointwise [val_main_v10, val_main_v8, val_main_v4, prod2048]
theorem q_att : W22 m ρ c (Proc.devRef .tc main_v41) = val_main_v13 (tokens m c) (weight m c) := by
  rw [out2, left, kept0 m ρ c main_v17 (by decide)]
  unfold W3 W2 W1
  after_reads_simp
  rw [show W0 m ρ c (Proc.devRef .tc main_arg3) = weight m c from rfl]
  generalize tokens m c = x
  generalize weight m c = w
  funext y
  pointwise [val_main_v13, val_main_v8, val_main_v4, prod2048]
theorem k_att : W22 m ρ c (Proc.devRef .tc main_v43) = val_main_v14 (tokens m c) (weight m c) := by
  rw [out3, left, kept0 m ρ c main_v19 (by decide)]
  unfold W3 W2 W1
  after_reads_simp
  rw [show W0 m ρ c (Proc.devRef .tc main_arg3) = weight m c from rfl]
  generalize tokens m c = x
  generalize weight m c = w
  funext y
  pointwise [val_main_v14, val_main_v8, val_main_v4, prod2048]
theorem v_att : W22 m ρ c (Proc.devRef .tc main_v45) = val_main_v15 (tokens m c) (weight m c) := by
  rw [out4, left, kept0 m ρ c main_v21 (by decide)]
  unfold W3 W2 W1
  after_reads_simp
  rw [show W0 m ρ c (Proc.devRef .tc main_arg3) = weight m c from rfl]
  generalize tokens m c = x
  generalize weight m c = w
  funext y
  pointwise [val_main_v15, val_main_v8, val_main_v4, prod2048]
theorem q_idx : W22 m ρ c (Proc.devRef .tc main_v47) = val_main_v16 (tokens m c) (weight m c) := by
  rw [out5, left, kept0 m ρ c main_v23 (by decide)]
  unfold W3 W2 W1
  after_reads_simp
  rw [show W0 m ρ c (Proc.devRef .tc main_arg3) = weight m c from rfl]
  generalize tokens m c = x
  generalize weight m c = w
  funext y
  pointwise [val_main_v16, val_main_v8, val_main_v4, prod4096]
theorem k_idx : W22 m ρ c (Proc.devRef .tc main_v49) = val_main_v18 (tokens m c) (weight m c) := by
  rw [out6, left, kept0 m ρ c main_v27 (by decide)]
  unfold W3 W2 W1
  after_reads_simp
  rw [show W0 m ρ c (Proc.devRef .tc main_arg3) = weight m c from rfl]
  generalize tokens m c = x
  generalize weight m c = w
  funext y
  pointwise [val_main_v18, val_main_v8, val_main_v4, prod128]
theorem gate_gdn : W22 m ρ c (Proc.devRef .tc main_v51) = val_main_v19 (tokens m c) (weight m c) := by
  rw [out7, left, kept0 m ρ c main_v29 (by decide)]
  unfold W3 W2 W1
  after_reads_simp
  rw [show W0 m ρ c (Proc.devRef .tc main_arg3) = weight m c from rfl]
  generalize tokens m c = x
  generalize weight m c = w
  funext y
  pointwise [val_main_v19, val_main_v8, val_main_v4, prod4096]
theorem gate_att : W22 m ρ c (Proc.devRef .tc main_v53) = val_main_v20 (tokens m c) (weight m c) := by
  rw [out8, left, kept0 m ρ c main_v31 (by decide)]
  unfold W3 W2 W1
  after_reads_simp
  rw [show W0 m ρ c (Proc.devRef .tc main_arg3) = weight m c from rfl]
  generalize tokens m c = x
  generalize weight m c = w
  funext y
  pointwise [val_main_v20, val_main_v8, val_main_v4, prod4096]

/-- The narrow columns' weight: those of b_raw, a_raw and w_idx side by side, and 64 columns of zeros. -/
def narrow (w : FVec Ideal S1x4096x26816 .f32) : FVec Ideal S4096x128 .bf16 :=
  have a : FVec Ideal S4096x26816 .f32 := shapeCast S4096x26816 w shapeCasts_S1x4096x26816_S4096x26816
  pad S4096x128 ![0, 0] ![0, 64] ![0, 0]
    (concatenate S4096x64 1
      [⟨S4096x16, truncf .bf16 (extractStridedSlice S4096x16 ![0, 8192] a slices_S4096x26816_S4096x16_0_8192) bitsLt_bf16_f32⟩,
        ⟨S4096x16, truncf .bf16 (extractStridedSlice S4096x16 ![0, 8208] a slices_S4096x26816_S4096x16_0_8208) bitsLt_bf16_f32⟩,
        ⟨S4096x32, truncf .bf16 (extractStridedSlice S4096x32 ![0, 18464] a slices_S4096x26816_S4096x32_0_18464) bitsLt_bf16_f32⟩]
      concatenates_S4096x16_S4096x16_S4096x32_S4096x64_d1)
    (sitofp .bf16 (constantI S_ 32 0#32)) pads_S4096x64_S4096x128_000_0640 h_S_

theorem narrow_weight : W22 m ρ c (Proc.devRef .tc main_v33) = narrow (weight m c) := by
  rw [kept0 m ρ c main_v33 (by decide)]
  have e1 : StableHlo.upto hostOps0 (W0 m ρ c) 33 (Proc.devRef .tc main_v13) = truncf .bf16 (extractStridedSlice S4096x16 ![0, 8192]
      (shapeCast S4096x26816 (weight m c) shapeCasts_S1x4096x26816_S4096x26816) slices_S4096x26816_S4096x16_0_8192) bitsLt_bf16_f32 := by
    after_reads_simp; rfl
  have e2 : StableHlo.upto hostOps0 (W0 m ρ c) 33 (Proc.devRef .tc main_v15) = truncf .bf16 (extractStridedSlice S4096x16 ![0, 8208]
      (shapeCast S4096x26816 (weight m c) shapeCasts_S1x4096x26816_S4096x26816) slices_S4096x26816_S4096x16_0_8208) bitsLt_bf16_f32 := by
    after_reads_simp; rfl
  have e3 : StableHlo.upto hostOps0 (W0 m ρ c) 33 (Proc.devRef .tc main_v25) = truncf .bf16 (extractStridedSlice S4096x32 ![0, 18464]
      (shapeCast S4096x26816 (weight m c) shapeCasts_S1x4096x26816_S4096x26816) slices_S4096x26816_S4096x32_0_18464) bitsLt_bf16_f32 := by
    after_reads_simp; rfl
  unfold W3 W2 W1
  after_reads_simp
  simp only [Matrix.cons_val_zero, Matrix.cons_val_one, Matrix.cons_val]
  rw [e1, e2, e3]
  rfl

/-- What the narrow columns' product holds, reshaped. -/
def narrowCols (x : FVec Ideal S32x4x4096 .f32) (w : FVec Ideal S1x4096x26816 .f32) : FVec Ideal S32x4x128 .f32 :=
  shapeCast S32x4x128 (prod128 (truncf .bf16 (shapeCast S128x4096 x shapeCasts_S32x4x4096_S128x4096) bitsLt_bf16_f32) (narrow w))
    shapeCasts_S128x128_S32x4x128

theorem b_raw (x : FVec Ideal S32x4x4096 .f32) (w : FVec Ideal S1x4096x26816 .f32) :
    extractStridedSlice S32x4x16 ![0, 0, 0] (narrowCols x w) slices_S32x4x128_S32x4x16_0_0_0 = val_main_v11 (F := Ideal) x w := by
  funext y
  pointwise [val_main_v11, val_main_v8, val_main_v4, narrowCols, narrow, prod128]
  have b : (y 2).val < 16 := (y 2).isLt
  exact Finset.sum_congr rfl fun k _ => by rw [dif_pos (by omega)]
theorem a_raw (x : FVec Ideal S32x4x4096 .f32) (w : FVec Ideal S1x4096x26816 .f32) :
    extractStridedSlice S32x4x16 ![0, 0, 16] (narrowCols x w) slices_S32x4x128_S32x4x16_0_0_16 = val_main_v12 (F := Ideal) x w := by
  funext y
  pointwise [val_main_v12, val_main_v8, val_main_v4, narrowCols, narrow, prod128]
  have b : (y 2).val < 16 := (y 2).isLt
  exact Finset.sum_congr rfl fun k _ => by rw [dif_pos (by omega)]
theorem w_idx (x : FVec Ideal S32x4x4096 .f32) (w : FVec Ideal S1x4096x26816 .f32) :
    extractStridedSlice S32x4x32 ![0, 0, 32] (narrowCols x w) slices_S32x4x128_S32x4x32_0_0_32 = val_main_v17 (F := Ideal) x w := by
  funext y
  pointwise [val_main_v17, val_main_v8, val_main_v4, narrowCols, narrow, prod128]
  have b : (y 2).val < 32 := (y 2).isLt
  refine Finset.sum_congr rfl fun k _ => ?_
  rw [dif_pos (by omega), dif_neg (by omega), dif_neg (by omega)]
  exact congrArg (fun i => x (ix3 (y 0) (y 1) k) * w (ix3 0 k i)) (Fin.ext (by show 18464 + (32 + (y 2).val - 16 - 16) = 18464 + (y 2).val; omega))

end Cert.SampleColumns

end
-- ==== Proof.SampleTail.lean ====
/- The sample program's host operations after its calls are the reference's own, one for one: each stage, over any buffer
   contents `U`, leaves the reference's stage of the reference's columns when `U` holds those columns. -/
module

public import proofs.«01_k».proof.Proof.Gen.Kernel3Ideal.Frame
public import proofs.«01_k».proof.Proof.Gen.Reference3Ideal.Read
public import Idealize.ShloMosaic.Lib.StableHlo.RunRead

@[expose] public section

set_option maxRecDepth 16384

noncomputable section

namespace Cert.SampleTail

open Cert.Kernel3Ideal Cert.Kernel3Ideal.Gen Idealize.ShloMosaic Idealize.ShloMosaic.TcCoe
open Cert.Reference3Ideal.Read
open Cert.Reference3Ideal.Value (fn_main_v21)

variable (U : Valuation τ sig (Elt Ideal)) (x0 : FVec Ideal S32x4x4096 .f32) (x1 : FVec Ideal S1x32x3x6144 .f32)
  (x3 : FVec Ideal S1x4096x26816 .f32) (x4 : FVec Ideal S1x4x6144 .f32) (x5 x6 : FVec Ideal S1x16 .f32)

/-! The short convolution. -/

theorem rows (h : U (Proc.devRef .tc main_v37) = val_main_v9 x0 x3) (h1 : U (Proc.devRef .tc main_v3) = val_main_v3 x1) :
    StableHlo.after hostOps10 U (Proc.devRef .tc main_v59) = val_main_v21 x0 x1 x3 := by
  have e : StableHlo.upto hostOps10 U 4 (Proc.devRef .tc main_v37) = val_main_v9 x0 x3 := by after_reads_simp; exact h
  have e1 : StableHlo.upto hostOps10 U 4 (Proc.devRef .tc main_v3) = val_main_v3 x1 := by after_reads_simp; exact h1
  after_reads_simp
  rw [e, e1]
  rfl

theorem conv (h : U (Proc.devRef .tc main_v37) = val_main_v9 x0 x3) (h1 : U (Proc.devRef .tc main_v3) = val_main_v3 x1)
    (h3 : U (Proc.devRef .tc main_v5) = val_main_v5 x4) :
    StableHlo.after hostOps10 U (Proc.devRef .tc main_v88) = val_main_v50 x0 x1 x3 x4 := by
  have e : StableHlo.upto hostOps10 U 4 (Proc.devRef .tc main_v37) = val_main_v9 x0 x3 := by after_reads_simp; exact h
  have e1 : StableHlo.upto hostOps10 U 4 (Proc.devRef .tc main_v3) = val_main_v3 x1 := by after_reads_simp; exact h1
  after_reads_simp
  rw [e, e1, h3]
  rfl

theorem silu (h : U (Proc.devRef .tc main_v88) = val_main_v50 x0 x1 x3 x4) :
    StableHlo.after hostOps10_1 U (Proc.devRef .tc main_v89) = val_main_v51 x0 x1 x3 x4 := by
  after_reads_simp
  rw [h]
  rfl

/-! Queries, keys and values of the recurrence, its gates. -/

theorem conv_new (h : U (Proc.devRef .tc main_v59) = val_main_v21 x0 x1 x3) :
    StableHlo.after hostOps10_2 U (Proc.devRef .tc main_v90) = val_main_v52 x0 x1 x3 := by
  after_reads_simp; rw [h]; rfl
theorem q (h : U (Proc.devRef .tc main_v89) = val_main_v51 x0 x1 x3 x4) :
    StableHlo.after hostOps10_2 U (Proc.devRef .tc main_v106) = val_main_v68 x0 x1 x3 x4 := by
  after_reads_simp; rw [h]; rfl
theorem k (h : U (Proc.devRef .tc main_v89) = val_main_v51 x0 x1 x3 x4) :
    StableHlo.after hostOps10_2 U (Proc.devRef .tc main_v114) = val_main_v76 x0 x1 x3 x4 := by
  after_reads_simp; rw [h]; rfl
theorem v (h : U (Proc.devRef .tc main_v89) = val_main_v51 x0 x1 x3 x4) :
    StableHlo.after hostOps10_2 U (Proc.devRef .tc main_v96) = val_main_v58 x0 x1 x3 x4 := by
  after_reads_simp; rw [h]; rfl
theorem beta (h : U (Proc.devRef .tc main_v56) = val_main_v11 x0 x3) :
    StableHlo.after hostOps10_2 U (Proc.devRef .tc main_v120) = val_main_v82 x0 x3 := by
  after_reads_simp; rw [h]; rfl
theorem rate (h : U (Proc.devRef .tc main_v6) = val_main_v6 x5) :
    StableHlo.after hostOps10_2 U (Proc.devRef .tc main_v122) = val_main_v84 x5 := by
  after_reads_simp; rw [h]; rfl
theorem shifted (h : U (Proc.devRef .tc main_v57) = val_main_v12 x0 x3) (h5 : U (Proc.devRef .tc main_v7) = val_main_v7 x6) :
    StableHlo.after hostOps10_2 U (Proc.devRef .tc main_v125) = val_main_v87 x0 x3 x6 := by
  after_reads_simp; rw [h, h5]; rfl
theorem softplus (h : U (Proc.devRef .tc main_v125) = val_main_v87 x0 x3 x6) :
    StableHlo.after hostOps10_3 U (Proc.devRef .tc main_v126) = val_main_v88 x0 x3 x6 := by
  after_reads_simp; rw [h]; rfl
theorem g (h : U (Proc.devRef .tc main_v122) = val_main_v84 x5) (h' : U (Proc.devRef .tc main_v126) = val_main_v88 x0 x3 x6) :
    StableHlo.after hostOps10_4 U (Proc.devRef .tc main_v129) = val_main_v91 x0 x3 x5 x6 := by
  after_reads_simp; rw [h, h']; rfl

/-! The attention's heads: rotated queries and keys, values, the indexer's. -/

theorem qa (h : U (Proc.devRef .tc main_v41) = val_main_v13 x0 x3) (h0 : U (Proc.devRef .tc main_v2) = val_main_v2) :
    StableHlo.after hostOps10_4 U (Proc.devRef .tc main_v159) = val_main_v121 x0 x3 := by
  have e : StableHlo.upto hostOps10_4 U 34 (Proc.devRef .tc main_v153) = val_main_v115 x0 x3 := by
    after_reads_simp; rw [h, h0]; rfl
  have e' : StableHlo.upto hostOps10_4 U 34 (Proc.devRef .tc main_v158) = val_main_v120 x0 x3 := by
    after_reads_simp; rw [h, h0]; rfl
  after_reads_simp; rw [e, e']; rfl
theorem ka (h : U (Proc.devRef .tc main_v43) = val_main_v14 x0 x3) (h0 : U (Proc.devRef .tc main_v2) = val_main_v2) :
    StableHlo.after hostOps10_4 U (Proc.devRef .tc main_v189) = val_main_v151 x0 x3 := by
  have e : StableHlo.upto hostOps10_4 U 66 (Proc.devRef .tc main_v183) = val_main_v145 x0 x3 := by
    after_reads_simp; rw [h, h0]; rfl
  have e' : StableHlo.upto hostOps10_4 U 66 (Proc.devRef .tc main_v188) = val_main_v150 x0 x3 := by
    after_reads_simp; rw [h, h0]; rfl
  after_reads_simp; rw [e, e']; rfl
theorem va (h : U (Proc.devRef .tc main_v45) = val_main_v15 x0 x3) :
    StableHlo.after hostOps10_4 U (Proc.devRef .tc main_v190) = val_main_v152 x0 x3 := by
  after_reads_simp; rw [h]; rfl
theorem qi (h : U (Proc.devRef .tc main_v47) = val_main_v16 x0 x3) (h0 : U (Proc.devRef .tc main_v2) = val_main_v2) :
    StableHlo.after hostOps10_4 U (Proc.devRef .tc main_v220) = val_main_v182 x0 x3 := by
  have e : StableHlo.upto hostOps10_4 U 99 (Proc.devRef .tc main_v214) = val_main_v176 x0 x3 := by
    after_reads_simp; rw [h, h0]; rfl
  have e' : StableHlo.upto hostOps10_4 U 99 (Proc.devRef .tc main_v219) = val_main_v181 x0 x3 := by
    after_reads_simp; rw [h, h0]; rfl
  after_reads_simp; rw [e, e']; rfl
theorem ki (h : U (Proc.devRef .tc main_v49) = val_main_v18 x0 x3) (h0 : U (Proc.devRef .tc main_v2) = val_main_v2) :
    StableHlo.after hostOps10_4 U (Proc.devRef .tc main_v251) = val_main_v213 x0 x3 := by
  have e : StableHlo.upto hostOps10_4 U 131 (Proc.devRef .tc main_v244) = val_main_v206 x0 x3 := by
    after_reads_simp; rw [h, h0]; rfl
  have e' : StableHlo.upto hostOps10_4 U 131 (Proc.devRef .tc main_v249) = val_main_v211 x0 x3 := by
    after_reads_simp; rw [h, h0]; rfl
  after_reads_simp; rw [e, e']; rfl
theorem wi (h : U (Proc.devRef .tc main_v58) = val_main_v17 x0 x3) :
    StableHlo.after hostOps10_4 U (Proc.devRef .tc main_v253) = val_main_v215 x0 x3 := by
  after_reads_simp; rw [h]; rfl

/-! The recurrence's operands, a column or a row for each token, and its outputs put back in the tokens' order. -/

/-- A row of decays for each head and token, from the gates. -/
def decayRows (X : FVec Ideal S32x4x16 .f32) : FVec Ideal S32x16x4x128 .f32 :=
  broadcastInDim S32x16x4x128 ![0, 1, 2, 3] bcast_S32x16x4x1_S32x16x4x128_0_1_2_3
    (broadcastInDim S32x16x4x1 ![0, 1, 2] bcast_S32x16x4_S32x16x4x1_0_1_2
      (transpose S32x16x4 [0, 2, 1] (Host.exp X) transposes_S32x4x16_S32x16x4_0_2_1))
/-- A column for each head and token: the rows of `X`, each weighted by its entry of `Y`. -/
def weightedColumns (X : FVec Ideal S32x4x16x128 .f32) (Y : FVec Ideal S32x4x16 .f32) : FVec Ideal S32x16x128x4 .f32 :=
  transpose S32x16x128x4 [0, 2, 3, 1] (mulf X (broadcastInDim S32x4x16x128 ![0, 1, 2, 3] bcast_S32x4x16x1_S32x4x16x128_0_1_2_3
    (broadcastInDim S32x4x16x1 ![0, 1, 2] bcast_S32x4x16_S32x4x16x1_0_1_2 Y))) transposes_S32x4x16x128_S32x16x128x4_0_2_3_1

theorem given (x2 : FVec Ideal S1x32x16x128x128 .f32) (h : U (Proc.devRef .tc main_arg2) = x2) :
    StableHlo.after hostOps10_4 U (Proc.devRef .tc main_v254)
      = shapeCast S32x16x128x128 x2 shapeCasts_S1x32x16x128x128_S32x16x128x128 := by
  after_reads_simp; rw [h]; rfl
theorem decays (h : U (Proc.devRef .tc main_v122) = val_main_v84 x5) (h' : U (Proc.devRef .tc main_v126) = val_main_v88 x0 x3 x6) :
    StableHlo.after hostOps10_4 U (Proc.devRef .tc main_v258)
      = decayRows (val_main_v91 (F := Ideal) x0 x3 x5 x6) := by
  after_reads_simp; rw [h, h']; rfl
theorem q_columns (h : U (Proc.devRef .tc main_v106) = val_main_v68 x0 x1 x3 x4) :
    StableHlo.after hostOps10_4 U (Proc.devRef .tc main_v259)
      = transpose S32x16x128x4 [0, 2, 3, 1] (val_main_v68 x0 x1 x3 x4) transposes_S32x4x16x128_S32x16x128x4_0_2_3_1 := by
  after_reads_simp; rw [h]
theorem k_columns (h : U (Proc.devRef .tc main_v114) = val_main_v76 x0 x1 x3 x4) :
    StableHlo.after hostOps10_4 U (Proc.devRef .tc main_v260)
      = transpose S32x16x128x4 [0, 2, 3, 1] (val_main_v76 x0 x1 x3 x4) transposes_S32x4x16x128_S32x16x128x4_0_2_3_1 := by
  after_reads_simp; rw [h]
theorem kb_columns (h : U (Proc.devRef .tc main_v114) = val_main_v76 x0 x1 x3 x4) (h' : U (Proc.devRef .tc main_v120) = val_main_v82 x0 x3) :
    StableHlo.after hostOps10_4 U (Proc.devRef .tc main_v264)
      = weightedColumns (val_main_v76 (F := Ideal) x0 x1 x3 x4) (val_main_v82 (F := Ideal) x0 x3) := by
  after_reads_simp; rw [h, h']; rfl
theorem v_rows (h : U (Proc.devRef .tc main_v96) = val_main_v58 x0 x1 x3 x4) :
    StableHlo.after hostOps10_4 U (Proc.devRef .tc main_v265)
      = transpose S32x16x4x128 [0, 2, 1, 3] (val_main_v58 x0 x1 x3 x4) transposes_S32x4x16x128_S32x16x4x128_0_2_1_3 := by
  after_reads_simp; rw [h]
theorem outputs (X : FVec Ideal S32x16x4x128 .f32) (h : U (Proc.devRef .tc main_v266_0) = X) :
    StableHlo.after hostOps11 U (Proc.devRef .tc main_v267)
      = transpose S32x4x16x128 [0, 2, 1, 3] X transposes_S32x16x4x128_S32x4x16x128_0_2_1_3 := by
  after_reads_simp; rw [h]

end Cert.SampleTail

end
-- ==== Proof.SampleResults.lean ====
/- The sample program's results, read at its end, are the reference's stages of the same arguments. -/
module

public import proofs.«01_k».proof.Proof.SampleColumns
public import proofs.«01_k».proof.Proof.SampleTail

@[expose] public section

set_option maxRecDepth 16384

noncomputable section

namespace Cert.SampleResults

open Cert.Kernel3Ideal Cert.Kernel3Ideal.Gen Idealize.ShloMosaic Idealize.ShloMosaic.TcCoe Cert.SampleTiles Cert.SampleArrays
open Cert.SampleColumns (tokens weight narrowCols)
open Cert.Reference3Ideal.Read

variable (m : (ℓ : Loc nD τ sig) → Buf (Elt Ideal) ℓ) (ρ : Dev nD → PrngReg) (c : Dev nD)

abbrev before : FVec Ideal S1x32x3x6144 .f32 := m ((c : Thread nD τ).loc main_arg1)
abbrev state : FVec Ideal S1x32x16x128x128 .f32 := m ((c : Thread nD τ).loc main_arg2)
abbrev filter : FVec Ideal S1x4x6144 .f32 := m ((c : Thread nD τ).loc main_arg4)
abbrev aLog : FVec Ideal S1x16 .f32 := m ((c : Thread nD τ).loc main_arg5)
abbrev dtBias : FVec Ideal S1x16 .f32 := m ((c : Thread nD τ).loc main_arg6)

/-! What the calls and the stages after them leave alone. -/

theorem early (r : Ref sig .tc) (h : r ∉ written) (h1 : r ∉ hostOps0_1_W) (h2 : r ∉ hostOps0_2_W) :
    W22 m ρ c (Proc.devRef .tc r) = W1 m ρ c (Proc.devRef .tc r) :=
  (kept0 m ρ c r h).trans ((W3_of m ρ c r h2).trans (W2_of m ρ c r h1))

theorem past (r : Ref sig .tc) (h : r ∉ hostOps10_W) (h1 : r ∉ hostOps10_1_W) (h2 : r ∉ hostOps10_2_W) (h3 : r ∉ hostOps10_3_W) :
    W26 m ρ c (Proc.devRef .tc r) = W22 m ρ c (Proc.devRef .tc r) :=
  (W26_of m ρ c r h3).trans ((W25_of m ρ c r h2).trans ((W24_of m ρ c r h1).trans (W23_of m ρ c r h)))

theorem end_of_25 (r : Ref sig .tc) (h3 : r ∉ hostOps10_3_W) (h4 : r ∉ hostOps10_4_W) :
    W27 m ρ c (Proc.devRef .tc r) = W25 m ρ c (Proc.devRef .tc r) :=
  (W27_of m ρ c r h4).trans (W26_of m ρ c r h3)

theorem positions : W22 m ρ c (Proc.devRef .tc main_v2) = val_main_v2 := by
  rw [early m ρ c main_v2 (by decide) (by decide) (by decide)]; unfold W1; after_reads_simp; rfl
theorem carried : W22 m ρ c (Proc.devRef .tc main_v3) = val_main_v3 (before m c) := by
  rw [early m ρ c main_v3 (by decide) (by decide) (by decide)]; unfold W1; after_reads_simp; rfl
theorem filter_at : W22 m ρ c (Proc.devRef .tc main_v5) = val_main_v5 (filter m c) := by
  rw [early m ρ c main_v5 (by decide) (by decide) (by decide)]; unfold W1; after_reads_simp; rfl
theorem a_log_at : W24 m ρ c (Proc.devRef .tc main_v6) = val_main_v6 (aLog m c) := by
  rw [W24_of m ρ c main_v6 (by decide), W23_of m ρ c main_v6 (by decide), early m ρ c main_v6 (by decide) (by decide) (by decide)]
  unfold W1; after_reads_simp; rfl
theorem dt_bias_at : W24 m ρ c (Proc.devRef .tc main_v7) = val_main_v7 (dtBias m c) := by
  rw [W24_of m ρ c main_v7 (by decide), W23_of m ρ c main_v7 (by decide), early m ρ c main_v7 (by decide) (by decide) (by decide)]
  unfold W1; after_reads_simp; rfl

/-! The narrow columns, cut from their product. -/

theorem narrow_product : shapeCast S32x4x128 (W22 m ρ c (Proc.devRef .tc main_v54)) shapeCasts_S128x128_S32x4x128
    = narrowCols (tokens m c) (weight m c) := by
  rw [out9, SampleColumns.left, SampleColumns.narrow_weight]; rfl

theorem b_raw_at : W24 m ρ c (Proc.devRef .tc main_v56) = val_main_v11 (tokens m c) (weight m c) := by
  rw [W24_of m ρ c main_v56 (by decide)]
  refine Eq.trans ?_ (SampleColumns.b_raw (tokens m c) (weight m c))
  rw [← narrow_product m ρ c]; unfold W23; after_reads_simp; rfl
theorem a_raw_at : W24 m ρ c (Proc.devRef .tc main_v57) = val_main_v12 (tokens m c) (weight m c) := by
  rw [W24_of m ρ c main_v57 (by decide)]
  refine Eq.trans ?_ (SampleColumns.a_raw (tokens m c) (weight m c))
  rw [← narrow_product m ρ c]; unfold W23; after_reads_simp; rfl
theorem w_idx_at : W26 m ρ c (Proc.devRef .tc main_v58) = val_main_v17 (tokens m c) (weight m c) := by
  rw [W26_of m ρ c main_v58 (by decide), W25_of m ρ c main_v58 (by decide), W24_of m ρ c main_v58 (by decide)]
  refine Eq.trans ?_ (SampleColumns.w_idx (tokens m c) (weight m c))
  rw [← narrow_product m ρ c]; unfold W23; after_reads_simp; rfl

/-! The results. -/

theorem conv_out : W24 m ρ c (Proc.devRef .tc main_v89) = val_main_v51 (tokens m c) (before m c) (weight m c) (filter m c) :=
  SampleTail.silu _ _ _ _ _ (SampleTail.conv _ _ _ _ _ (SampleColumns.qkv m ρ c) (carried m ρ c) (filter_at m ρ c))

theorem conv_new : W27 m ρ c (Proc.devRef .tc main_v90) = val_main_v52 (tokens m c) (before m c) (weight m c) :=
  (end_of_25 m ρ c main_v90 (by decide) (by decide)).trans (SampleTail.conv_new _ _ _ _
    ((W24_of m ρ c main_v59 (by decide)).trans (SampleTail.rows _ _ _ _ (SampleColumns.qkv m ρ c) (carried m ρ c))))
theorem q_at : W26 m ρ c (Proc.devRef .tc main_v106) = val_main_v68 (tokens m c) (before m c) (weight m c) (filter m c) :=
  (W26_of m ρ c main_v106 (by decide)).trans (SampleTail.q _ _ _ _ _ (conv_out m ρ c))
theorem k_at : W26 m ρ c (Proc.devRef .tc main_v114) = val_main_v76 (tokens m c) (before m c) (weight m c) (filter m c) :=
  (W26_of m ρ c main_v114 (by decide)).trans (SampleTail.k _ _ _ _ _ (conv_out m ρ c))
theorem v_at : W26 m ρ c (Proc.devRef .tc main_v96) = val_main_v58 (tokens m c) (before m c) (weight m c) (filter m c) :=
  (W26_of m ρ c main_v96 (by decide)).trans (SampleTail.v _ _ _ _ _ (conv_out m ρ c))
theorem beta_at : W26 m ρ c (Proc.devRef .tc main_v120) = val_main_v82 (tokens m c) (weight m c) :=
  (W26_of m ρ c main_v120 (by decide)).trans (SampleTail.beta _ _ _ (b_raw_at m ρ c))
theorem rate_at : W26 m ρ c (Proc.devRef .tc main_v122) = val_main_v84 (aLog m c) :=
  (W26_of m ρ c main_v122 (by decide)).trans (SampleTail.rate _ _ (a_log_at m ρ c))
theorem softplus_at : W26 m ρ c (Proc.devRef .tc main_v126) = val_main_v88 (tokens m c) (weight m c) (dtBias m c) :=
  SampleTail.softplus _ _ _ _ (SampleTail.shifted _ _ _ _ (a_raw_at m ρ c) (dt_bias_at m ρ c))
theorem state_at : W26 m ρ c (Proc.devRef .tc main_arg2) = state m c :=
  (past m ρ c main_arg2 (by decide) (by decide) (by decide) (by decide)).trans
    ((early m ρ c main_arg2 (by decide) (by decide) (by decide)).trans (W1_of m ρ c main_arg2 (by decide)))
theorem z : W27 m ρ c (Proc.devRef .tc main_v39) = val_main_v10 (tokens m c) (weight m c) :=
  (W27_of m ρ c main_v39 (by decide)).trans ((past m ρ c main_v39 (by decide) (by decide) (by decide) (by decide)).trans (SampleColumns.z m ρ c))
theorem gate_gdn : W27 m ρ c (Proc.devRef .tc main_v51) = val_main_v19 (tokens m c) (weight m c) :=
  (W27_of m ρ c main_v51 (by decide)).trans ((past m ρ c main_v51 (by decide) (by decide) (by decide) (by decide)).trans (SampleColumns.gate_gdn m ρ c))
theorem gate_att : W27 m ρ c (Proc.devRef .tc main_v53) = val_main_v20 (tokens m c) (weight m c) :=
  (W27_of m ρ c main_v53 (by decide)).trans ((past m ρ c main_v53 (by decide) (by decide) (by decide) (by decide)).trans (SampleColumns.gate_att m ρ c))

theorem positions_past : W26 m ρ c (Proc.devRef .tc main_v2) = val_main_v2 :=
  (past m ρ c main_v2 (by decide) (by decide) (by decide) (by decide)).trans (positions m ρ c)
theorem qa : W27 m ρ c (Proc.devRef .tc main_v159) = val_main_v121 (tokens m c) (weight m c) :=
  SampleTail.qa _ _ _ ((past m ρ c main_v41 (by decide) (by decide) (by decide) (by decide)).trans (SampleColumns.q_att m ρ c)) (positions_past m ρ c)
theorem ka : W27 m ρ c (Proc.devRef .tc main_v189) = val_main_v151 (tokens m c) (weight m c) :=
  SampleTail.ka _ _ _ ((past m ρ c main_v43 (by decide) (by decide) (by decide) (by decide)).trans (SampleColumns.k_att m ρ c)) (positions_past m ρ c)
theorem va : W27 m ρ c (Proc.devRef .tc main_v190) = val_main_v152 (tokens m c) (weight m c) :=
  SampleTail.va _ _ _ ((past m ρ c main_v45 (by decide) (by decide) (by decide) (by decide)).trans (SampleColumns.v_att m ρ c))
theorem qi : W27 m ρ c (Proc.devRef .tc main_v220) = val_main_v182 (tokens m c) (weight m c) :=
  SampleTail.qi _ _ _ ((past m ρ c main_v47 (by decide) (by decide) (by decide) (by decide)).trans (SampleColumns.q_idx m ρ c)) (positions_past m ρ c)
theorem ki : W27 m ρ c (Proc.devRef .tc main_v251) = val_main_v213 (tokens m c) (weight m c) :=
  SampleTail.ki _ _ _ ((past m ρ c main_v49 (by decide) (by decide) (by decide) (by decide)).trans (SampleColumns.k_idx m ρ c)) (positions_past m ρ c)
theorem wi : W27 m ρ c (Proc.devRef .tc main_v253) = val_main_v215 (tokens m c) (weight m c) :=
  SampleTail.wi _ _ _ (w_idx_at m ρ c)

/-! The call of the recurrence and the last host operation leave them. -/

theorem last (r : Ref sig .tc) (h : r ∉ hostOps11_W) (h0 : r ≠ main_v266_0) (h1 : r ≠ main_v266_1) :
    W29 m ρ c (Proc.devRef .tc r) = W27 m ρ c (Proc.devRef .tc r) :=
  (W29_of m ρ c r h).trans (W28_of m ρ c r fun w e =>
    ((by decide : ∀ w : Fin 8, Pipeline.arrRef spec10 w = main_v266_0 ∨ Pipeline.arrRef spec10 w = main_v266_1
      ∨ (cfg10.win w).isOut = false) w).elim (fun g => absurd (e.symm.trans g) h0)
      fun g => g.elim (fun g => absurd (e.symm.trans g) h1) id)

end Cert.SampleResults

end
-- ==== Proof.SampleStep.lean ====
/- One grid point of the sample's recurrence. The body works the sixteen heads one after the other, and each head's four
   tokens: it stores a row of outputs per token and, last, the head's plane of the state. Here the stores are brought to one
   uniform form, a recursion over tokens and heads. -/
module

public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.SampleStep

open Cert.Kernel3Ideal Cert.Kernel3Ideal.Gen Idealize.ShloMosaic Idealize.ShloMosaic.TcCoe

variable {F : FTy → Type} [FloatOps F]

/-! ## The boxes of a head and a token -/

theorem inPlane (h : ℕ) (hh : h < 16) : ∀ a, (![0, h, 0, 0] : Fin 4 → ℕ) a + S1x1x128x128.size a ≤ S1x16x128x128.size a := by
  intro a; fin_cases a
  · show 0 + 1 ≤ 1; omega
  · show h + 1 ≤ 16; omega
  · show 0 + 128 ≤ 128; omega
  · show 0 + 128 ≤ 128; omega
theorem inRow (h : ℕ) (hh : h < 16) (t : ℕ) (ht : t < 4) : ∀ a, (![0, h, t, 0] : Fin 4 → ℕ) a + S1x1x1x128.size a ≤ S1x16x4x128.size a := by
  intro a; fin_cases a
  · show 0 + 1 ≤ 1; omega
  · show h + 1 ≤ 16; omega
  · show t + 1 ≤ 4; omega
  · show 0 + 128 ≤ 128; omega
theorem inColumn (h : ℕ) (hh : h < 16) (t : ℕ) (ht : t < 4) : ∀ a, (![0, h, 0, t] : Fin 4 → ℕ) a + S1x1x128x1.size a ≤ S1x16x128x4.size a := by
  intro a; fin_cases a
  · show 0 + 1 ≤ 1; omega
  · show h + 1 ≤ 16; omega
  · show 0 + 128 ≤ 128; omega
  · show t + 1 ≤ 4; omega

/-- Head `h`'s plane of the state. -/
abbrev boxPlane (h : ℕ) (hh : h < 16) : Rect S1x16x128x128 := Rect.unit ![0, h, 0, 0] S1x1x128x128.size (inPlane h hh)
/-- Head `h`'s row of token `t`. -/
abbrev boxRow (h : ℕ) (hh : h < 16) (t : ℕ) (ht : t < 4) : Rect S1x16x4x128 := Rect.unit ![0, h, t, 0] S1x1x1x128.size (inRow h hh t ht)
/-- Head `h`'s column of token `t`. -/
abbrev boxColumn (h : ℕ) (hh : h < 16) (t : ℕ) (ht : t < 4) : Rect S1x16x128x4 := Rect.unit ![0, h, 0, t] S1x1x128x1.size (inColumn h hh t ht)

/-! ## One head -/

variable (x0 : Vec F S1x16x128x128 .f32) (x1 x2 x3 : Vec F S1x16x128x4 .f32) (x4 x5 : Vec F S1x16x4x128 .f32)

/-- Head `h`'s plane after `t` tokens. -/
def plane (h : ℕ) (hh : h < 16) : (t : ℕ) → t ≤ 4 → FVec F S128x128 .f32
  | 0, _ => shapeCast S128x128 (View.ld x0 (boxPlane h hh)) shapeCasts_S1x1x128x128_S128x128
  | t + 1, ht => k10_pay8 (plane h hh t (Nat.le_of_succ_le ht)) (View.ld x5 (boxRow h hh t ht)) (View.ld x2 (boxColumn h hh t ht))
      (View.ld x3 (boxColumn h hh t ht)) (View.ld x4 (boxRow h hh t ht))

/-- The row of outputs of token `t`. -/
def row (h : ℕ) (hh : h < 16) (t : ℕ) (ht : t < 4) : FVec F S1x1x1x128 .f32 :=
  k10_pay9 (plane x0 x2 x3 x4 x5 h hh t ht.le) (View.ld x5 (boxRow h hh t ht)) (View.ld x2 (boxColumn h hh t ht))
    (View.ld x3 (boxColumn h hh t ht)) (View.ld x4 (boxRow h hh t ht)) (View.ld x1 (boxColumn h hh t ht))

/-- The plane head `h` leaves. -/
def left (h : ℕ) (hh : h < 16) : FVec F S1x1x128x128 .f32 :=
  shapeCast S1x1x128x128 (plane x0 x2 x3 x4 x5 h hh 4 le_rfl) shapeCasts_S128x128_S1x1x128x128

/-! ## The stores of a point -/

/-- The stores to the state after the first `n` heads. -/
def stateStores : (n : ℕ) → n ≤ 16 → List (View.Piece (Elt F) S1x16x128x128 .f32)
  | 0, _ => []
  | n + 1, hn => ⟨boxPlane n hn, left x0 x2 x3 x4 x5 n hn⟩ :: stateStores n (Nat.le_of_succ_le hn)

/-- The stores to the outputs after the first `n` tokens of head `h`, on top of the stores `L`. -/
def headStores (h : ℕ) (hh : h < 16) (L : List (View.Piece (Elt F) S1x16x4x128 .f32)) :
    (t : ℕ) → t ≤ 4 → List (View.Piece (Elt F) S1x16x4x128 .f32)
  | 0, _ => L
  | t + 1, ht => ⟨boxRow h hh t ht, row x0 x1 x2 x3 x4 x5 h hh t ht⟩ :: headStores h hh L t (Nat.le_of_succ_le ht)

/-- The stores to the outputs after the first `n` heads. -/
def rowStores : (n : ℕ) → n ≤ 16 → List (View.Piece (Elt F) S1x16x4x128 .f32)
  | 0, _ => []
  | n + 1, hn => headStores x0 x1 x2 x3 x4 x5 n hn (rowStores n (Nat.le_of_succ_le hn)) 4 le_rfl

theorem out_state : out10_7 x0 x1 x2 x3 x4 x5 = View.canon (stateStores x0 x2 x3 x4 x5 16 le_rfl) := by
  unfold out10_7
  refine congrArg View.canon ?_
  rfl

theorem out_rows : out10_6 x0 x1 x2 x3 x4 x5 = View.canon (rowStores x0 x1 x2 x3 x4 x5 16 le_rfl) := by
  unfold out10_6
  refine congrArg View.canon ?_
  rfl

/-! ## What the stores leave -/

theorem canon_plane_of_ne (n : ℕ) (hn : n < 16) (w : FVec F S1x1x128x128 .f32)
    (L : List (View.Piece (Elt F) S1x16x128x128 .f32)) (h : Fin 16) (a b : Fin 128) (hne : h.val ≠ n) :
    View.canon (⟨boxPlane n hn, w⟩ :: L) (ix4 0 h a b) = View.canon L (ix4 0 h a b) := by
  refine View.canon_cons_of_not_mem _ _ fun hm => hne ?_
  rw [Rect.mem_set_unit] at hm
  have h1 := hm 1
  have e : n ≤ h.val ∧ h.val < n + 1 := h1
  omega

theorem plane_at (h : Fin 16) (a b : Fin 128) :
    (ix4 0 h a b : S1x16x128x128.Idx) = (boxPlane h.val h.isLt).emb (ix4 0 0 a b) := by
  funext x; apply Fin.ext
  match x with
  | ⟨0, _⟩ => show 0 = 0 + 1 * 0; omega
  | ⟨1, _⟩ => show h.val = h.val + 1 * 0; omega
  | ⟨2, _⟩ => show a.val = 0 + 1 * a.val; omega
  | ⟨3, _⟩ => show b.val = 0 + 1 * b.val; omega
theorem row_at (h : Fin 16) (t : Fin 4) (b : Fin 128) :
    (ix4 0 h t b : S1x16x4x128.Idx) = (boxRow h.val h.isLt t.val t.isLt).emb (ix4 0 0 0 b) := by
  funext x; apply Fin.ext
  match x with
  | ⟨0, _⟩ => show 0 = 0 + 1 * 0; omega
  | ⟨1, _⟩ => show h.val = h.val + 1 * 0; omega
  | ⟨2, _⟩ => show t.val = t.val + 1 * 0; omega
  | ⟨3, _⟩ => show b.val = 0 + 1 * b.val; omega
theorem column_at (h : Fin 16) (t : Fin 4) (a : Fin 128) :
    (ix4 0 h a t : S1x16x128x4.Idx) = (boxColumn h.val h.isLt t.val t.isLt).emb (ix4 0 0 a 0) := by
  funext x; apply Fin.ext
  match x with
  | ⟨0, _⟩ => show 0 = 0 + 1 * 0; omega
  | ⟨1, _⟩ => show h.val = h.val + 1 * 0; omega
  | ⟨2, _⟩ => show a.val = 0 + 1 * a.val; omega
  | ⟨3, _⟩ => show t.val = t.val + 1 * 0; omega

theorem canon_stateStores (h : Fin 16) (a b : Fin 128) : ∀ (n : ℕ) (hn : n ≤ 16), h.val < n →
    View.canon (stateStores x0 x2 x3 x4 x5 n hn) (ix4 0 h a b) = left x0 x2 x3 x4 x5 h.val h.isLt (ix4 0 0 a b)
  | 0, _, hl => absurd hl (Nat.not_lt_zero _)
  | n + 1, hn, hl => by
    rw [stateStores]
    by_cases e : h.val = n
    · subst e
      rw [plane_at h a b, View.canon_cons_emb]
    · rw [canon_plane_of_ne n hn _ _ h a b e]
      exact canon_stateStores h a b n _ (by omega)

theorem canon_row_of_ne (n : ℕ) (hn : n < 16) (k : ℕ) (hk : k < 4) (w : FVec F S1x1x1x128 .f32)
    (L : List (View.Piece (Elt F) S1x16x4x128 .f32)) (h : Fin 16) (t : Fin 4) (b : Fin 128) (hne : ¬ (h.val = n ∧ t.val = k)) :
    View.canon (⟨boxRow n hn k hk, w⟩ :: L) (ix4 0 h t b) = View.canon L (ix4 0 h t b) := by
  refine View.canon_cons_of_not_mem _ _ fun hm => hne ?_
  rw [Rect.mem_set_unit] at hm
  have h1 := hm 1
  have h2 := hm 2
  have e : n ≤ h.val ∧ h.val < n + 1 := h1
  have e' : k ≤ t.val ∧ t.val < k + 1 := h2
  omega

theorem canon_headStores_of_ne (n : ℕ) (hn : n < 16) (L : List (View.Piece (Elt F) S1x16x4x128 .f32)) (h : Fin 16) (t : Fin 4)
    (b : Fin 128) (hne : h.val ≠ n) : ∀ (k : ℕ) (hk : k ≤ 4),
    View.canon (headStores x0 x1 x2 x3 x4 x5 n hn L k hk) (ix4 0 h t b) = View.canon L (ix4 0 h t b)
  | 0, _ => rfl
  | k + 1, hk => by
    rw [headStores, canon_row_of_ne n hn k hk _ _ h t b (fun e => hne e.1)]
    exact canon_headStores_of_ne n hn L h t b hne k _

theorem canon_headStores (L : List (View.Piece (Elt F) S1x16x4x128 .f32)) (h : Fin 16) (t : Fin 4) (b : Fin 128) :
    ∀ (k : ℕ) (hk : k ≤ 4), t.val < k →
    View.canon (headStores x0 x1 x2 x3 x4 x5 h.val h.isLt L k hk) (ix4 0 h t b)
      = row x0 x1 x2 x3 x4 x5 h.val h.isLt t.val t.isLt (ix4 0 0 0 b)
  | 0, _, hl => absurd hl (Nat.not_lt_zero _)
  | k + 1, hk, hl => by
    rw [headStores]
    by_cases e : t.val = k
    · subst e
      rw [row_at h t b, View.canon_cons_emb]
    · rw [canon_row_of_ne _ _ k hk _ _ h t b (fun g => e g.2)]
      exact canon_headStores L h t b k _ (by omega)

theorem canon_rowStores (h : Fin 16) (t : Fin 4) (b : Fin 128) : ∀ (n : ℕ) (hn : n ≤ 16), h.val < n →
    View.canon (rowStores x0 x1 x2 x3 x4 x5 n hn) (ix4 0 h t b)
      = row x0 x1 x2 x3 x4 x5 h.val h.isLt t.val t.isLt (ix4 0 0 0 b)
  | 0, _, hl => absurd hl (Nat.not_lt_zero _)
  | n + 1, hn, hl => by
    rw [rowStores]
    by_cases e : h.val = n
    · subst e
      exact canon_headStores x0 x1 x2 x3 x4 x5 _ h t b 4 _ t.isLt
    · rw [canon_headStores_of_ne x0 x1 x2 x3 x4 x5 n hn _ h t b e]
      exact canon_rowStores h t b n _ (by omega)

end Cert.SampleStep

end
-- ==== Proof.SampleMath.lean ====
/- The delta rule, token by token, as mathematics: the state of a head is a matrix that decays, is corrected toward the token's
   value along its key, and is read along its query. -/
module

public import Idealize.ShloMosaic.Lib.Pointwise

@[expose] public section

noncomputable section

namespace Cert.SampleMath

/-- A head's state. -/
abbrev Plane := Fin 128 → Fin 128 → EReal

/-- One token: decay by `d`, then move along `kb` by what `v` lacks of the state's reading along `k`. -/
def advance (s : Plane) (d k kb v : Fin 128 → EReal) : Plane := fun a b =>
  s a b * d b + kb a * (v b - ∑ x, s x b * d b * k x)

/-- The state's reading along a query. -/
def reading (s : Plane) (q : Fin 128 → EReal) : Fin 128 → EReal := fun b => ∑ x, s x b * q x

/-- The states before each of the four tokens, and after the last. -/
def states (s : Plane) (d k kb v : Fin 4 → Fin 128 → EReal) : (t : ℕ) → t ≤ 4 → Plane
  | 0, _ => s
  | t + 1, ht => advance (states s d k kb v t (Nat.le_of_succ_le ht)) (d ⟨t, ht⟩) (k ⟨t, ht⟩) (kb ⟨t, ht⟩) (v ⟨t, ht⟩)

theorem advance_congr {s s' : Plane} {d d' k k' kb kb' v v' : Fin 128 → EReal} (hs : ∀ a b, s a b = s' a b) (hd : ∀ b, d b = d' b)
    (hk : ∀ a, k a = k' a) (hkb : ∀ a, kb a = kb' a) (hv : ∀ b, v b = v' b) (a b : Fin 128) :
    advance s d k kb v a b = advance s' d' k' kb' v' a b := by
  rw [show s = s' from funext fun a => funext (hs a), funext hd, funext hk, funext hkb, funext hv]

theorem states_congr {s s' : Plane} {d d' k k' kb kb' v v' : Fin 4 → Fin 128 → EReal} (hs : ∀ a b, s a b = s' a b)
    (hd : ∀ t b, d t b = d' t b) (hk : ∀ t a, k t a = k' t a) (hkb : ∀ t a, kb t a = kb' t a) (hv : ∀ t b, v t b = v' t b) :
    states s d k kb v = states s' d' k' kb' v' := by
  rw [show s = s' from funext fun a => funext (hs a), show d = d' from funext fun t => funext (hd t),
    show k = k' from funext fun t => funext (hk t), show kb = kb' from funext fun t => funext (hkb t),
    show v = v' from funext fun t => funext (hv t)]

theorem reading_congr {s s' : Plane} {q q' : Fin 128 → EReal} (hs : ∀ a b, s a b = s' a b) (hq : ∀ a, q a = q' a) (b : Fin 128) :
    reading s q b = reading s' q' b := by
  rw [show s = s' from funext fun a => funext (hs a), funext hq]

end Cert.SampleMath

end
-- ==== Proof.SamplePoint.lean ====
/- What one grid point of the sample's recurrence leaves, entry by entry: the states and readings of the delta rule. -/
module

public import proofs.«01_k».proof.Proof.SampleStep
public import proofs.«01_k».proof.Proof.SampleMath

@[expose] public section

noncomputable section

namespace Cert.SamplePoint

open Cert.Kernel3Ideal Cert.Kernel3Ideal.Gen Idealize.ShloMosaic Idealize.ShloMosaic.TcCoe Cert.SampleStep Cert.SampleMath

theorem step_apply (s : FVec Ideal S128x128 .f32) (d : Vec Ideal S1x1x1x128 .f32) (k kb : Vec Ideal S1x1x128x1 .f32)
    (v : Vec Ideal S1x1x1x128 .f32) (a b : Fin 128) : k10_pay8 s d k kb v (ix2 a b)
      = advance (fun a b => s (ix2 a b)) (fun b => d (ix4 0 0 0 b)) (fun a => k (ix4 0 0 a 0)) (fun a => kb (ix4 0 0 a 0))
          (fun b => v (ix4 0 0 0 b)) a b := by
  pointwise [k10_pay8, advance]

theorem row_apply (s : FVec Ideal S128x128 .f32) (d : Vec Ideal S1x1x1x128 .f32) (k kb q : Vec Ideal S1x1x128x1 .f32)
    (v : Vec Ideal S1x1x1x128 .f32) (b : Fin 128) : k10_pay9 s d k kb v q (ix4 0 0 0 b)
      = reading (fun a b => k10_pay8 s d k kb v (ix2 a b)) (fun a => q (ix4 0 0 a 0)) b := by
  pointwise [k10_pay9, reading]

variable (x0 : Vec Ideal S1x16x128x128 .f32) (x1 x2 x3 : Vec Ideal S1x16x128x4 .f32) (x4 x5 : Vec Ideal S1x16x4x128 .f32)

/-- Head `h`'s states, from the blocks a point reads. -/
abbrev blockStates (h : Fin 16) : (t : ℕ) → t ≤ 4 → Plane :=
  states (fun a b => x0 (ix4 0 h a b)) (fun t b => x5 (ix4 0 h t b)) (fun t a => x2 (ix4 0 h a t)) (fun t a => x3 (ix4 0 h a t))
    (fun t b => x4 (ix4 0 h t b))

theorem ld_row (x : Vec Ideal S1x16x4x128 .f32) (h : Fin 16) (t : Fin 4) (b : Fin 128) :
    View.ld x (boxRow h.val h.isLt t.val t.isLt) (ix4 0 0 0 b) = x (ix4 0 h t b) := by
  rw [row_at h t b]; rfl
theorem ld_column (x : Vec Ideal S1x16x128x4 .f32) (h : Fin 16) (t : Fin 4) (a : Fin 128) :
    View.ld x (boxColumn h.val h.isLt t.val t.isLt) (ix4 0 0 a 0) = x (ix4 0 h a t) := by
  rw [column_at h t a]; rfl

theorem plane_cast (x : FVec Ideal S1x1x128x128 .f32) (a b : Fin 128) :
    shapeCast S128x128 x shapeCasts_S1x1x128x128_S128x128 (ix2 a b) = x (ix4 0 0 a b) := by pointwise []
theorem cast_plane (x : FVec Ideal S128x128 .f32) (a b : Fin 128) :
    shapeCast S1x1x128x128 x shapeCasts_S128x128_S1x1x128x128 (ix4 0 0 a b) = x (ix2 a b) := by pointwise []

theorem plane_apply (h : Fin 16) : ∀ (t : ℕ) (ht : t ≤ 4) (a b : Fin 128),
    plane x0 x2 x3 x4 x5 h.val h.isLt t ht (ix2 a b) = blockStates x0 x2 x3 x4 x5 h t ht a b
  | 0, _, a, b => by
    refine (plane_cast _ a b).trans ?_
    exact congrArg x0 (plane_at h a b).symm
  | t + 1, ht, a, b =>
    (step_apply _ _ _ _ _ a b).trans (advance_congr (fun a b => plane_apply h t _ a b) (fun b => ld_row x5 h ⟨t, ht⟩ b)
      (fun a => ld_column x2 h ⟨t, ht⟩ a) (fun a => ld_column x3 h ⟨t, ht⟩ a) (fun b => ld_row x4 h ⟨t, ht⟩ b) a b)

theorem state_apply (h : Fin 16) (a b : Fin 128) :
    out10_7 x0 x1 x2 x3 x4 x5 (ix4 0 h a b) = blockStates x0 x2 x3 x4 x5 h 4 le_rfl a b := by
  rw [out_state, canon_stateStores x0 x2 x3 x4 x5 h a b 16 le_rfl h.isLt, ← plane_apply]
  exact cast_plane _ a b

theorem rows_apply (h : Fin 16) (t : Fin 4) (b : Fin 128) :
    out10_6 x0 x1 x2 x3 x4 x5 (ix4 0 h t b)
      = reading (blockStates x0 x2 x3 x4 x5 h (t.val + 1) t.isLt) (fun a => x1 (ix4 0 h a t)) b := by
  rw [out_rows, canon_rowStores x0 x1 x2 x3 x4 x5 h t b 16 le_rfl h.isLt]
  exact (row_apply _ _ _ _ _ _ b).trans (reading_congr (fun a b => plane_apply x0 x2 x3 x4 x5 h (t.val + 1) t.isLt a b)
    (fun a => ld_column x1 h t a) b)

end Cert.SamplePoint

end
-- ==== Proof.SampleState.lean ====
/- The call of the sample's recurrence: over its thirty-two grid points, one for each sequence, it leaves the states and the
   readings of the delta rule. -/
module

public import proofs.«01_k».proof.Proof.SamplePoint

@[expose] public section

noncomputable section

namespace Cert.SampleState

open Cert.Kernel3Ideal Cert.Kernel3Ideal.Gen Idealize.ShloMosaic Idealize.ShloMosaic.TcCoe Cert.SamplePoint Cert.SampleMath

variable (V : (c : Dev nD) → (b : Ref sig .tc) → Buf (Elt Ideal) ((c : Thread nD τ).loc b)) (c : Dev nD)

/-- Sequence `n`'s head `h`: its states, from whole arrays. -/
def arrayStates (s : FVec Ideal S32x16x128x128 .f32) (k kb : FVec Ideal S32x16x128x4 .f32) (v d : FVec Ideal S32x16x4x128 .f32)
    (n : Fin 32) (h : Fin 16) : (t : ℕ) → t ≤ 4 → Plane :=
  states (fun a b => s (ix4 n h a b)) (fun t b => d (ix4 n h t b)) (fun t a => k (ix4 n h a t)) (fun t a => kb (ix4 n h a t))
    (fun t b => v (ix4 n h t b))

/-- The state the call leaves. -/
def lastState (s : FVec Ideal S32x16x128x128 .f32) (k kb : FVec Ideal S32x16x128x4 .f32) (v d : FVec Ideal S32x16x4x128 .f32) :
    FVec Ideal S32x16x128x128 .f32 := fun y => arrayStates s k kb v d (y 0) (y 1) 4 le_rfl (y 2) (y 3)

/-- The outputs it leaves. -/
def readings (s : FVec Ideal S32x16x128x128 .f32) (q k kb : FVec Ideal S32x16x128x4 .f32) (v d : FVec Ideal S32x16x4x128 .f32) :
    FVec Ideal S32x16x4x128 .f32 := fun y =>
  reading (arrayStates s k kb v d (y 0) (y 1) ((y 2).val + 1) (y 2).isLt) (fun a => q (ix4 (y 0) (y 1) a (y 2))) (y 3)

theorem idx : ∀ t : Fin cfg10.N, win10_0.index t = ![t.val, 0, 0, 0] ∧ win10_1.index t = ![t.val, 0, 0, 0] ∧
    win10_2.index t = ![t.val, 0, 0, 0] ∧ win10_3.index t = ![t.val, 0, 0, 0] ∧ win10_4.index t = ![t.val, 0, 0, 0] ∧
    win10_5.index t = ![t.val, 0, 0, 0] ∧ win10_6.index t = ![t.val, 0, 0, 0] ∧ win10_7.index t = ![t.val, 0, 0, 0] :=
  (by decide +kernel : ∀ t : Fin grid10.N, _)

theorem N_eq : cfg10.N = 32 := (by decide +kernel : grid10.N = 32)

/-- The sequence grid point `t` works on. -/
abbrev num (t : Fin cfg10.N) : Fin 32 := ⟨t.val, N_eq ▸ t.isLt⟩

theorem blk_s (t : Fin cfg10.N) (h : Fin 16) (a b : Fin 128) :
    iblk10 V c 0 t (ix4 0 h a b) = V c main_v254 (ix4 (num t) h a b) := by blk_ext [iblk10, idx t]
theorem blk_q (t : Fin cfg10.N) (h : Fin 16) (a : Fin 128) (t' : Fin 4) :
    iblk10 V c 1 t (ix4 0 h a t') = V c main_v259 (ix4 (num t) h a t') := by blk_ext [iblk10, idx t]
theorem blk_k (t : Fin cfg10.N) (h : Fin 16) (a : Fin 128) (t' : Fin 4) :
    iblk10 V c 2 t (ix4 0 h a t') = V c main_v260 (ix4 (num t) h a t') := by blk_ext [iblk10, idx t]
theorem blk_kb (t : Fin cfg10.N) (h : Fin 16) (a : Fin 128) (t' : Fin 4) :
    iblk10 V c 3 t (ix4 0 h a t') = V c main_v264 (ix4 (num t) h a t') := by blk_ext [iblk10, idx t]
theorem blk_v (t : Fin cfg10.N) (h : Fin 16) (t' : Fin 4) (b : Fin 128) :
    iblk10 V c 4 t (ix4 0 h t' b) = V c main_v265 (ix4 (num t) h t' b) := by blk_ext [iblk10, idx t]
theorem blk_d (t : Fin cfg10.N) (h : Fin 16) (t' : Fin 4) (b : Fin 128) :
    iblk10 V c 5 t (ix4 0 h t' b) = V c main_v258 (ix4 (num t) h t' b) := by blk_ext [iblk10, idx t]

theorem states_of_blocks (t : Fin cfg10.N) (h : Fin 16) :
    blockStates (iblk10 V c 0 t) (iblk10 V c 2 t) (iblk10 V c 3 t) (iblk10 V c 4 t) (iblk10 V c 5 t) h
      = arrayStates (V c main_v254) (V c main_v260) (V c main_v264) (V c main_v265) (V c main_v258) (num t) h :=
  states_congr (fun a b => blk_s V c t h a b) (fun t' b => blk_d V c t h t' b) (fun t' a => blk_k V c t h a t')
    (fun t' a => blk_kb V c t h a t') (fun t' b => blk_v V c t h t' b)

/-- A head's index within a point's block, whose first axis has one entry. -/
theorem at_zero {n2 n3 n4 : ℕ} (y : (⟨4, ![1, n2, n3, n4]⟩ : Shape).Idx) : y = ix4 0 (y 1) (y 2) (y 3) :=
  (eq_ix4 y).trans (by congr 1; exact Fin.ext (by have h0 : (y 0).val < 1 := (y 0).isLt; show (y 0).val = 0; omega))

theorem point_state (t : Fin cfg10.N) (h : Fin 16) (a b : Fin 128) :
    out10_7 (iblk10 V c 0 t) (iblk10 V c 1 t) (iblk10 V c 2 t) (iblk10 V c 3 t) (iblk10 V c 4 t) (iblk10 V c 5 t) (ix4 0 h a b)
      = lastState (V c main_v254) (V c main_v260) (V c main_v264) (V c main_v265) (V c main_v258) (ix4 (num t) h a b) := by
  refine (state_apply _ _ _ _ _ _ h a b).trans ?_
  rw [states_of_blocks]
  rfl

theorem final_state : (dat10 V c).arrAt 7 cfg10.N
    = lastState (V c main_v254) (V c main_v260) (V c main_v264) (V c main_v265) (V c main_v258) := by
  refine (dat10 V c).arrAt_eq_of_covers 7 _ (by decide +kernel) fun t hf y => ?_
  rw [after10_7]
  blk_simp [idx t]
  have e : (win10_7.blk t).view.emb y = ix4 (num t) (y 1) (y 2) (y 3) := by
    have e0 : (win10_7.blk t).view.emb y 0 = num t := Fin.ext (by have h0 : (y 0).val < 1 := (y 0).isLt; blk_simp [idx t])
    have e1 : (win10_7.blk t).view.emb y 1 = y 1 := Fin.ext (by blk_simp [idx t])
    have e2 : (win10_7.blk t).view.emb y 2 = y 2 := Fin.ext (by blk_simp [idx t])
    have e3 : (win10_7.blk t).view.emb y 3 = y 3 := Fin.ext (by blk_simp [idx t])
    refine (eq_ix4 _).trans ?_
    rw [e0, e1, e2, e3]
    rfl
  rw [e]
  exact (congrArg (out10_7 _ _ _ _ _ _) (at_zero y)).trans (point_state V c t (y 1) (y 2) (y 3))

theorem point_rows (t : Fin cfg10.N) (h : Fin 16) (k : Fin 4) (b : Fin 128) :
    out10_6 (iblk10 V c 0 t) (iblk10 V c 1 t) (iblk10 V c 2 t) (iblk10 V c 3 t) (iblk10 V c 4 t) (iblk10 V c 5 t) (ix4 0 h k b)
      = readings (V c main_v254) (V c main_v259) (V c main_v260) (V c main_v264) (V c main_v265) (V c main_v258) (ix4 (num t) h k b) := by
  refine (rows_apply _ _ _ _ _ _ h k b).trans ?_
  rw [states_of_blocks]
  exact reading_congr (fun _ _ => rfl) (fun a => blk_q V c t h a k) b

theorem final_rows : (dat10 V c).arrAt 6 cfg10.N
    = readings (V c main_v254) (V c main_v259) (V c main_v260) (V c main_v264) (V c main_v265) (V c main_v258) := by
  refine (dat10 V c).arrAt_eq_of_covers 6 _ (by decide +kernel) fun t hf y => ?_
  rw [after10_6]
  blk_simp [idx t]
  have e : (win10_6.blk t).view.emb y = ix4 (num t) (y 1) (y 2) (y 3) := by
    have e0 : (win10_6.blk t).view.emb y 0 = num t := Fin.ext (by have h0 : (y 0).val < 1 := (y 0).isLt; blk_simp [idx t])
    have e1 : (win10_6.blk t).view.emb y 1 = y 1 := Fin.ext (by blk_simp [idx t])
    have e2 : (win10_6.blk t).view.emb y 2 = y 2 := Fin.ext (by blk_simp [idx t])
    have e3 : (win10_6.blk t).view.emb y 3 = y 3 := Fin.ext (by blk_simp [idx t])
    refine (eq_ix4 _).trans ?_
    rw [e0, e1, e2, e3]
    rfl
  rw [e]
  exact (congrArg (out10_6 _ _ _ _ _ _) (at_zero y)).trans (point_rows V c t (y 1) (y 2) (y 3))

end Cert.SampleState

end
-- ==== Proof.SampleRef.lean ====
/- The reference's loop over the four tokens leaves the states and the readings of the delta rule. -/
module

public import proofs.«01_k».proof.Proof.Gen.Reference3Ideal.Read
public import proofs.«01_k».proof.Proof.SampleMath

@[expose] public section

set_option maxRecDepth 16384

noncomputable section

namespace Cert.SampleRef

open Cert.Reference3Ideal Cert.Reference3Ideal.Gen Cert.Reference3Ideal.Read Idealize.ShloMosaic Idealize.ShloMosaic.TcCoe Cert.SampleMath

/-! ## One token -/

/-- The rows with the tokens first, as the loop runs over them. -/
def tokenRows (x : FVec Ideal S32x4x16x128 .f32) : FVec Ideal S4x32x16x128 .f32 :=
  extractStridedSlice S4x32x16x128 ![0, 0, 0, 0] (transpose S4x32x16x128 [1, 0, 2, 3] x transposes_S32x4x16x128_S4x32x16x128_1_0_2_3)
    slices_S4x32x16x128_S4x32x16x128_0_0_0_0
/-- The numbers with the tokens first. -/
def tokenHeads (x : FVec Ideal S32x4x16 .f32) : FVec Ideal S4x32x16 .f32 :=
  extractStridedSlice S4x32x16 ![0, 0, 0] (transpose S4x32x16 [1, 0, 2] x transposes_S32x4x16_S4x32x16_1_0_2) slices_S4x32x16_S4x32x16_0_0_0
/-- Token `t`'s rows. -/
def rowsAt (t : ℕ) (x : FVec Ideal S32x4x16x128 .f32) (ht : S4x32x16x128.Slices ![t, 0, 0, 0] S1x32x16x128) : FVec Ideal S32x16x128 .f32 :=
  shapeCast _ (extractStridedSlice S1x32x16x128 ![t, 0, 0, 0] (tokenRows x) ht) shapeCasts_S1x32x16x128_S32x16x128
/-- Token `t`'s numbers, one per head. -/
def headsAt (t : ℕ) (x : FVec Ideal S32x4x16 .f32) (ht : S4x32x16.Slices ![t, 0, 0] S1x32x16) : FVec Ideal S32x16 .f32 :=
  shapeCast _ (extractStridedSlice S1x32x16 ![t, 0, 0] (tokenHeads x) ht) shapeCasts_S1x32x16_S32x16

theorem rowsAt_apply (t : Fin 4) (x : FVec Ideal S32x4x16x128 .f32) (ht) (n : Fin 32) (h : Fin 16) (a : Fin 128) :
    rowsAt t.val x ht (ix3 n h a) = x (ix4 n t h a) := by
  pointwise [rowsAt, tokenRows]
theorem headsAt_apply (t : Fin 4) (x : FVec Ideal S32x4x16 .f32) (ht) (n : Fin 32) (h : Fin 16) :
    headsAt t.val x ht (ix2 n h) = x (ix3 n t h) := by
  pointwise [headsAt, tokenHeads]

/-- The state decayed by `g`. -/
def decayed (s : FVec Ideal S32x16x128x128 .f32) (g : FVec Ideal S32x16 .f32) : FVec Ideal S32x16x128x128 .f32 :=
  mulf s (broadcastInDim S32x16x128x128 ![0, 1, 2, 3] bcast_S32x16x1x1_S32x16x128x128_0_1_2_3
    (broadcastInDim S32x16x1x1 ![0, 1] bcast_S32x16_S32x16x1x1_0_1 (Host.exp g)))

/-- The reference's step: from the state, the token's keys and values, and its two gates. -/
def step (s : FVec Ideal S32x16x128x128 .f32) (k v : FVec Ideal S32x16x128 .f32) (g b : FVec Ideal S32x16 .f32) :
    FVec Ideal S32x16x128x128 .f32 :=
  addf (decayed s g) (mulf
    (broadcastInDim S32x16x128x128 ![0, 1, 2, 3] bcast_S32x16x128x1_S32x16x128x128_0_1_2_3
      (broadcastInDim S32x16x128x1 ![0, 1, 2] bcast_S32x16x128_S32x16x128x1_0_1_2
        (mulf k (broadcastInDim S32x16x128 ![0, 1, 2] bcast_S32x16x1_S32x16x128_0_1_2
          (broadcastInDim S32x16x1 ![0, 1] bcast_S32x16_S32x16x1_0_1 b)))))
    (broadcastInDim S32x16x128x128 ![0, 1, 2, 3] bcast_S32x16x1x128_S32x16x128x128_0_1_2_3
      (broadcastInDim S32x16x1x128 ![0, 1, 3] bcast_S32x16x128_S32x16x1x128_0_1_3
        (subf v (Host.dotGeneral dot_S32x16x128_S32x16x128x128_S32x16x128_2_2_n_3_01_01 none k (decayed s g))))))

theorem step_apply (s : FVec Ideal S32x16x128x128 .f32) (k v : FVec Ideal S32x16x128 .f32) (g β : FVec Ideal S32x16 .f32)
    (n : Fin 32) (h : Fin 16) (a b : Fin 128) : step s k v g β (ix4 n h a b)
      = advance (fun a b => s (ix4 n h a b)) (fun _ => Ideal.exp (g (ix2 n h))) (fun a => k (ix3 n h a))
          (fun a => k (ix3 n h a) * β (ix2 n h)) (fun b => v (ix3 n h b)) a b := by
  pointwise [step, decayed, advance]
  refine congrArg (fun z => _ + _ * (_ - z)) (Finset.sum_congr rfl fun x _ => mul_comm _ _)

/-- The state's readings along the token's queries. -/
def read (s : FVec Ideal S32x16x128x128 .f32) (q : FVec Ideal S32x16x128 .f32) : FVec Ideal S32x16x128 .f32 :=
  Host.dotGeneral dot_S32x16x128_S32x16x128x128_S32x16x128_2_2_n_3_01_01 none q s

theorem read_apply (s : FVec Ideal S32x16x128x128 .f32) (q : FVec Ideal S32x16x128 .f32) (n : Fin 32) (h : Fin 16) (b : Fin 128) :
    read s q (ix3 n h b) = reading (fun a b => s (ix4 n h a b)) (fun a => q (ix3 n h a)) b := by
  pointwise [read, reading]
  exact Finset.sum_congr rfl fun x _ => mul_comm _ _

/-! ## The four tokens -/

variable (x0 : FVec Ideal S32x4x4096 .f32) (x1 : FVec Ideal S1x32x3x6144 .f32) (x2 : FVec Ideal S1x32x16x128x128 .f32)
  (x3 : FVec Ideal S1x4096x26816 .f32) (x4 : FVec Ideal S1x4x6144 .f32) (x5 x6 : FVec Ideal S1x16 .f32)
  (n : Fin 32) (h : Fin 16)

/-- A token's decay, key, weighted key, value and query. -/
abbrev decay (t : Fin 4) (_ : Fin 128) : EReal := Ideal.exp (val_main_v91 (F := Ideal) x0 x3 x5 x6 (ix3 n t h))
abbrev key (t : Fin 4) (a : Fin 128) : EReal := val_main_v76 (F := Ideal) x0 x1 x3 x4 (ix4 n t h a)
abbrev weighted (t : Fin 4) (a : Fin 128) : EReal := val_main_v76 (F := Ideal) x0 x1 x3 x4 (ix4 n t h a) * val_main_v82 (F := Ideal) x0 x3 (ix3 n t h)
abbrev value (t : Fin 4) (b : Fin 128) : EReal := val_main_v58 (F := Ideal) x0 x1 x3 x4 (ix4 n t h b)
abbrev query (t : Fin 4) (a : Fin 128) : EReal := val_main_v68 (F := Ideal) x0 x1 x3 x4 (ix4 n t h a)
/-- The state given. -/
abbrev given : Plane := fun a b => x2 (ix5 0 n h a b)

/-- Sequence `n`'s head `h`: its states. -/
abbrev refStates : (t : ℕ) → t ≤ 4 → Plane :=
  states (given x2 n h) (decay x0 x3 x5 x6 n h) (key x0 x1 x3 x4 n h) (weighted x0 x1 x3 x4 n h) (value x0 x1 x3 x4 n h)

/-- Token `t`'s step. -/
def stepAt (s : FVec Ideal S32x16x128x128 .f32) (t : ℕ) (ht : S4x32x16x128.Slices ![t, 0, 0, 0] S1x32x16x128)
    (ht' : S4x32x16.Slices ![t, 0, 0] S1x32x16) : FVec Ideal S32x16x128x128 .f32 :=
  step s (rowsAt t (val_main_v76 (F := Ideal) x0 x1 x3 x4) ht) (rowsAt t (val_main_v58 (F := Ideal) x0 x1 x3 x4) ht)
    (headsAt t (val_main_v91 (F := Ideal) x0 x3 x5 x6) ht') (headsAt t (val_main_v82 (F := Ideal) x0 x3) ht')

/-- If the state before token `t` is the delta rule's, so is the state after it. -/
theorem stepAt_apply (s : FVec Ideal S32x16x128x128 .f32) (t : Fin 4) (ht ht')
    (hs : ∀ a b, s (ix4 n h a b) = refStates x0 x1 x2 x3 x4 x5 x6 n h t.val t.isLt.le a b) (a b : Fin 128) :
    stepAt x0 x1 x3 x4 x5 x6 s t.val ht ht' (ix4 n h a b) = refStates x0 x1 x2 x3 x4 x5 x6 n h (t.val + 1) t.isLt a b :=
  (step_apply _ _ _ _ _ n h a b).trans (advance_congr hs (fun _ => congrArg Ideal.exp (headsAt_apply t _ _ n h))
    (fun a => rowsAt_apply t _ _ n h a)
    (fun a => congrArg₂ (· * ·) (rowsAt_apply t _ _ n h a) (headsAt_apply t _ _ n h)) (fun b => rowsAt_apply t _ _ n h b) a b)

theorem given_apply (a b : Fin 128) : val_main_v216 (F := Ideal) x2 (ix4 n h a b) = given x2 n h a b := by
  pointwise [val_main_v216]

theorem state1 (a b : Fin 128) : val_main_v257 (F := Ideal) x0 x1 x2 x3 x4 x5 x6 (ix4 n h a b) = refStates x0 x1 x2 x3 x4 x5 x6 n h 1 (by decide) a b :=
  stepAt_apply x0 x1 x2 x3 x4 x5 x6 n h (val_main_v216 (F := Ideal) x2) 0 slices_S4x32x16x128_S1x32x16x128_0_0_0_0 slices_S4x32x16_S1x32x16_0_0_0
    (given_apply x2 n h) a b
theorem state2 (a b : Fin 128) : val_main_v283 (F := Ideal) x0 x1 x2 x3 x4 x5 x6 (ix4 n h a b) = refStates x0 x1 x2 x3 x4 x5 x6 n h 2 (by decide) a b :=
  stepAt_apply x0 x1 x2 x3 x4 x5 x6 n h (val_main_v257 (F := Ideal) x0 x1 x2 x3 x4 x5 x6) 1 slices_S4x32x16x128_S1x32x16x128_1_0_0_0 slices_S4x32x16_S1x32x16_1_0_0
    (state1 x0 x1 x2 x3 x4 x5 x6 n h) a b
theorem state3 (a b : Fin 128) : val_main_v309 (F := Ideal) x0 x1 x2 x3 x4 x5 x6 (ix4 n h a b) = refStates x0 x1 x2 x3 x4 x5 x6 n h 3 (by decide) a b :=
  stepAt_apply x0 x1 x2 x3 x4 x5 x6 n h (val_main_v283 (F := Ideal) x0 x1 x2 x3 x4 x5 x6) 2 slices_S4x32x16x128_S1x32x16x128_2_0_0_0 slices_S4x32x16_S1x32x16_2_0_0
    (state2 x0 x1 x2 x3 x4 x5 x6 n h) a b
theorem state4 (a b : Fin 128) : val_main_v335 (F := Ideal) x0 x1 x2 x3 x4 x5 x6 (ix4 n h a b) = refStates x0 x1 x2 x3 x4 x5 x6 n h 4 (by decide) a b :=
  stepAt_apply x0 x1 x2 x3 x4 x5 x6 n h (val_main_v309 (F := Ideal) x0 x1 x2 x3 x4 x5 x6) 3 slices_S4x32x16x128_S1x32x16x128_3_0_0_0 slices_S4x32x16_S1x32x16_3_0_0
    (state3 x0 x1 x2 x3 x4 x5 x6 n h) a b

/-- The reading after token `t`, of the state it leaves. -/
theorem reading_at (s : FVec Ideal S32x16x128x128 .f32) (t : Fin 4) (ht)
    (hs : ∀ a b, s (ix4 n h a b) = refStates x0 x1 x2 x3 x4 x5 x6 n h (t.val + 1) t.isLt a b) (b : Fin 128) :
    read s (rowsAt t.val (val_main_v68 (F := Ideal) x0 x1 x3 x4) ht) (ix3 n h b)
      = reading (refStates x0 x1 x2 x3 x4 x5 x6 n h (t.val + 1) t.isLt) (query x0 x1 x3 x4 n h t) b :=
  (read_apply _ _ n h b).trans (reading_congr hs (fun a => rowsAt_apply t _ _ n h a) b)

theorem outputs : ∀ (t : Fin 4) (b : Fin 128), val_main_v343 (F := Ideal) x0 x1 x2 x3 x4 x5 x6 (ix4 n t h b)
    = reading (refStates x0 x1 x2 x3 x4 x5 x6 n h (t.val + 1) t.isLt) (query x0 x1 x3 x4 n h t) b
  | 0, b => by
    have e : val_main_v343 (F := Ideal) x0 x1 x2 x3 x4 x5 x6 (ix4 n 0 h b) = val_main_v258 (F := Ideal) x0 x1 x2 x3 x4 x5 x6 (ix3 n h b) := by
      pointwise [val_main_v343, val_main_v342, val_main_v341, val_main_v337]
    exact e.trans (reading_at x0 x1 x2 x3 x4 x5 x6 n h _ 0 slices_S4x32x16x128_S1x32x16x128_0_0_0_0 (state1 x0 x1 x2 x3 x4 x5 x6 n h) b)
  | 1, b => by
    have e : val_main_v343 (F := Ideal) x0 x1 x2 x3 x4 x5 x6 (ix4 n 1 h b) = val_main_v284 (F := Ideal) x0 x1 x2 x3 x4 x5 x6 (ix3 n h b) := by
      pointwise [val_main_v343, val_main_v342, val_main_v341, val_main_v338]
    exact e.trans (reading_at x0 x1 x2 x3 x4 x5 x6 n h _ 1 slices_S4x32x16x128_S1x32x16x128_1_0_0_0 (state2 x0 x1 x2 x3 x4 x5 x6 n h) b)
  | 2, b => by
    have e : val_main_v343 (F := Ideal) x0 x1 x2 x3 x4 x5 x6 (ix4 n 2 h b) = val_main_v310 (F := Ideal) x0 x1 x2 x3 x4 x5 x6 (ix3 n h b) := by
      pointwise [val_main_v343, val_main_v342, val_main_v341, val_main_v339]
    exact e.trans (reading_at x0 x1 x2 x3 x4 x5 x6 n h _ 2 slices_S4x32x16x128_S1x32x16x128_2_0_0_0 (state3 x0 x1 x2 x3 x4 x5 x6 n h) b)
  | 3, b => by
    have e : val_main_v343 (F := Ideal) x0 x1 x2 x3 x4 x5 x6 (ix4 n 3 h b) = val_main_v336 (F := Ideal) x0 x1 x2 x3 x4 x5 x6 (ix3 n h b) := by
      pointwise [val_main_v343, val_main_v342, val_main_v341, val_main_v340]
    exact e.trans (reading_at x0 x1 x2 x3 x4 x5 x6 n h _ 3 slices_S4x32x16x128_S1x32x16x128_3_0_0_0 (state4 x0 x1 x2 x3 x4 x5 x6 n h) b)

end Cert.SampleRef

end
-- ==== Proof.SampleRecurrence.lean ====
/- The sample's recurrence, with the operands the host prepares for its call: it leaves the reference's state and outputs. -/
module

public import proofs.«01_k».proof.Proof.SampleResults
public import proofs.«01_k».proof.Proof.SampleState
public import proofs.«01_k».proof.Proof.SampleRef

@[expose] public section

set_option maxRecDepth 16384

noncomputable section

namespace Cert.SampleRecurrence

open Cert.Kernel3Ideal Cert.Kernel3Ideal.Gen Idealize.ShloMosaic Idealize.ShloMosaic.TcCoe
open Cert.SampleColumns (tokens weight)
open Cert.SampleResults Cert.SampleMath Cert.SampleState Cert.SampleRef
open Cert.Reference3Ideal.Read

/-! The host's layouts, read at an entry. -/

theorem given_entry (X : FVec Ideal S1x32x16x128x128 .f32) (n : Fin 32) (h : Fin 16) (a b : Fin 128) :
    shapeCast S32x16x128x128 X shapeCasts_S1x32x16x128x128_S32x16x128x128 (ix4 n h a b) = X (ix5 0 n h a b) := by pointwise []
theorem columns_entry (X : FVec Ideal S32x4x16x128 .f32) (n : Fin 32) (h : Fin 16) (a : Fin 128) (t : Fin 4) :
    transpose S32x16x128x4 [0, 2, 3, 1] X transposes_S32x4x16x128_S32x16x128x4_0_2_3_1 (ix4 n h a t) = X (ix4 n t h a) := by pointwise []
theorem rows_entry (X : FVec Ideal S32x4x16x128 .f32) (n : Fin 32) (h : Fin 16) (t : Fin 4) (b : Fin 128) :
    transpose S32x16x4x128 [0, 2, 1, 3] X transposes_S32x4x16x128_S32x16x4x128_0_2_1_3 (ix4 n h t b) = X (ix4 n t h b) := by pointwise []
theorem tokens_entry (X : FVec Ideal S32x16x4x128 .f32) (n : Fin 32) (t : Fin 4) (h : Fin 16) (b : Fin 128) :
    transpose S32x4x16x128 [0, 2, 1, 3] X transposes_S32x16x4x128_S32x4x16x128_0_2_1_3 (ix4 n t h b) = X (ix4 n h t b) := by pointwise []
theorem weighted_entry (X : FVec Ideal S32x4x16x128 .f32) (Y : FVec Ideal S32x4x16 .f32) (n : Fin 32) (h : Fin 16) (a : Fin 128) (t : Fin 4) :
    SampleTail.weightedColumns X Y (ix4 n h a t) = X (ix4 n t h a) * Y (ix3 n t h) := by pointwise [SampleTail.weightedColumns]
theorem decay_entry (X : FVec Ideal S32x4x16 .f32) (n : Fin 32) (h : Fin 16) (t : Fin 4) (b : Fin 128) :
    SampleTail.decayRows X (ix4 n h t b) = Ideal.exp (X (ix3 n t h)) := by pointwise [SampleTail.decayRows]

variable (m : (ℓ : Loc nD τ sig) → Buf (Elt Ideal) ℓ) (ρ : Dev nD → PrngReg) (c : Dev nD)

/-! The operands at the call. -/

theorem given_at (n : Fin 32) (h : Fin 16) (a b : Fin 128) :
    (W27 m ρ c (Proc.devRef .tc main_v254) : FVec Ideal S32x16x128x128 .f32) (ix4 n h a b) = given (state m c) n h a b :=
  (congrFun (SampleTail.given _ _ (state_at m ρ c)) _).trans (given_entry _ n h a b)
theorem query_at (n : Fin 32) (h : Fin 16) (a : Fin 128) (t : Fin 4) :
    (W27 m ρ c (Proc.devRef .tc main_v259) : FVec Ideal S32x16x128x4 .f32) (ix4 n h a t) = query (tokens m c) (before m c) (weight m c) (filter m c) n h t a :=
  (congrFun (SampleTail.q_columns _ _ _ _ _ (q_at m ρ c)) _).trans (columns_entry _ n h a t)
theorem key_at (n : Fin 32) (h : Fin 16) (a : Fin 128) (t : Fin 4) :
    (W27 m ρ c (Proc.devRef .tc main_v260) : FVec Ideal S32x16x128x4 .f32) (ix4 n h a t) = key (tokens m c) (before m c) (weight m c) (filter m c) n h t a :=
  (congrFun (SampleTail.k_columns _ _ _ _ _ (k_at m ρ c)) _).trans (columns_entry _ n h a t)
theorem weighted_at (n : Fin 32) (h : Fin 16) (a : Fin 128) (t : Fin 4) :
    (W27 m ρ c (Proc.devRef .tc main_v264) : FVec Ideal S32x16x128x4 .f32) (ix4 n h a t) = weighted (tokens m c) (before m c) (weight m c) (filter m c) n h t a :=
  (congrFun (SampleTail.kb_columns _ _ _ _ _ (k_at m ρ c) (beta_at m ρ c)) _).trans (weighted_entry _ _ n h a t)
theorem value_at (n : Fin 32) (h : Fin 16) (t : Fin 4) (b : Fin 128) :
    (W27 m ρ c (Proc.devRef .tc main_v265) : FVec Ideal S32x16x4x128 .f32) (ix4 n h t b) = value (tokens m c) (before m c) (weight m c) (filter m c) n h t b :=
  (congrFun (SampleTail.v_rows _ _ _ _ _ (v_at m ρ c)) _).trans (rows_entry _ n h t b)
theorem decay_at (n : Fin 32) (h : Fin 16) (t : Fin 4) (b : Fin 128) :
    (W27 m ρ c (Proc.devRef .tc main_v258) : FVec Ideal S32x16x4x128 .f32) (ix4 n h t b)
      = decay (tokens m c) (weight m c) (aLog m c) (dtBias m c) n h t b :=
  (congrFun (SampleTail.decays _ _ _ _ _ (rate_at m ρ c) (softplus_at m ρ c)) _).trans (decay_entry _ n h t b)

theorem states_at (n : Fin 32) (h : Fin 16) :
    arrayStates (W27 m ρ c (Proc.devRef .tc main_v254)) (W27 m ρ c (Proc.devRef .tc main_v260)) (W27 m ρ c (Proc.devRef .tc main_v264))
      (W27 m ρ c (Proc.devRef .tc main_v265)) (W27 m ρ c (Proc.devRef .tc main_v258)) n h = refStates (tokens m c) (before m c) (state m c) (weight m c) (filter m c) (aLog m c) (dtBias m c) n h :=
  states_congr (fun a b => given_at m ρ c n h a b) (fun t b => decay_at m ρ c n h t b) (fun t a => key_at m ρ c n h a t)
    (fun t a => weighted_at m ρ c n h a t) (fun t b => value_at m ρ c n h t b)

/-! The results. -/

theorem ssm_new : W29 m ρ c (Proc.devRef .tc main_v266_1) = val_main_v335 (tokens m c) (before m c) (state m c) (weight m c) (filter m c) (aLog m c) (dtBias m c) := by
  refine (W29_of m ρ c main_v266_1 (by decide)).trans (((W28_arr m ρ c 7).trans (final_state (V27 m ρ) c)).trans ?_)
  funext y
  obtain ⟨n, h, a, b, rfl⟩ : ∃ n h a b, y = ix4 n h a b := ⟨y 0, y 1, y 2, y 3, eq_ix4 y⟩
  refine Eq.trans ?_ (state4 (tokens m c) (before m c) (state m c) (weight m c) (filter m c) (aLog m c) (dtBias m c) n h a b).symm
  exact congrFun (congrFun (congrFun (congrFun (states_at m ρ c n h) 4) le_rfl) a) b

theorem o : W29 m ρ c (Proc.devRef .tc main_v267) = val_main_v343 (tokens m c) (before m c) (state m c) (weight m c) (filter m c) (aLog m c) (dtBias m c) := by
  refine (SampleTail.outputs _ _ ((W28_arr m ρ c 6).trans (final_rows (V27 m ρ) c))).trans ?_
  funext y
  obtain ⟨n, t, h, b, rfl⟩ : ∃ n t h b, y = ix4 n t h b := ⟨y 0, y 1, y 2, y 3, eq_ix4 y⟩
  refine (tokens_entry _ n t h b).trans (Eq.trans ?_ (outputs (tokens m c) (before m c) (state m c) (weight m c) (filter m c) (aLog m c) (dtBias m c) n h t b).symm)
  exact reading_congr (fun a b => congrFun (congrFun (congrFun (congrFun (states_at m ρ c n h) _) _) a) b)
    (fun a => query_at m ρ c n h a t) b

end Cert.SampleRecurrence

end
-- ==== Proof.SampleRun.lean ====
/- The sample program's run: every buffer the run leaves holds what the last boundary of the program says, `W29`. The launch is the frame's. -/
module

public import proofs.«01_k».proof.Proof.Gen.Kernel3Ideal.Frame

@[expose] public section

set_option maxRecDepth 16384

noncomputable section

namespace Cert.SampleRun

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run (defs (F := F)) (onTc (τ := τ) (main (F := F))) ⟨m, fun _ => 0, ρ⟩ (fun r => ∀ c : Dev nD,
      ∀ b ∈ Pipeline.ucRefs τ sig, r.2.mem (((c : Thread nD τ)).1, b) = W29 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h hz => h)

end Cert.SampleRun

end
-- ==== Proof.SampleClaim.lean ====
/- The value claim of the sample program: every result of its run is the stage of the reference it stands for, of the same
   arguments; the reference's run leaves those stages of its own arguments, and the arguments agree. -/
module

public import proofs.«01_k».proof.Proof.SampleRecurrence
public import proofs.«01_k».proof.Proof.SampleRun
public import proofs.«01_k».proof.Proof.Gen.Reference3Ideal.Run
public import proofs.«01_k».proof.Proof.Gen.Reference3Ideal.Read
public import proofs.«01_k».proof.Defs
public import Idealize.ShloMosaic.Lib.Quiescent

@[expose] public section

set_option maxRecDepth 16384

noncomputable section

namespace Cert.SampleClaim

open Idealize.ShloMosaic Idealize.ShloMosaic.TcCoe Idealize.SL.Sem
open Idealize.ShloMosaic.StableHlo
open Cert.Reference3Ideal.Read
open Cert.SampleColumns (tokens weight)
open Cert.SampleResults (before state filter aLog dtBias)

section ReferenceRun
open Cert.Reference3Ideal

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v151) = val_main_v151 (m ((c : Thread nD τ).loc main_arg0)) (m ((c : Thread nD τ).loc main_arg3))
      ∧ r.2.mem ((c.tc : Thread nD τ).loc main_v152) = val_main_v152 (m ((c : Thread nD τ).loc main_arg0)) (m ((c : Thread nD τ).loc main_arg3))
      ∧ r.2.mem ((c.tc : Thread nD τ).loc main_v213) = val_main_v213 (m ((c : Thread nD τ).loc main_arg0)) (m ((c : Thread nD τ).loc main_arg3))
      ∧ r.2.mem ((c.tc : Thread nD τ).loc main_v52) = val_main_v52 (m ((c : Thread nD τ).loc main_arg0)) (m ((c : Thread nD τ).loc main_arg1)) (m ((c : Thread nD τ).loc main_arg3))
      ∧ r.2.mem ((c.tc : Thread nD τ).loc main_v335) = val_main_v335 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v343) = val_main_v343 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v10) = val_main_v10 (m ((c : Thread nD τ).loc main_arg0)) (m ((c : Thread nD τ).loc main_arg3))
      ∧ r.2.mem ((c.tc : Thread nD τ).loc main_v121) = val_main_v121 (m ((c : Thread nD τ).loc main_arg0)) (m ((c : Thread nD τ).loc main_arg3))
      ∧ r.2.mem ((c.tc : Thread nD τ).loc main_v182) = val_main_v182 (m ((c : Thread nD τ).loc main_arg0)) (m ((c : Thread nD τ).loc main_arg3))
      ∧ r.2.mem ((c.tc : Thread nD τ).loc main_v215) = val_main_v215 (m ((c : Thread nD τ).loc main_arg0)) (m ((c : Thread nD τ).loc main_arg3))
      ∧ r.2.mem ((c.tc : Thread nD τ).loc main_v19) = val_main_v19 (m ((c : Thread nD τ).loc main_arg0)) (m ((c : Thread nD τ).loc main_arg3))
      ∧ r.2.mem ((c.tc : Thread nD τ).loc main_v20) = val_main_v20 (m ((c : Thread nD τ).loc main_arg0)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => by
    obtain ⟨h0, h1, h2, h3, h4, h5, h6, h7, h8, h9, h10, h11, h⟩ := h c
    exact ⟨h0.trans (val_main_v151_eq _),
      h1.trans (val_main_v152_eq _),
      h2.trans (val_main_v213_eq _),
      h3.trans (val_main_v52_eq _),
      h4.trans (val_main_v335_eq _),
      h5.trans (val_main_v343_eq _),
      h6.trans (val_main_v10_eq _),
      h7.trans (val_main_v121_eq _),
      h8.trans (val_main_v182_eq _),
      h9.trans (val_main_v215_eq _),
      h10.trans (val_main_v19_eq _),
      h11.trans (val_main_v20_eq _), h⟩) (Cert.Reference3Ideal.Value.run m ρ)

end ReferenceRun

theorem reference_frame [hR : Cert.Reference3Ideal.Facts] : Cert.quiescent_Reference3Ideal := fun m g _ =>
  (θ_run _ _ _).mono (fun r h => ⟨fun c => (h c).2.2.2.2.2.2.2.2.2.2.2.2, Idealize.ShloMosaic.sem_eq_zero_of_no_sems (by decide) r.2⟩)
    (Cert.Reference3Ideal.Value.run m g)

section KernelRun
open Cert.Kernel3Ideal Cert.Kernel3Ideal.Gen

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v189) = val_main_v151 (tokens m c) (weight m c)
      ∧ r.2.mem ((c.tc : Thread nD τ).loc main_v190) = val_main_v152 (tokens m c) (weight m c)
      ∧ r.2.mem ((c.tc : Thread nD τ).loc main_v251) = val_main_v213 (tokens m c) (weight m c)
      ∧ r.2.mem ((c.tc : Thread nD τ).loc main_v90) = val_main_v52 (tokens m c) (before m c) (weight m c)
      ∧ r.2.mem ((c.tc : Thread nD τ).loc main_v266_1) = val_main_v335 (tokens m c) (before m c) (state m c) (weight m c) (filter m c) (aLog m c) (dtBias m c)
      ∧ r.2.mem ((c.tc : Thread nD τ).loc main_v267) = val_main_v343 (tokens m c) (before m c) (state m c) (weight m c) (filter m c) (aLog m c) (dtBias m c)
      ∧ r.2.mem ((c.tc : Thread nD τ).loc main_v39) = val_main_v10 (tokens m c) (weight m c)
      ∧ r.2.mem ((c.tc : Thread nD τ).loc main_v159) = val_main_v121 (tokens m c) (weight m c)
      ∧ r.2.mem ((c.tc : Thread nD τ).loc main_v220) = val_main_v182 (tokens m c) (weight m c)
      ∧ r.2.mem ((c.tc : Thread nD τ).loc main_v253) = val_main_v215 (tokens m c) (weight m c)
      ∧ r.2.mem ((c.tc : Thread nD τ).loc main_v51) = val_main_v19 (tokens m c) (weight m c)
      ∧ r.2.mem ((c.tc : Thread nD τ).loc main_v53) = val_main_v20 (tokens m c) (weight m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => ⟨(h c _ (mem_uc main_v189 (by decide))).trans ((SampleResults.last m ρ c _ (by decide) (by decide) (by decide)).trans (SampleResults.ka m ρ c)),
      (h c _ (mem_uc main_v190 (by decide))).trans ((SampleResults.last m ρ c _ (by decide) (by decide) (by decide)).trans (SampleResults.va m ρ c)),
      (h c _ (mem_uc main_v251 (by decide))).trans ((SampleResults.last m ρ c _ (by decide) (by decide) (by decide)).trans (SampleResults.ki m ρ c)),
      (h c _ (mem_uc main_v90 (by decide))).trans ((SampleResults.last m ρ c _ (by decide) (by decide) (by decide)).trans (SampleResults.conv_new m ρ c)),
      (h c _ (mem_uc main_v266_1 (by decide))).trans (SampleRecurrence.ssm_new m ρ c),
      (h c _ (mem_uc main_v267 (by decide))).trans (SampleRecurrence.o m ρ c),
      (h c _ (mem_uc main_v39 (by decide))).trans ((SampleResults.last m ρ c _ (by decide) (by decide) (by decide)).trans (SampleResults.z m ρ c)),
      (h c _ (mem_uc main_v159 (by decide))).trans ((SampleResults.last m ρ c _ (by decide) (by decide) (by decide)).trans (SampleResults.qa m ρ c)),
      (h c _ (mem_uc main_v220 (by decide))).trans ((SampleResults.last m ρ c _ (by decide) (by decide) (by decide)).trans (SampleResults.qi m ρ c)),
      (h c _ (mem_uc main_v253 (by decide))).trans ((SampleResults.last m ρ c _ (by decide) (by decide) (by decide)).trans (SampleResults.wi m ρ c)),
      (h c _ (mem_uc main_v51 (by decide))).trans ((SampleResults.last m ρ c _ (by decide) (by decide) (by decide)).trans (SampleResults.gate_gdn m ρ c)),
      (h c _ (mem_uc main_v53 (by decide))).trans ((SampleResults.last m ρ c _ (by decide) (by decide) (by decide)).trans (SampleResults.gate_att m ρ c)),
      (h c _ (mem_uc main_arg0 (by decide))).trans (W29_main_arg0 m ρ c),
      (h c _ (mem_uc main_arg1 (by decide))).trans (W29_main_arg1 m ρ c),
      (h c _ (mem_uc main_arg2 (by decide))).trans (W29_main_arg2 m ρ c),
      (h c _ (mem_uc main_arg3 (by decide))).trans (W29_main_arg3 m ρ c),
      (h c _ (mem_uc main_arg4 (by decide))).trans (W29_main_arg4 m ρ c),
      (h c _ (mem_uc main_arg5 (by decide))).trans (W29_main_arg5 m ρ c),
      (h c _ (mem_uc main_arg6 (by decide))).trans (W29_main_arg6 m ρ c)⟩) (SampleRun.run m ρ)

end KernelRun

theorem algebraic [hK : Cert.Kernel3Ideal.Facts] [hR : Cert.Reference3Ideal.Facts] : Cert.algebraic_Kernel3Ideal_Reference3Ideal := by
  intro m g m' g' _ hagree
  refine ⟨fun c => val_main_v151 (tokens m c) (weight m c), fun c => val_main_v152 (tokens m c) (weight m c), fun c => val_main_v213 (tokens m c) (weight m c), fun c => val_main_v52 (tokens m c) (before m c) (weight m c), fun c => val_main_v335 (tokens m c) (before m c) (state m c) (weight m c) (filter m c) (aLog m c) (dtBias m c), fun c => val_main_v343 (tokens m c) (before m c) (state m c) (weight m c) (filter m c) (aLog m c) (dtBias m c), fun c => val_main_v10 (tokens m c) (weight m c), fun c => val_main_v121 (tokens m c) (weight m c), fun c => val_main_v182 (tokens m c) (weight m c), fun c => val_main_v215 (tokens m c) (weight m c), fun c => val_main_v19 (tokens m c) (weight m c), fun c => val_main_v20 (tokens m c) (weight m c),
    kernel_run m g, (θ_run _ _ _).mono (fun r h c => ?_) (reference_run m' g')⟩
  obtain ⟨a0, a1, a2, a3, a4, a5, a6⟩ := hagree c
  obtain ⟨h0, h1, h2, h3, h4, h5, h6, h7, h8, h9, h10, h11, h⟩ := h c
  exact ⟨h0.trans (by rw [a0, a3]),
    h1.trans (by rw [a0, a3]),
    h2.trans (by rw [a0, a3]),
    h3.trans (by rw [a0, a1, a3]),
    h4.trans (by rw [a0, a1, a2, a3, a4, a5, a6]),
    h5.trans (by rw [a0, a1, a2, a3, a4, a5, a6]),
    h6.trans (by rw [a0, a3]),
    h7.trans (by rw [a0, a3]),
    h8.trans (by rw [a0, a3]),
    h9.trans (by rw [a0, a3]),
    h10.trans (by rw [a0, a3]),
    h11.trans (by rw [a0, a3]), h⟩

end Cert.SampleClaim

end
-- ==== Proof.OutTiles.lean ====
/- The four products of the mixer's output: what each pallas call leaves in its result array. A grid point multiplies 1024 rows
   by one block of columns of a weight matrix, over the whole contraction, and stores the product once; so the result array
   holds, at (t, c), the sum over k of x[t, k] * w[k, c]. -/
module

public import proofs.«01_k».proof.Proof.Gen.Kernel4Ideal.Frame
public import Idealize.ShloMosaic.Lib.Pipeline.ValueKit
public import Idealize.ShloMosaic.Lib.Pointwise

@[expose] public section

set_option maxRecDepth 16384

noncomputable section

namespace Cert.OutTiles

open Cert.Kernel4Ideal Cert.Kernel4Ideal.Gen Idealize.ShloMosaic Idealize.ShloMosaic.TcCoe
open Idealize.ShloMosaic.Pipeline (Dat)

variable (V : (c : Dev nD) → (b : Ref sig .tc) → Buf (Elt Ideal) ((c : Thread nD τ).loc b)) (c : Dev nD)

/-- A branch's rows times its weight. -/
def branchProd (x : FVec Ideal S8192x2048 .bf16) (w : FVec Ideal S2048x4096 .bf16) : FVec Ideal S8192x4096 .f32 :=
  fun y => ∑ k : Fin 2048, x (ix2 (y 0) k) * w (ix2 k (y 1))
/-- The merged rows times the output weight. -/
def outProd (x : FVec Ideal S8192x4096 .bf16) (w : FVec Ideal S4096x4096 .bf16) : FVec Ideal S8192x4096 .f32 :=
  fun y => ∑ k : Fin 4096, x (ix2 (y 0) k) * w (ix2 k (y 1))
/-- The normalised rows times the weight of the experts' queries. -/
def queryProd (x : FVec Ideal S8192x4096 .bf16) (w : FVec Ideal S4096x2048 .bf16) : FVec Ideal S8192x2048 .f32 :=
  fun y => ∑ k : Fin 4096, x (ix2 (y 0) k) * w (ix2 k (y 1))

theorem idx0 : ∀ t : Fin cfg0.N, win0_0.index t = ![t.val / 4, 0] ∧ win0_1.index t = ![0, t.val % 4] ∧
    win0_2.index t = ![t.val / 4, t.val % 4] := (by decide +kernel : ∀ t : Fin grid0.N, _)

/-- Call 0: the recurrence's branch. -/
theorem final0 : (dat0 V c).arrAt 2 cfg0.N = branchProd (V c main_v27) (V c main_v25) := by
  refine (dat0 V c).arrAt_eq_of_covers 2 _ (by decide +kernel) fun t hf y => ?_
  blk_simp
  rw [after0_2]; frame_out
  pointwise [k0_pay1, branchProd]
  blk_point [iblk0, idx0 t]

theorem idx1 : ∀ t : Fin cfg1.N, win1_0.index t = ![t.val / 4, 0] ∧ win1_1.index t = ![0, t.val % 4] ∧
    win1_2.index t = ![t.val / 4, t.val % 4] := (by decide +kernel : ∀ t : Fin grid1.N, _)

/-- Call 1: the attention's branch. -/
theorem final1 : (dat1 V c).arrAt 2 cfg1.N = branchProd (V c main_v41) (V c main_v39) := by
  refine (dat1 V c).arrAt_eq_of_covers 2 _ (by decide +kernel) fun t hf y => ?_
  blk_simp
  rw [after1_2]; frame_out
  pointwise [k1_pay1, branchProd]
  blk_point [iblk1, idx1 t]

theorem idx2 : ∀ t : Fin cfg2.N, win2_0.index t = ![t.val / 4, 0] ∧ win2_1.index t = ![0, t.val % 4] ∧
    win2_2.index t = ![t.val / 4, t.val % 4] := (by decide +kernel : ∀ t : Fin grid2.N, _)

/-- Call 2: the output projection. -/
theorem final2 : (dat2 V c).arrAt 2 cfg2.N = outProd (V c main_v50) (V c main_v48) := by
  refine (dat2 V c).arrAt_eq_of_covers 2 _ (by decide +kernel) fun t hf y => ?_
  blk_simp
  rw [after2_2]; frame_out
  pointwise [k2_pay1, outProd]
  blk_point [iblk2, idx2 t]

theorem idx3 : ∀ t : Fin cfg3.N, win3_0.index t = ![t.val / 2, 0] ∧ win3_1.index t = ![0, t.val % 2] ∧
    win3_2.index t = ![t.val / 2, t.val % 2] := (by decide +kernel : ∀ t : Fin grid3.N, _)

/-- Call 3: the experts' queries. -/
theorem final3 : (dat3 V c).arrAt 2 cfg3.N = queryProd (V c main_v84) (V c main_v87) := by
  refine (dat3 V c).arrAt_eq_of_covers 2 _ (by decide +kernel) fun t hf y => ?_
  blk_simp
  rw [after3_2]; frame_out
  pointwise [k3_pay1, queryProd]
  blk_point [iblk3, idx3 t]

end Cert.OutTiles

end
-- ==== Proof.OutStages.lean ====
/- The mixer output program's host operations are the reference's own, one for one: each stage, over any buffer contents `U`,
   leaves the reference's stage of the reference's operands when `U` holds those operands. Padding a matrix by nothing leaves
   it as it is, rounding is the identity over the ideal model, and a product of rows without the leading axis of one prompt is
   the reference's product with that axis. -/
module

public import proofs.«01_k».proof.Proof.OutTiles
public import proofs.«01_k».proof.Proof.Gen.Reference4Ideal.Read
public import Idealize.ShloMosaic.Lib.StableHlo.RunRead

@[expose] public section

set_option maxRecDepth 16384

noncomputable section

namespace Cert.OutStages

open Cert.Kernel4Ideal Cert.Kernel4Ideal.Gen Idealize.ShloMosaic Idealize.ShloMosaic.TcCoe Cert.OutTiles
open Cert.Reference4Ideal.Read

/-! The calls' operands: rows without their leading axis and weights without theirs, rounded. -/

def rows (x : FVec Ideal S1x8192x2048 .f32) : FVec Ideal S8192x2048 .bf16 :=
  truncf .bf16 (shapeCast S8192x2048 x shapeCasts_S1x8192x2048_S8192x2048) bitsLt_bf16_f32
def wideRows (x : FVec Ideal S1x8192x4096 .f32) : FVec Ideal S8192x4096 .bf16 :=
  truncf .bf16 (shapeCast S8192x4096 x shapeCasts_S1x8192x4096_S8192x4096) bitsLt_bf16_f32
def branchWeight (w : FVec Ideal S1x2048x4096 .f32) : FVec Ideal S2048x4096 .bf16 :=
  truncf .bf16 (shapeCast S2048x4096 w shapeCasts_S1x2048x4096_S2048x4096) bitsLt_bf16_f32
def outWeight (w : FVec Ideal S1x4096x4096 .f32) : FVec Ideal S4096x4096 .bf16 :=
  truncf .bf16 (shapeCast S4096x4096 w shapeCasts_S1x4096x4096_S4096x4096) bitsLt_bf16_f32
def queryWeight (w : FVec Ideal S1x4096x2048 .f32) : FVec Ideal S4096x2048 .bf16 :=
  truncf .bf16 (shapeCast S4096x2048 w shapeCasts_S1x4096x2048_S4096x2048) bitsLt_bf16_f32

/-! Padding by nothing. -/

theorem pad_branch (x : FVec Ideal S2048x4096 .bf16) (v : FVec Ideal S_ .bf16) :
    pad S2048x4096 ![0, 0] ![0, 0] ![0, 0] x v pads_S2048x4096_S2048x4096_000_000 h_S_ = x := by
  funext y; pointwise []
theorem pad_out (x : FVec Ideal S4096x4096 .bf16) (v : FVec Ideal S_ .bf16) :
    pad S4096x4096 ![0, 0] ![0, 0] ![0, 0] x v pads_S4096x4096_S4096x4096_000_000 h_S_ = x := by
  funext y; pointwise []
theorem pad_rows (x : FVec Ideal S8192x4096 .f32) (v : FVec Ideal S_ .f32) :
    pad S8192x4096 ![0, 0] ![0, 0] ![0, 0] x v pads_S8192x4096_S8192x4096_000_000 h_S_ = x := by
  funext y; pointwise []
theorem pad_query (x : FVec Ideal S4096x2048 .bf16) (v : FVec Ideal S_ .bf16) :
    pad S4096x2048 ![0, 0] ![0, 0] ![0, 0] x v pads_S4096x2048_S4096x2048_000_000 h_S_ = x := by
  funext y; pointwise []

/-! Products with and without the leading axis. -/

theorem branch_dot (x : FVec Ideal S1x8192x2048 .f32) (w : FVec Ideal S1x2048x4096 .f32) :
    shapeCast S1x8192x4096 (branchProd (rows x) (branchWeight w)) shapeCasts_S8192x4096_S1x8192x4096 = val_main_v33 (F := Ideal) x w := by
  funext y
  have h0 : y 0 = (0 : Fin 1) := Subsingleton.elim (α := Fin 1) _ _
  pointwise [branchProd, rows, branchWeight, val_main_v33, val_main_v32]
  rw [h0]
theorem out_dot (x1 : FVec Ideal S1x8192x16x128 .f32) (x2 x3 : FVec Ideal S1x8192x2048 .f32)
    (x4 x5 : FVec Ideal S1x8192x4096 .f32) (x6 : FVec Ideal S1x128 .f32) (x7 x8 : FVec Ideal S1x2048x4096 .f32)
    (x9 : FVec Ideal S1x4096x4096 .f32) : shapeCast S1x8192x4096 (outProd (wideRows (val_main_v35 (F := Ideal) x1 x2 x3 x4 x5 x6 x7 x8))
      (outWeight x9)) shapeCasts_S8192x4096_S1x8192x4096 = val_main_v37 (F := Ideal) x1 x2 x3 x4 x5 x6 x7 x8 x9 := by
  unfold val_main_v37
  generalize val_main_v35 (F := Ideal) x1 x2 x3 x4 x5 x6 x7 x8 = x
  funext y
  have h0 : y 0 = (0 : Fin 1) := Subsingleton.elim (α := Fin 1) _ _
  pointwise [outProd, wideRows, outWeight, val_main_v36]
  rw [h0]
theorem query_dot (x0 : FVec Ideal S1x8192x4096 .f32) (x1 : FVec Ideal S1x8192x16x128 .f32)
    (x2 x3 : FVec Ideal S1x8192x2048 .f32) (x4 x5 : FVec Ideal S1x8192x4096 .f32) (x6 : FVec Ideal S1x128 .f32)
    (x7 x8 : FVec Ideal S1x2048x4096 .f32) (x9 : FVec Ideal S1x4096x4096 .f32) (x10 x11 : FVec Ideal S1x4096 .f32)
    (x12 : FVec Ideal S1x4096x2048 .f32) :
    queryProd (wideRows (val_main_v66 (F := Ideal) x0 x1 x2 x3 x4 x5 x6 x7 x8 x9 x10 x11)) (queryWeight x12)
    = val_main_v69 (F := Ideal) x0 x1 x2 x3 x4 x5 x6 x7 x8 x9 x10 x11 x12 := by
  unfold val_main_v69 val_main_v67
  generalize val_main_v66 (F := Ideal) x0 x1 x2 x3 x4 x5 x6 x7 x8 x9 x10 x11 = x
  funext y; pointwise [queryProd, wideRows, queryWeight, val_main_v68]

variable (U : Valuation τ sig (Elt Ideal)) (x0 : FVec Ideal S1x8192x4096 .f32) (x1 : FVec Ideal S1x8192x16x128 .f32)
  (x2 x3 : FVec Ideal S1x8192x2048 .f32) (x4 x5 : FVec Ideal S1x8192x4096 .f32) (x6 : FVec Ideal S1x128 .f32)
  (x7 x8 : FVec Ideal S1x2048x4096 .f32) (x9 : FVec Ideal S1x4096x4096 .f32) (x10 x11 : FVec Ideal S1x4096 .f32)
  (x12 : FVec Ideal S1x4096x2048 .f32)

/-! The recurrence's branch. -/

theorem heads (h : U (Proc.devRef .tc main_arg1) = x1) (h' : U (Proc.devRef .tc main_arg6) = x6) :
    StableHlo.after hostOps0 U (Proc.devRef .tc main_v14) = val_main_v14 (F := Ideal) x1 x6 := by
  after_reads_simp; rw [h, h']; rfl
theorem silu (h : U (Proc.devRef .tc main_arg2) = x2) :
    StableHlo.after hostOps0_1 U (Proc.devRef .tc main_v15) = val_main_v15 (F := Ideal) x2 := by
  after_reads_simp; rw [h]; rfl
theorem gated (h : U (Proc.devRef .tc main_v14) = val_main_v14 (F := Ideal) x1 x6) (h' : U (Proc.devRef .tc main_v15) = val_main_v15 (F := Ideal) x2) :
    StableHlo.after hostOps0_2 U (Proc.devRef .tc main_v16) = val_main_v16 (F := Ideal) x1 x2 x6 := by
  after_reads_simp; rw [h, h']; rfl
theorem gate_gdn (h : U (Proc.devRef .tc main_arg4) = x4) :
    StableHlo.after hostOps0_2 U (Proc.devRef .tc main_v22) = val_main_v22 (F := Ideal) x4 := by
  after_reads_simp; rw [h]; rfl
theorem weight_gdn (h : U (Proc.devRef .tc main_arg7) = x7) :
    StableHlo.after hostOps0_2 U (Proc.devRef .tc main_v24) = branchWeight x7 := by
  after_reads_simp; rw [h]; rfl
theorem padded_gdn : StableHlo.after hostOps0_3 U (Proc.devRef .tc main_v25) = U (Proc.devRef .tc main_v24) := by
  after_reads_simp; exact pad_branch _ _
theorem rows_gdn (h : U (Proc.devRef .tc main_v16) = x2) : StableHlo.after hostOps0_4 U (Proc.devRef .tc main_v27)
    = rows x2 := by
  after_reads_simp; rw [h]; rfl

/-- What call 0 leaves, gated. -/
theorem branch_gdn (h : U (Proc.devRef .tc main_v28)
      = branchProd (rows (val_main_v16 (F := Ideal) x1 x2 x6))
        (branchWeight x7)) (h' : U (Proc.devRef .tc main_v22) = val_main_v22 (F := Ideal) x4) :
    StableHlo.after hostOps1 U (Proc.devRef .tc main_v30) = val_main_v25 (F := Ideal) x1 x2 x4 x6 x7 := by
  after_reads_simp; rw [h, h']
  exact congrArg (mulf (val_main_v22 (F := Ideal) x4)) (branch_dot (val_main_v16 (F := Ideal) x1 x2 x6) x7)

/-! The attention's branch. -/

theorem gate_att (h : U (Proc.devRef .tc main_arg5) = x5) :
    StableHlo.after hostOps1 U (Proc.devRef .tc main_v36) = val_main_v31 (F := Ideal) x5 := by
  after_reads_simp; rw [h]; rfl
theorem weight_att (h : U (Proc.devRef .tc main_arg8) = x8) :
    StableHlo.after hostOps1 U (Proc.devRef .tc main_v38) = branchWeight x8 := by
  after_reads_simp; rw [h]; rfl
theorem padded_att : StableHlo.after hostOps1_1 U (Proc.devRef .tc main_v39) = U (Proc.devRef .tc main_v38) := by
  after_reads_simp; exact pad_branch _ _
theorem rows_att (h : U (Proc.devRef .tc main_arg3) = x3) : StableHlo.after hostOps1_2 U (Proc.devRef .tc main_v41)
    = rows x3 := by
  after_reads_simp; rw [h]; rfl

/-- What call 1 leaves, gated and added to the recurrence's branch. -/
theorem merged (h : U (Proc.devRef .tc main_v42)
      = branchProd (rows x3)
        (branchWeight x8)) (h' : U (Proc.devRef .tc main_v36) = val_main_v31 (F := Ideal) x5)
    (h'' : U (Proc.devRef .tc main_v30) = val_main_v25 (F := Ideal) x1 x2 x4 x6 x7) :
    StableHlo.after hostOps2 U (Proc.devRef .tc main_v45) = val_main_v35 (F := Ideal) x1 x2 x3 x4 x5 x6 x7 x8 := by
  after_reads_simp; rw [h, h', h'']
  exact congrArg (fun p => addf (val_main_v25 (F := Ideal) x1 x2 x4 x6 x7) (mulf (val_main_v31 (F := Ideal) x5) p)) (branch_dot x3 x8)

/-! The output projection and the first normalisation. -/

theorem weight_out (h : U (Proc.devRef .tc main_arg9) = x9) :
    StableHlo.after hostOps2 U (Proc.devRef .tc main_v47) = outWeight x9 := by
  after_reads_simp; rw [h]; rfl
theorem padded_out : StableHlo.after hostOps2_1 U (Proc.devRef .tc main_v48) = U (Proc.devRef .tc main_v47) := by
  after_reads_simp; exact pad_out _ _
theorem rows_out (h : U (Proc.devRef .tc main_v45) = x4) : StableHlo.after hostOps2_2 U (Proc.devRef .tc main_v50)
    = wideRows x4 := by
  after_reads_simp; rw [h]; rfl

/-- What call 2 leaves, with its leading axis. -/
theorem mixed (h : U (Proc.devRef .tc main_v51)
      = outProd (wideRows (val_main_v35 (F := Ideal) x1 x2 x3 x4 x5 x6 x7 x8)) (outWeight x9)) :
    shapeCast S1x8192x4096 (U (Proc.devRef .tc main_v51)) shapeCasts_S8192x4096_S1x8192x4096
    = val_main_v37 (F := Ideal) x1 x2 x3 x4 x5 x6 x7 x8 x9 :=
  (congrArg (fun p => shapeCast S1x8192x4096 p shapeCasts_S8192x4096_S1x8192x4096) h).trans
    (out_dot x1 x2 x3 x4 x5 x6 x7 x8 x9)

theorem normed (h : shapeCast S1x8192x4096 (U (Proc.devRef .tc main_v51)) shapeCasts_S8192x4096_S1x8192x4096
      = val_main_v37 (F := Ideal) x1 x2 x3 x4 x5 x6 x7 x8 x9) (h0 : U (Proc.devRef .tc main_arg0) = x0)
    (h10 : U (Proc.devRef .tc main_arg10) = x10) (h11 : U (Proc.devRef .tc main_arg11) = x11) :
    StableHlo.after hostOps3 U (Proc.devRef .tc main_v81) = val_main_v66 (F := Ideal) x0 x1 x2 x3 x4 x5 x6 x7 x8 x9 x10 x11 := by
  have e : (fun i => shapeCast main_v52.ty.shape (U (Proc.devRef .tc main_v51)) shapeCasts_S8192x4096_S1x8192x4096 i)
      = val_main_v37 (F := Ideal) x1 x2 x3 x4 x5 x6 x7 x8 x9 := h
  after_reads_simp
  rw [h0, h10, h11, e]
  rfl

/-! The experts' queries. -/

theorem flat (h : StableHlo.after hostOps3 U (Proc.devRef .tc main_v81) = x0) :
    StableHlo.after hostOps3 U (Proc.devRef .tc main_v82) = shapeCast S8192x4096 x0 shapeCasts_S1x8192x4096_S8192x4096 := by
  rw [← h]; after_reads_simp; rfl
theorem padded_rows : StableHlo.after hostOps3_1 U (Proc.devRef .tc main_v83) = U (Proc.devRef .tc main_v82) := by
  after_reads_simp; exact pad_rows _ _
theorem rows_query (h : U (Proc.devRef .tc main_v83) = shapeCast S8192x4096 x0 shapeCasts_S1x8192x4096_S8192x4096) :
    StableHlo.after hostOps3_2 U (Proc.devRef .tc main_v84) = wideRows x0 := by
  after_reads_simp; rw [h]; rfl
theorem weight_query (h : U (Proc.devRef .tc main_arg12) = x12) :
    StableHlo.after hostOps3_2 U (Proc.devRef .tc main_v86) = queryWeight x12 := by
  after_reads_simp; rw [h]; rfl
theorem padded_query : StableHlo.after hostOps3_3 U (Proc.devRef .tc main_v87) = U (Proc.devRef .tc main_v86) := by
  after_reads_simp; exact pad_query _ _

end Cert.OutStages

end
-- ==== Proof.OutResults.lean ====
/- The mixer output program's results, read at its end, are the reference's stages of the same arguments. -/
module

public import proofs.«01_k».proof.Proof.OutStages

@[expose] public section

set_option maxRecDepth 16384

noncomputable section

namespace Cert.OutResults

open Cert.Kernel4Ideal Cert.Kernel4Ideal.Gen Idealize.ShloMosaic Idealize.ShloMosaic.TcCoe Cert.OutTiles Cert.OutStages
open Cert.Reference4Ideal.Read

variable (m : (ℓ : Loc nD τ sig) → Buf (Elt Ideal) ℓ) (ρ : Dev nD → PrngReg) (c : Dev nD)

abbrev tokens : FVec Ideal S1x8192x4096 .f32 := m ((c : Thread nD τ).loc main_arg0)
abbrev scanned : FVec Ideal S1x8192x16x128 .f32 := m ((c : Thread nD τ).loc main_arg1)
abbrev z : FVec Ideal S1x8192x2048 .f32 := m ((c : Thread nD τ).loc main_arg2)
abbrev attended : FVec Ideal S1x8192x2048 .f32 := m ((c : Thread nD τ).loc main_arg3)
abbrev gateGdn : FVec Ideal S1x8192x4096 .f32 := m ((c : Thread nD τ).loc main_arg4)
abbrev gateAtt : FVec Ideal S1x8192x4096 .f32 := m ((c : Thread nD τ).loc main_arg5)
abbrev normW : FVec Ideal S1x128 .f32 := m ((c : Thread nD τ).loc main_arg6)
abbrev wGdn : FVec Ideal S1x2048x4096 .f32 := m ((c : Thread nD τ).loc main_arg7)
abbrev wAtt : FVec Ideal S1x2048x4096 .f32 := m ((c : Thread nD τ).loc main_arg8)
abbrev wOut : FVec Ideal S1x4096x4096 .f32 := m ((c : Thread nD τ).loc main_arg9)
abbrev lnG : FVec Ideal S1x4096 .f32 := m ((c : Thread nD τ).loc main_arg10)
abbrev lnB : FVec Ideal S1x4096 .f32 := m ((c : Thread nD τ).loc main_arg11)
abbrev wQuery : FVec Ideal S1x4096x2048 .f32 := m ((c : Thread nD τ).loc main_arg12)

/-- A reference other than a call's result is none of its output arrays. -/
theorem notOut {W : ℕ} {out : Fin W → Bool} {arr : Fin W → Ref sig .tc} {o r : Ref sig .tc}
    (ho : ∀ w, arr w = o ∨ out w = false) (h : r ≠ o) (w : Fin W) (e : arr w = r) : out w = false :=
  (ho w).resolve_left fun e' => h (e.symm.trans e')

/-! The recurrence's branch, up to call 0. -/

abbrev gatedHeads : FVec Ideal S1x8192x2048 .f32 := val_main_v16 (F := Ideal) (scanned m c) (z m c) (normW m c)

theorem heads_at : W1 m ρ c (Proc.devRef .tc main_v14) = val_main_v14 (F := Ideal) (scanned m c) (normW m c) :=
  heads _ _ _ rfl rfl
theorem silu_at : W2 m ρ c (Proc.devRef .tc main_v15) = val_main_v15 (F := Ideal) (z m c) :=
  silu _ _ (W1_args m ρ c main_arg2 (by decide))
theorem gated_at : W3 m ρ c (Proc.devRef .tc main_v16) = gatedHeads m c :=
  gated _ _ _ _ ((W2_of m ρ c main_v14 (by decide)).trans (heads_at m ρ c)) (silu_at m ρ c)
theorem rows_gdn_at : W5 m ρ c (Proc.devRef .tc main_v27) = rows (gatedHeads m c) :=
  rows_gdn _ _ ((W4_of m ρ c main_v16 (by decide)).trans (gated_at m ρ c))
theorem weight_gdn_at : W5 m ρ c (Proc.devRef .tc main_v25) = branchWeight (wGdn m c) :=
  (W5_of m ρ c main_v25 (by decide)).trans ((padded_gdn _).trans (weight_gdn _ _ (W2_args m ρ c main_arg7 (by decide))))
theorem call0 : W6 m ρ c (Proc.devRef .tc main_v28) = branchProd (rows (gatedHeads m c)) (branchWeight (wGdn m c)) :=
  (W6_arr m ρ c 2).trans ((final0 (V5 m ρ) c).trans (congrArg₂ branchProd (rows_gdn_at m ρ c) (weight_gdn_at m ρ c)))
theorem gate_gdn_at : W6 m ρ c (Proc.devRef .tc main_v22) = val_main_v22 (F := Ideal) (gateGdn m c) :=
  (W6_of m ρ c main_v22 (notOut (o := main_v28) (by decide) (by decide))).trans
    ((W5_of m ρ c main_v22 (by decide)).trans ((W4_of m ρ c main_v22 (by decide)).trans
      (gate_gdn _ _ (W2_args m ρ c main_arg4 (by decide)))))
theorem branch_gdn_at : W7 m ρ c (Proc.devRef .tc main_v30)
    = val_main_v25 (F := Ideal) (scanned m c) (z m c) (gateGdn m c) (normW m c) (wGdn m c) :=
  branch_gdn _ _ _ _ _ _ (call0 m ρ c) (gate_gdn_at m ρ c)

/-! The attention's branch, up to call 1, and the two branches added. -/

theorem rows_att_at : W9 m ρ c (Proc.devRef .tc main_v41) = rows (attended m c) :=
  rows_att _ _ (W8_args m ρ c main_arg3 (by decide))
theorem weight_att_at : W9 m ρ c (Proc.devRef .tc main_v39) = branchWeight (wAtt m c) :=
  (W9_of m ρ c main_v39 (by decide)).trans ((padded_att _).trans (weight_att _ _ (W6_args m ρ c main_arg8 (by decide))))
theorem call1 : W10 m ρ c (Proc.devRef .tc main_v42) = branchProd (rows (attended m c)) (branchWeight (wAtt m c)) :=
  (W10_arr m ρ c 2).trans ((final1 (V9 m ρ) c).trans (congrArg₂ branchProd (rows_att_at m ρ c) (weight_att_at m ρ c)))

/-- A buffer that call 1 and the stages between it and the recurrence's branch leave alone. -/
theorem across1 (r : Ref sig .tc) (h : r ≠ main_v42) (h2 : r ∉ hostOps1_2_W) (h1 : r ∉ hostOps1_1_W) :
    W10 m ρ c (Proc.devRef .tc r) = W7 m ρ c (Proc.devRef .tc r) :=
  (W10_of m ρ c r (notOut (o := main_v42) (by decide) h)).trans ((W9_of m ρ c r h2).trans (W8_of m ρ c r h1))

abbrev mergedRows : FVec Ideal S1x8192x4096 .f32 := val_main_v35 (F := Ideal) (scanned m c) (z m c) (attended m c) (gateGdn m c)
  (gateAtt m c) (normW m c) (wGdn m c) (wAtt m c)

theorem merged_at : W11 m ρ c (Proc.devRef .tc main_v45) = mergedRows m c :=
  merged _ _ _ _ _ _ _ _ _ (call1 m ρ c)
    ((across1 m ρ c main_v36 (by decide) (by decide) (by decide)).trans (gate_att _ _ (W6_args m ρ c main_arg5 (by decide))))
    ((across1 m ρ c main_v30 (by decide) (by decide) (by decide)).trans (branch_gdn_at m ρ c))

/-! The output projection, call 2, and the normalisation. -/

theorem rows_out_at : W13 m ρ c (Proc.devRef .tc main_v50) = wideRows (mergedRows m c) :=
  rows_out _ _ ((W12_of m ρ c main_v45 (by decide)).trans (merged_at m ρ c))
theorem weight_out_at : W13 m ρ c (Proc.devRef .tc main_v48) = outWeight (wOut m c) :=
  (W13_of m ρ c main_v48 (by decide)).trans ((padded_out _).trans (weight_out _ _ (W10_args m ρ c main_arg9 (by decide))))
theorem call2 : W14 m ρ c (Proc.devRef .tc main_v51) = outProd (wideRows (mergedRows m c)) (outWeight (wOut m c)) :=
  (W14_arr m ρ c 2).trans ((final2 (V13 m ρ) c).trans (congrArg₂ outProd (rows_out_at m ρ c) (weight_out_at m ρ c)))

abbrev hidden : FVec Ideal S1x8192x4096 .f32 := val_main_v66 (F := Ideal) (tokens m c) (scanned m c) (z m c) (attended m c)
  (gateGdn m c) (gateAtt m c) (normW m c) (wGdn m c) (wAtt m c) (wOut m c) (lnG m c) (lnB m c)

theorem hidden_at : W15 m ρ c (Proc.devRef .tc main_v81) = hidden m c :=
  normed _ _ _ _ _ _ _ _ _ _ _ _ _ (mixed _ _ _ _ _ _ _ _ _ _ (call2 m ρ c)) (W14_args m ρ c main_arg0 (by decide))
    (W14_args m ρ c main_arg10 (by decide)) (W14_args m ρ c main_arg11 (by decide))

/-- The first result: the normalised rows. -/
theorem h : W19 m ρ c (Proc.devRef .tc main_v81) = hidden m c :=
  (W19_of m ρ c main_v81 (notOut (o := main_v88) (by decide) (by decide))).trans
    ((W18_of m ρ c main_v81 (by decide)).trans ((W17_of m ρ c main_v81 (by decide)).trans
      ((W16_of m ρ c main_v81 (by decide)).trans (hidden_at m ρ c))))

/-! The experts' queries, call 3. -/

theorem rows_query_at : W18 m ρ c (Proc.devRef .tc main_v84) = wideRows (hidden m c) :=
  (W18_of m ρ c main_v84 (by decide)).trans (rows_query _ _ ((padded_rows _).trans (flat _ _ (hidden_at m ρ c))))
theorem weight_query_at : W18 m ρ c (Proc.devRef .tc main_v87) = queryWeight (wQuery m c) :=
  (padded_query _).trans (weight_query _ _ (W16_args m ρ c main_arg12 (by decide)))

/-- The second result: the product of the normalised rows with the queries' weight. -/
theorem queries : W19 m ρ c (Proc.devRef .tc main_v88) = val_main_v69 (F := Ideal) (tokens m c) (scanned m c) (z m c)
    (attended m c) (gateGdn m c) (gateAtt m c) (normW m c) (wGdn m c) (wAtt m c) (wOut m c) (lnG m c) (lnB m c) (wQuery m c) :=
  (W19_arr m ρ c 2).trans ((final3 (V18 m ρ) c).trans
    ((congrArg₂ queryProd (rows_query_at m ρ c) (weight_query_at m ρ c)).trans (query_dot _ _ _ _ _ _ _ _ _ _ _ _ _)))

end Cert.OutResults

end
-- ==== Proof.OutRun.lean ====
/- The mixer output program's run: every buffer the run leaves holds what the last boundary of the program says, `W19`. The launch is the frame's. -/
module

public import proofs.«01_k».proof.Proof.Gen.Kernel4Ideal.Frame

@[expose] public section

set_option maxRecDepth 16384

noncomputable section

namespace Cert.OutRun

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run (defs (F := F)) (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h hz => h)

end Cert.OutRun

end
-- ==== Proof.OutClaim.lean ====
/- The value claim of the mixer output program: both results of its run are the stages of the reference they stand for, of
   the same arguments; the reference's run leaves those stages of its own arguments, and the arguments agree. -/
module

public import proofs.«01_k».proof.Proof.OutResults
public import proofs.«01_k».proof.Proof.OutRun
public import proofs.«01_k».proof.Proof.Gen.Reference4Ideal.Run
public import proofs.«01_k».proof.Proof.Gen.Reference4Ideal.Read
public import proofs.«01_k».proof.Defs
public import Idealize.ShloMosaic.Lib.Quiescent

@[expose] public section

set_option maxRecDepth 16384

noncomputable section

namespace Cert.OutClaim

open Idealize.ShloMosaic Idealize.ShloMosaic.TcCoe Idealize.SL.Sem
open Idealize.ShloMosaic.StableHlo
open Cert.Reference4Ideal.Read
open Cert.OutResults (tokens scanned z attended gateGdn gateAtt normW wGdn wAtt wOut lnG lnB wQuery)

section ReferenceRun
open Cert.Reference4Ideal

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v66) = val_main_v66 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_v69) = val_main_v69 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run _ _ _).mono (fun _ h c => by
    obtain ⟨h0, h1, h⟩ := h c
    exact ⟨h0.trans (val_main_v66_eq _ c),
      h1.trans (val_main_v69_eq _ c), h⟩) (Cert.Reference4Ideal.Value.run m ρ)

end ReferenceRun

theorem reference_frame [hR : Cert.Reference4Ideal.Facts] : Cert.quiescent_Reference4Ideal := fun m g _ =>
  (θ_run _ _ _).mono (fun r h => ⟨fun c => (h c).2.2, Idealize.ShloMosaic.sem_eq_zero_of_no_sems (by decide) r.2⟩)
    (Cert.Reference4Ideal.Value.run m g)

section KernelRun
open Cert.Kernel4Ideal Cert.Kernel4Ideal.Gen

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v81) = val_main_v66 (tokens m c) (scanned m c) (z m c) (attended m c) (gateGdn m c) (gateAtt m c) (normW m c) (wGdn m c) (wAtt m c) (wOut m c) (lnG m c) (lnB m c)
      ∧ r.2.mem ((c.tc : Thread nD τ).loc main_v88) = val_main_v69 (tokens m c) (scanned m c) (z m c) (attended m c) (gateGdn m c) (gateAtt m c) (normW m c) (wGdn m c) (wAtt m c) (wOut m c) (lnG m c) (lnB m c) (wQuery m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run _ _ _).mono (fun _ h c => ⟨(h c _ (mem_uc main_v81 (by decide))).trans (OutResults.h m ρ c),
      (h c _ (mem_uc main_v88 (by decide))).trans (OutResults.queries m ρ c),
      (h c _ (mem_uc main_arg0 (by decide))).trans (W19_main_arg0 m ρ c),
      (h c _ (mem_uc main_arg1 (by decide))).trans (W19_main_arg1 m ρ c),
      (h c _ (mem_uc main_arg2 (by decide))).trans (W19_main_arg2 m ρ c),
      (h c _ (mem_uc main_arg3 (by decide))).trans (W19_main_arg3 m ρ c),
      (h c _ (mem_uc main_arg4 (by decide))).trans (W19_main_arg4 m ρ c),
      (h c _ (mem_uc main_arg5 (by decide))).trans (W19_main_arg5 m ρ c),
      (h c _ (mem_uc main_arg6 (by decide))).trans (W19_main_arg6 m ρ c),
      (h c _ (mem_uc main_arg7 (by decide))).trans (W19_main_arg7 m ρ c),
      (h c _ (mem_uc main_arg8 (by decide))).trans (W19_main_arg8 m ρ c),
      (h c _ (mem_uc main_arg9 (by decide))).trans (W19_main_arg9 m ρ c),
      (h c _ (mem_uc main_arg10 (by decide))).trans (W19_main_arg10 m ρ c),
      (h c _ (mem_uc main_arg11 (by decide))).trans (W19_main_arg11 m ρ c),
      (h c _ (mem_uc main_arg12 (by decide))).trans (W19_main_arg12 m ρ c)⟩) (OutRun.run m ρ)

end KernelRun

theorem algebraic [hK : Cert.Kernel4Ideal.Facts] [hR : Cert.Reference4Ideal.Facts] : Cert.algebraic_Kernel4Ideal_Reference4Ideal := by
  intro m g m' g' _ hagree
  refine ⟨fun c => val_main_v66 (tokens m c) (scanned m c) (z m c) (attended m c) (gateGdn m c) (gateAtt m c) (normW m c) (wGdn m c) (wAtt m c) (wOut m c) (lnG m c) (lnB m c), fun c => val_main_v69 (tokens m c) (scanned m c) (z m c) (attended m c) (gateGdn m c) (gateAtt m c) (normW m c) (wGdn m c) (wAtt m c) (wOut m c) (lnG m c) (lnB m c) (wQuery m c),
    kernel_run m g, (θ_run _ _ _).mono (fun r h c => ?_) (reference_run m' g')⟩
  obtain ⟨a0, a1, a2, a3, a4, a5, a6, a7, a8, a9, a10, a11, a12⟩ := hagree c
  obtain ⟨h0, h1, h⟩ := h c
  exact ⟨h0.trans (by rw [a0, a1, a2, a3, a4, a5, a6, a7, a8, a9, a10, a11]),
    h1.trans (by rw [a0, a1, a2, a3, a4, a5, a6, a7, a8, a9, a10, a11, a12]), h⟩

end Cert.OutClaim

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.ScanClaim
public import proofs.«01_k».proof.Proof.ProjClaim
public import proofs.«01_k».proof.Proof.SampleClaim
public import proofs.«01_k».proof.Proof.OutClaim

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  fun m g _ => Cert.Kernel.Gen.frame m g, fun m g _ => Cert.KernelIdeal.Gen.frame m g, ScanClaim.reference_frame,
  fun m g _ => Cert.Kernel2.Gen.frame m g, fun m g _ => Cert.Kernel2Ideal.Gen.frame m g, ProjClaim.reference_frame,
  fun m g _ => Cert.Kernel3.Gen.frame m g, fun m g _ => Cert.Kernel3Ideal.Gen.frame m g, SampleClaim.reference_frame,
  fun m g _ => Cert.Kernel4.Gen.frame m g, fun m g _ => Cert.Kernel4Ideal.Gen.frame m g, OutClaim.reference_frame,
  trivial, ScanClaim.algebraic, trivial, ProjClaim.algebraic, trivial, SampleClaim.algebraic, trivial, OutClaim.algebraic⟩

end Cert.Proof

end
